-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts : Cert.Pre_experts.Facts] (m : (ℓ : Loc Cert.Kernel4.nD Cert.Kernel4.τ Cert.Kernel4.sig) → Buf (Elt Bits) ℓ) : Prop :=
  ∀ c : Dev Cert.Kernel4.nD,
    (Cert.Pre_experts.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_experts : Cert.Pre_experts.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts [hPre_experts : Cert.Pre_experts.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] [hPre_experts : Cert.Pre_experts.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_experts : Cert.Pre_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_experts [hReference4Ideal : Cert.Reference4Ideal.Facts] [hPre_experts : Cert.Pre_experts.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)) (v2 : (c : Dev Cert.Kernel2Ideal.nD) → Buf (Elt Ideal) ((c.tc : Thread Cert.Kernel2Ideal.nD Cert.Kernel2Ideal.τ).loc Cert.Kernel2Ideal.main_v45_2)) (v3 : (c : Dev Cert.Kernel2Ideal.nD) → Buf (Elt Ideal) ((c.tc : Thread Cert.Kernel2Ideal.nD Cert.Kernel2Ideal.τ).loc Cert.Kernel2Ideal.main_v45_3)) (v4 : (c : Dev Cert.Kernel2Ideal.nD) → Buf (Elt Ideal) ((c.tc : Thread Cert.Kernel2Ideal.nD Cert.Kernel2Ideal.τ).loc Cert.Kernel2Ideal.main_v45_4)) (v5 : (c : Dev Cert.Kernel2Ideal.nD) → Buf (Elt Ideal) ((c.tc : Thread Cert.Kernel2Ideal.nD Cert.Kernel2Ideal.τ).loc Cert.Kernel2Ideal.main_v45_5)) (v6 : (c : Dev Cert.Kernel2Ideal.nD) → Buf (Elt Ideal) ((c.tc : Thread Cert.Kernel2Ideal.nD Cert.Kernel2Ideal.τ).loc Cert.Kernel2Ideal.main_v45_6)) (v7 : (c : Dev Cert.Kernel2Ideal.nD) → Buf (Elt Ideal) ((c.tc : Thread Cert.Kernel2Ideal.nD Cert.Kernel2Ideal.τ).loc Cert.Kernel2Ideal.main_v45_7)) (v8 : (c : Dev Cert.Kernel2Ideal.nD) → Buf (Elt Ideal) ((c.tc : Thread Cert.Kernel2Ideal.nD Cert.Kernel2Ideal.τ).loc Cert.Kernel2Ideal.main_v45_8)) (v9 : (c : Dev Cert.Kernel2Ideal.nD) → Buf (Elt Ideal) ((c.tc : Thread Cert.Kernel2Ideal.nD Cert.Kernel2Ideal.τ).loc Cert.Kernel2Ideal.main_v45_9)) (v10 : (c : Dev Cert.Kernel2Ideal.nD) → Buf (Elt Ideal) ((c.tc : Thread Cert.Kernel2Ideal.nD Cert.Kernel2Ideal.τ).loc Cert.Kernel2Ideal.main_v45_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_v45_2) = v2 c
          ∧ r.2.mem ((c.tc : Thread Cert.Kernel2Ideal.nD Cert.Kernel2Ideal.τ).loc Cert.Kernel2Ideal.main_v45_3) = v3 c
          ∧ r.2.mem ((c.tc : Thread Cert.Kernel2Ideal.nD Cert.Kernel2Ideal.τ).loc Cert.Kernel2Ideal.main_v45_4) = v4 c
          ∧ r.2.mem ((c.tc : Thread Cert.Kernel2Ideal.nD Cert.Kernel2Ideal.τ).loc Cert.Kernel2Ideal.main_v45_5) = v5 c
          ∧ r.2.mem ((c.tc : Thread Cert.Kernel2Ideal.nD Cert.Kernel2Ideal.τ).loc Cert.Kernel2Ideal.main_v45_6) = v6 c
          ∧ r.2.mem ((c.tc : Thread Cert.Kernel2Ideal.nD Cert.Kernel2Ideal.τ).loc Cert.Kernel2Ideal.main_v45_7) = v7 c
          ∧ r.2.mem ((c.tc : Thread Cert.Kernel2Ideal.nD Cert.Kernel2Ideal.τ).loc Cert.Kernel2Ideal.main_v45_8) = v8 c
          ∧ r.2.mem ((c.tc : Thread Cert.Kernel2Ideal.nD Cert.Kernel2Ideal.τ).loc Cert.Kernel2Ideal.main_v45_9) = v9 c
          ∧ r.2.mem ((c.tc : Thread Cert.Kernel2Ideal.nD Cert.Kernel2Ideal.τ).loc Cert.Kernel2Ideal.main_v45_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v106) = v2 c
          ∧ r.2.mem ((c.tc : Thread Cert.Reference2Ideal.nD Cert.Reference2Ideal.τ).loc Cert.Reference2Ideal.main_v125) = v3 c
          ∧ r.2.mem ((c.tc : Thread Cert.Reference2Ideal.nD Cert.Reference2Ideal.τ).loc Cert.Reference2Ideal.main_v126) = v4 c
          ∧ r.2.mem ((c.tc : Thread Cert.Reference2Ideal.nD Cert.Reference2Ideal.τ).loc Cert.Reference2Ideal.main_v132) = v5 c
          ∧ r.2.mem ((c.tc : Thread Cert.Reference2Ideal.nD Cert.Reference2Ideal.τ).loc Cert.Reference2Ideal.main_v138) = v6 c
          ∧ r.2.mem ((c.tc : Thread Cert.Reference2Ideal.nD Cert.Reference2Ideal.τ).loc Cert.Reference2Ideal.main_v140) = v7 c
          ∧ r.2.mem ((c.tc : Thread Cert.Reference2Ideal.nD Cert.Reference2Ideal.τ).loc Cert.Reference2Ideal.main_v141) = v8 c
          ∧ r.2.mem ((c.tc : Thread Cert.Reference2Ideal.nD Cert.Reference2Ideal.τ).loc Cert.Reference2Ideal.main_v142) = v9 c
          ∧ r.2.mem ((c.tc : Thread Cert.Reference2Ideal.nD Cert.Reference2Ideal.τ).loc Cert.Reference2Ideal.main_v143) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] [hPre_experts : Cert.Pre_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts := hPre_experts)
    ∧ quiescent_Kernel4Ideal (hKernel4Ideal := hKernel4Ideal) (hPre_experts := hPre_experts)
    ∧ quiescent_Reference4Ideal (hReference4Ideal := hReference4Ideal)
    ∧ quiescent_Reference4Ideal_pre_experts (hReference4Ideal := hReference4Ideal) (hPre_experts := hPre_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts := hPre_experts)
-- ==== Pre_experts.lean ====
abbrev S288 : Shape := ⟨1, ![288]⟩
abbrev S9216x8x8x128 : Shape := ⟨4, ![9216, 8, 8, 128]⟩
abbrev S32x1024x256 : Shape := ⟨3, ![32, 1024, 256]⟩
abbrev S32x256x1024 : Shape := ⟨3, ![32, 256, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : FVec F S9216x8x8x128 .f32) (main_arg2 : FVec F S32x1024x256 .f32) (main_arg3 : FVec F S32x1024x256 .f32) (main_arg4 : FVec F S32x256x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_finite.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn_part1 {F : FTy → Type} [FloatOps F] (main_arg4 : FVec F S32768x512 .f32) (main_arg5 : FVec F S32768x512 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S32768x512 .f32 := Host.absf main_arg4
  let main_cst_6 : FVec F S_ .f32 := constant S_ .f32 0x7F800000#32
  let main_v20 : FVec F S32768x512 .f32 := broadcastInDim S32768x512 ![] bcast_S_S32768x512 main_cst_6
  let main_v21 : IVec S32768x512 1 := cmpf .olt main_v19 main_v20
  let main_c_7 : IVec S_ 1 := constantI S_ 1 1#1
  let main_v22 : IVec S_ 1 := (fun x v => Host.reduce IntOp.andi x v reducesTo_S32768x512_S_d0_1 h_S_) main_v21 main_c_7
  let main_v23 : IVec S_ 1 := andi main_v18 main_v22
  let main_v24 : FVec F S32768x512 .f32 := Host.absf main_arg5
  let main_cst_8 : FVec F S_ .f32 := constant S_ .f32 0x7F800000#32
  let main_v25 : FVec F S32768x512 .f32 := broadcastInDim S32768x512 ![] bcast_S_S32768x512 main_cst_8
  let main_v26 : IVec S32768x512 1 := cmpf .olt main_v24 main_v25
  let main_c_9 : IVec S_ 1 := constantI S_ 1 1#1
  let main_v27 : IVec S_ 1 := (fun x v => Host.reduce IntOp.andi x v reducesTo_S32768x512_S_d0_1 h_S_) main_v26 main_c_9
  let main_v28 : IVec S_ 1 := andi main_v23 main_v27
  main_v28

def fn {F : FTy → Type} [FloatOps F] (main_arg0 : FVec F S32768x512 .f32) (main_arg1 : FVec F S32768x512 .f32) (main_arg2 : FVec F S32768x512 .f32) (main_arg3 : FVec F S32768x512 .f32) (main_arg4 : FVec F S32768x512 .f32) (main_arg5 : FVec F S32768x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_v13 main_v16
-- ==== Kernel.lean ====
abbrev S32768x512 : Shape := ⟨2, ![32768, 512]⟩
abbrev S4x8192x512 : Shape := ⟨3, ![4, 8192, 512]⟩
abbrev S4x128x8x128x128 : Shape := ⟨5, ![4, 128, 8, 128, 128]⟩
abbrev S1x256x512 : Shape := ⟨3, ![1, 256, 512]⟩
abbrev S1x4x8x128x128 : Shape := ⟨5, ![1, 4, 8, 128, 128]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S128x64 : Shape := ⟨2, ![128, 64]⟩
abbrev S128x128 : Shape := ⟨2, ![128, 128]⟩
abbrev S64x128 : Shape := ⟨2, ![64, 128]⟩
abbrev S1x64 : Shape := ⟨2, ![1, 64]⟩
abbrev S1x1x1x64x128 : Shape := ⟨5, ![1, 1, 1, 64, 128]⟩

abbrev nBuf : Space → Nat
  | .hbm => 13
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S4x8192x512, .f32⟩
  | .hbm, ⟨7, _⟩ => ⟨S4x8192x512, .f32⟩
  | .hbm, ⟨8, _⟩ => ⟨S4x8192x512, .f32⟩
  | .hbm, ⟨9, _⟩ => ⟨S4x8192x512, .f32⟩
  | .hbm, ⟨10, _⟩ => ⟨S4x8192x512, .f32⟩
  | .hbm, ⟨11, _⟩ => ⟨S4x8192x512, .f32⟩
  | .hbm, ⟨12, _⟩ => ⟨S4x128x8x128x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x4x8x128x128, .f32⟩
  | .local _ .vmem, ⟨13, _⟩ => ⟨S1x4x8x128x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x512 : Shape := ⟨2, ![32768, 512]⟩
abbrev S512x64x8x64 : Shape := ⟨4, ![512, 64, 8, 64]⟩
abbrev S64x512x8x64 : Shape := ⟨4, ![64, 512, 8, 64]⟩
abbrev S_ : Shape := ⟨0, ![]⟩
abbrev S64x512x8x128 : Shape := ⟨4, ![64, 512, 8, 128]⟩
abbrev S64x64 : Shape := ⟨2, ![64, 64]⟩
abbrev S128x64 : Shape := ⟨2, ![128, 64]⟩
abbrev S512x8x128x64 : Shape := ⟨4, ![512, 8, 128, 64]⟩
abbrev S1x512x8x64 : Shape := ⟨4, ![1, 512, 8, 64]⟩
abbrev S512x8x64 : Shape := ⟨3, ![512, 8, 64]⟩
abbrev S1x512x8x128 : Shape := ⟨4, ![1, 512, 8, 128]⟩
abbrev S512x8x128 : Shape := ⟨3, ![512, 8, 128]⟩
abbrev S512x8x1x64 : Shape := ⟨4, ![512, 8, 1, 64]⟩
abbrev S512x8x128x1 : Shape := ⟨4, ![512, 8, 128, 1]⟩
abbrev S512x8x64x128 : Shape := ⟨4, ![512, 8, 64, 128]⟩
abbrev S512x8x128x128 : Shape := ⟨4, ![512, 8, 128, 128]⟩
abbrev S4x128x8x128x128 : Shape := ⟨5, ![4, 128, 8, 128, 128]⟩

abbrev nBuf : Space → Nat
  | .hbm => 106
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S512x64x8x64, .f32⟩
  | .hbm, ⟨7, _⟩ => ⟨S64x512x8x64, .f32⟩
  | .hbm, ⟨8, _⟩ => ⟨S32768x512, .f32⟩
  | .hbm, ⟨9, _⟩ => ⟨S512x64x8x64, .f32⟩
  | .hbm, ⟨10, _⟩ => ⟨S64x512x8x64, .f32⟩
  | .hbm, ⟨11, _⟩ => ⟨S512x64x8x64, .f32⟩
  | .hbm, ⟨12, _⟩ => ⟨S64x512x8x64, .f32⟩
  | .hbm, ⟨13, _⟩ => ⟨S512x64x8x64, .f32⟩
  | .hbm, ⟨14, _⟩ => ⟨S64x512x8x64, .f32⟩
  | .hbm, ⟨15, _⟩ => ⟨S512x64x8x64, .f32⟩
  | .hbm, ⟨16, _⟩ => ⟨S64x512x8x64, .f32⟩
  | .hbm, ⟨17, _⟩ => ⟨S512x64x8x64, .f32⟩
  | .hbm, ⟨18, _⟩ => ⟨S64x512x8x64, .f32⟩
  | .hbm, ⟨19, _⟩ => ⟨S_, .f32⟩
  | .hbm, ⟨20, _⟩ => ⟨S64x512x8x64, .f32⟩
  | .hbm, ⟨21, _⟩ => ⟨S64x512x8x128, .f32⟩
  | .hbm, ⟨22, _⟩ => ⟨S64x64, .i32⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S128x64, .f32⟩
  | .hbm, ⟨32, _⟩ => ⟨S512x8x128x64, .f32⟩
  | .hbm, ⟨33, _⟩ => ⟨S_, .f32⟩
  | .hbm, ⟨34, _⟩ => ⟨S64x512x8x128, .f32⟩
  | .hbm, ⟨35, _⟩ => ⟨S_, .i32⟩
  | .hbm, ⟨36, _⟩ => ⟨S64x512x8x64, .f32⟩
  | .hbm, ⟨37, _⟩ => ⟨S64x512x8x64, .f32⟩
  | .hbm, ⟨38, _⟩ => ⟨S64x512x8x64, .f32⟩
  | .hbm, ⟨39, _⟩ => ⟨S64x512x8x128, .f32⟩
  | .hbm, ⟨40, _⟩ => ⟨S64x512x8x64, .f32⟩
  | .hbm, ⟨41, _⟩ => ⟨S64x512x8x64, .f32⟩
  | .hbm, ⟨42, _⟩ => ⟨S_, .i32⟩
  | .hbm, ⟨43, _⟩ => ⟨S512x8x128x64, .f32⟩
  | .hbm, ⟨44, _⟩ => ⟨S64x512x8x128, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x512x8x64, .f32⟩
  | .hbm, ⟨51, _⟩ => ⟨S512x8x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x512x8x64, .f32⟩
  | .hbm, ⟨56, _⟩ => ⟨S512x8x64, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x512x8x64, .f32⟩
  | .hbm, ⟨61, _⟩ => ⟨S512x8x64, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x512x8x128, .f32⟩
  | .hbm, ⟨66, _⟩ => ⟨S512x8x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x512x8x64, .f32⟩
  | .hbm, ⟨71, _⟩ => ⟨S512x8x64, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x512x8x64, .f32⟩
  | .hbm, ⟨76, _⟩ => ⟨S512x8x64, .f32⟩
  | .hbm, ⟨77, _⟩ => ⟨S512x8x64, .f32⟩
  | .hbm, ⟨78, _⟩ => ⟨S512x8x128, .f32⟩
  | .hbm, ⟨79, _⟩ => ⟨S512x8x1x64, .f32⟩
  | .hbm, ⟨80, _⟩ => ⟨S512x8x128x64, .f32⟩
  | .hbm, ⟨81, _⟩ => ⟨S512x8x128x64, .f32⟩
  | .hbm, ⟨82, _⟩ => ⟨S512x8x128x1, .f32⟩
  | .hbm, ⟨83, _⟩ => ⟨S512x8x1x64, .f32⟩
  | .hbm, ⟨84, _⟩ => ⟨S512x8x128x64, .f32⟩
  | .hbm, ⟨85, _⟩ => ⟨S512x8x128x64, .f32⟩
  | .hbm, ⟨86, _⟩ => ⟨S512x8x128x64, .f32⟩
  | .hbm, ⟨87, _⟩ => ⟨S512x8x128x64, .f32⟩
  | .hbm, ⟨88, _⟩ => ⟨S512x8x128x1, .f32⟩
  | .hbm, ⟨89, _⟩ => ⟨S512x8x1x64, .f32⟩
  | .hbm, ⟨90, _⟩ => ⟨S512x8x128x64, .f32⟩
  | .hbm, ⟨91, _⟩ => ⟨S512x8x128x64, .f32⟩
  | .hbm, ⟨92, _⟩ => ⟨S512x8x128x64, .f32⟩
  | .hbm, ⟨93, _⟩ => ⟨S512x8x128x64, .f32⟩
  | .hbm, ⟨94, _⟩ => ⟨S512x8x128, .f32⟩
  | .hbm, ⟨95, _⟩ => ⟨S1x512x8x128, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S64x512x8x128, .f32⟩
  | .hbm, ⟨100, _⟩ => ⟨S_, .i32⟩
  | .hbm, ⟨101, _⟩ => ⟨S_, .i32⟩
  | .hbm, ⟨102, _⟩ => ⟨S512x8x64x128, .f32⟩
  | .hbm, ⟨103, _⟩ => ⟨S512x8x64x128, .f32⟩
  | .hbm, ⟨104, _⟩ => ⟨S512x8x128x128, .f32⟩
  | .hbm, ⟨105, _⟩ => ⟨S4x128x8x128x128, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_c_2 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev main_v25_8 : Ref sig .tc := ⟨.hbm, 44, rfl⟩
abbrev main_while0c_c_11 : Ref sig .tc := ⟨.hbm, 45, rfl⟩
abbrev main_while0c_v30 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_v0 : Ref sig .tc := ⟨.hbm, 50, rfl⟩
abbrev main_while0b_v30 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_v0 : Ref sig .tc := ⟨.hbm, 55, rfl⟩
abbrev main_while0b_v31 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_call2_c_1 : Ref sig .tc := ⟨.hbm, 59, rfl⟩
abbrev main_while0b_call2_v0 : Ref sig .tc := ⟨.hbm, 60, rfl⟩
abbrev main_while0b_v32 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_v0 : Ref sig .tc := ⟨.hbm, 65, rfl⟩
abbrev main_while0b_v33 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_v0 : Ref sig .tc := ⟨.hbm, 70, rfl⟩
abbrev main_while0b_v34 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_c_1 : Ref sig .tc := ⟨.hbm, 74, rfl⟩
abbrev main_while0b_call5_v0 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_v50 : Ref sig .tc := ⟨.hbm, 91, rfl⟩
abbrev main_while0b_v51 : Ref sig .tc := ⟨.hbm, 92, rfl⟩
abbrev main_while0b_v52 : Ref sig .tc := ⟨.hbm, 93, rfl⟩
abbrev main_while0b_v53 : Ref sig .tc := ⟨.hbm, 94, rfl⟩
abbrev main_while0b_call6_v0 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_v54 : Ref sig .tc := ⟨.hbm, 99, rfl⟩
abbrev main_while0b_c_11 : Ref sig .tc := ⟨.hbm, 100, rfl⟩
abbrev main_while0b_v55 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x8192x1024 : Shape := ⟨3, ![4, 8192, 1024]⟩
abbrev S4x8192 : Shape := ⟨2, ![4, 8192]⟩
abbrev S1024 : Shape := ⟨1, ![1024]⟩
abbrev S1024x5144 : Shape := ⟨2, ![1024, 5144]⟩
abbrev S32768x1024 : Shape := ⟨2, ![32768, 1024]⟩
abbrev S32 : Shape := ⟨1, ![32]⟩
abbrev S_ : Shape := ⟨0, ![]⟩
abbrev S32768x1 : Shape := ⟨2, ![32768, 1]⟩
abbrev S1x32 : Shape := ⟨2, ![1, 32]⟩
abbrev S32768x32 : Shape := ⟨2, ![32768, 32]⟩
abbrev S1x32768x1x32 : Shape := ⟨4, ![1, 32768, 1, 32]⟩
abbrev S1x32768x4x32 : Shape := ⟨4, ![1, 32768, 4, 32]⟩
abbrev S32768x128 : Shape := ⟨2, ![32768, 128]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S1024x512 : Shape := ⟨2, ![1024, 512]⟩
abbrev S1024x128 : Shape := ⟨2, ![1024, 128]⟩
abbrev S1024x24 : Shape := ⟨2, ![1024, 24]⟩
abbrev S1024x1792 : Shape := ⟨2, ![1024, 1792]⟩
abbrev S1024x1024 : Shape := ⟨2, ![1024, 1024]⟩
abbrev S1024x896 : Shape := ⟨2, ![1024, 896]⟩
abbrev S1024x384 : Shape := ⟨2, ![1024, 384]⟩
abbrev S1024x2048 : Shape := ⟨2, ![1024, 2048]⟩
abbrev S1x1024 : Shape := ⟨2, ![1, 1024]⟩
abbrev S32768x256 : Shape := ⟨2, ![32768, 256]⟩
abbrev S32768x1792 : Shape := ⟨2, ![32768, 1792]⟩
abbrev S512x1024 : Shape := ⟨2, ![512, 1024]⟩
abbrev S512x128 : Shape := ⟨2, ![512, 128]⟩
abbrev S512x256 : Shape := ⟨2, ![512, 256]⟩
abbrev S512x1792 : Shape := ⟨2, ![512, 1792]⟩
abbrev S512 : Shape := ⟨1, ![512]⟩
abbrev S512x1 : Shape := ⟨2, ![512, 1]⟩
abbrev S512x896 : Shape := ⟨2, ![512, 896]⟩
abbrev S1x128 : Shape := ⟨2, ![1, 128]⟩
abbrev S512x512 : Shape := ⟨2, ![512, 512]⟩
abbrev S1x256 : Shape := ⟨2, ![1, 256]⟩
abbrev S512x384 : Shape := ⟨2, ![512, 384]⟩
abbrev S512x2048 : Shape := ⟨2, ![512, 2048]⟩

abbrev nBuf : Space → Nat
  | .hbm => 64
  | .vmem => 34
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1024, .f32⟩
  | .hbm, ⟨3, _⟩ => ⟨S1024x5144, .f32⟩
  | .hbm, ⟨4, _⟩ => ⟨S32768x1024, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4x8192, .f32⟩
  | .hbm, ⟨14, _⟩ => ⟨S32768x1, .f32⟩
  | .hbm, ⟨15, _⟩ => ⟨S1x32, .f32⟩
  | .hbm, ⟨16, _⟩ => ⟨S32768x32, .f32⟩
  | .hbm, ⟨17, _⟩ => ⟨S32768x32, .f32⟩
  | .hbm, ⟨18, _⟩ => ⟨S32768x32, .f32⟩
  | .hbm, ⟨19, _⟩ => ⟨S32768x32, .f32⟩
  | .hbm, ⟨20, _⟩ => ⟨S1x32768x1x32, .f32⟩
  | .hbm, ⟨21, _⟩ => ⟨S1x32768x4x32, .f32⟩
  | .hbm, ⟨22, _⟩ => ⟨S32768x128, .f32⟩
  | .hbm, ⟨23, _⟩ => ⟨S32768x32, .f32⟩
  | .hbm, ⟨24, _⟩ => ⟨S32768x32, .f32⟩
  | .hbm, ⟨25, _⟩ => ⟨S32768x32, .f32⟩
  | .hbm, ⟨26, _⟩ => ⟨S32768x64, .f32⟩
  | .hbm, ⟨27, _⟩ => ⟨S1x32768x1x64, .f32⟩
  | .hbm, ⟨28, _⟩ => ⟨S1x32768x2x64, .f32⟩
  | .hbm, ⟨29, _⟩ => ⟨S32768x128, .f32⟩
  | .hbm, ⟨30, _⟩ => ⟨S1024x512, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S1024x24, .f32⟩
  | .hbm, ⟨38, _⟩ => ⟨S1024x1792, .f32⟩
  | .hbm, ⟨39, _⟩ => ⟨S1024x1024, .f32⟩
  | .hbm, ⟨40, _⟩ => ⟨S1024x1024, .f32⟩
  | .hbm, ⟨41, _⟩ => ⟨S1024x896, .f32⟩
  | .hbm, ⟨42, _⟩ => ⟨S1024x384, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x2048, .f32⟩
  | .hbm, ⟨47, _⟩ => ⟨S1024x896, .bf16⟩
  | .hbm, ⟨48, _⟩ => ⟨S1024x384, .bf16⟩
  | .hbm, ⟨49, _⟩ => ⟨S1024x128, .bf16⟩
  | .hbm, ⟨50, _⟩ => ⟨S1024x1792, .bf16⟩
  | .hbm, ⟨51, _⟩ => ⟨S1024x2048, .bf16⟩
  | .hbm, ⟨52, _⟩ => ⟨S1x1024, .f32⟩
  | .hbm, ⟨53, _⟩ => ⟨S32768x1024, .bf16⟩
  | .hbm, ⟨54, _⟩ => ⟨S32768x128, .f32⟩
  | .hbm, ⟨55, _⟩ => ⟨S32768x256, .bf16⟩
  | .hbm, ⟨56, _⟩ => ⟨S32768x256, .bf16⟩
  | .hbm, ⟨57, _⟩ => ⟨S32768x128, .f32⟩
  | .hbm, ⟨58, _⟩ => ⟨S32768x256, .bf16⟩
  | .hbm, ⟨59, _⟩ => ⟨S32768x256, .bf16⟩
  | .hbm, ⟨60, _⟩ => ⟨S32768x128, .f32⟩
  | .hbm, ⟨61, _⟩ => ⟨S32768x1792, .f32⟩
  | .hbm, ⟨62, _⟩ => ⟨S32768x1024, .f32⟩
  | .hbm, ⟨63, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x896, .bf16⟩
  | .local _ .vmem, ⟨8, _⟩ => ⟨S1024x384, .bf16⟩
  | .local _ .vmem, ⟨9, _⟩ => ⟨S1024x128, .bf16⟩
  | .local _ .vmem, ⟨10, _⟩ => ⟨S1024x1792, .bf16⟩
  | .local _ .vmem, ⟨11, _⟩ => ⟨S1024x2048, .bf16⟩
  | .local _ .vmem, ⟨12, _⟩ => ⟨S512x1024, .bf16⟩
  | .local _ .vmem, ⟨13, _⟩ => ⟨S512x1024, .bf16⟩
  | .local _ .vmem, ⟨14, _⟩ => ⟨S512x128, .f32⟩
  | .local _ .vmem, ⟨15, _⟩ => ⟨S512x128, .f32⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x128, .f32⟩
  | .local _ .vmem, ⟨21, _⟩ => ⟨S512x128, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x128, .f32⟩
  | .local _ .vmem, ⟨27, _⟩ => ⟨S512x128, .f32⟩
  | .local _ .vmem, ⟨28, _⟩ => ⟨S512x1792, .f32⟩
  | .local _ .vmem, ⟨29, _⟩ => ⟨S512x1792, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c : Ref sig .tc := ⟨.hbm, 43, rfl⟩
abbrev main_call0_v0 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45_0 : Ref sig .tc := ⟨.hbm, 53, rfl⟩
abbrev main_v45_1 : Ref sig .tc := ⟨.hbm, 54, rfl⟩
abbrev main_v45_2 : Ref sig .tc := ⟨.hbm, 55, rfl⟩
abbrev main_v45_3 : Ref sig .tc := ⟨.hbm, 56, rfl⟩
abbrev main_v45_4 : Ref sig .tc := ⟨.hbm, 57, rfl⟩
abbrev main_v45_5 : Ref sig .tc := ⟨.hbm, 58, rfl⟩
abbrev main_v45_6 : Ref sig .tc := ⟨.hbm, 59, rfl⟩
abbrev main_v45_7 : Ref sig .tc := ⟨.hbm, 60, rfl⟩
abbrev main_v45_8 : Ref sig .tc := ⟨.hbm, 61, rfl⟩
abbrev main_v45_9 : Ref sig .tc := ⟨.hbm, 62, rfl⟩
abbrev main_v45_10 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1792 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S4x8192x1024 : Shape := ⟨3, ![4, 8192, 1024]⟩
abbrev S4x8192 : Shape := ⟨2, ![4, 8192]⟩
abbrev S1024 : Shape := ⟨1, ![1024]⟩
abbrev S1024x5144 : Shape := ⟨2, ![1024, 5144]⟩
abbrev S32 : Shape := ⟨1, ![32]⟩
abbrev S_ : Shape := ⟨0, ![]⟩
abbrev S4x8192x1 : Shape := ⟨3, ![4, 8192, 1]⟩
abbrev S1x1x32 : Shape := ⟨3, ![1, 1, 32]⟩
abbrev S4x8192x32 : Shape := ⟨3, ![4, 8192, 32]⟩
abbrev S4x8192x1x32 : Shape := ⟨4, ![4, 8192, 1, 32]⟩
abbrev S1x1x1024 : Shape := ⟨3, ![1, 1, 1024]⟩
abbrev S4x8192x5144 : Shape := ⟨3, ![4, 8192, 5144]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x8192x1792 : Shape := ⟨3, ![4, 8192, 1792]⟩
abbrev S16 : Shape := ⟨1, ![16]⟩
abbrev S16x1 : Shape := ⟨2, ![16, 1]⟩
abbrev S64 : Shape := ⟨1, ![64]⟩
abbrev S1x64 : Shape := ⟨2, ![1, 64]⟩
abbrev S16x64 : Shape := ⟨2, ![16, 64]⟩
abbrev S1x16x1x64 : Shape := ⟨4, ![1, 16, 1, 64]⟩
abbrev S8x16x64x64 : Shape := ⟨4, ![8, 16, 64, 64]⟩
abbrev S1x8192x1x64 : Shape := ⟨4, ![1, 8192, 1, 64]⟩
abbrev S4x8192x8x64 : Shape := ⟨4, ![4, 8192, 8, 64]⟩
abbrev S4x8192x8x32 : Shape := ⟨4, ![4, 8192, 8, 32]⟩
abbrev S4x8192x8x128 : Shape := ⟨4, ![4, 8192, 8, 128]⟩
abbrev S32768x1024 : Shape := ⟨2, ![32768, 1024]⟩
abbrev S4x8192x2x64 : Shape := ⟨4, ![4, 8192, 2, 64]⟩
abbrev S4x8192x2x32 : Shape := ⟨4, ![4, 8192, 2, 32]⟩
abbrev S32768x128 : Shape := ⟨2, ![32768, 128]⟩
abbrev S4x8192x2x128 : Shape := ⟨4, ![4, 8192, 2, 128]⟩
abbrev S32768x256 : Shape := ⟨2, ![32768, 256]⟩
abbrev S32768x24 : Shape := ⟨2, ![32768, 24]⟩
abbrev S32768x1792 : Shape := ⟨2, ![32768, 1792]⟩

abbrev nBuf : Space → Nat
  | .hbm => 164
  | .vmem => 0
  | .smem => 0
  | _ => 0

abbrev hbmTy0_0 (i : Nat) : BufTy := match i % 128 with
  | 0 => ⟨S4x8192x1024, .f32⟩
  | 1 => ⟨S4x8192, .i32⟩
  | 2 => ⟨S1024, .f32⟩
  | 3 => ⟨S1024x5144, .f32⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S4x8192, .f32⟩
  | 13 => ⟨S4x8192x1, .f32⟩
  | 14 => ⟨S1x1x32, .f32⟩
  | 15 => ⟨S4x8192x32, .f32⟩
  | 16 => ⟨S4x8192x32, .f32⟩
  | 17 => ⟨S4x8192x32, .f32⟩
  | 18 => ⟨S4x8192x32, .f32⟩
  | 19 => ⟨S4x8192x1x32, .f32⟩
  | 20 => ⟨S4x8192x32, .f32⟩
  | 21 => ⟨S4x8192x1x32, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S4x8192x5144, .f32⟩
  | 39 => ⟨S4x8192x512, .f32⟩
  | 40 => ⟨S4x8192x128, .f32⟩
  | 41 => ⟨S4x8192x128, .f32⟩
  | 42 => ⟨S4x8192x128, .f32⟩
  | 43 => ⟨S4x8192x128, .f32⟩
  | 44 => ⟨S4x8192x128, .f32⟩
  | 45 => ⟨S4x8192x128, .f32⟩
  | 46 => ⟨S4x8192x24, .f32⟩
  | 47 => ⟨S4x8192x1792, .f32⟩
  | 48 => ⟨S4x8192x1024, .f32⟩
  | 49 => ⟨S4x8192x1024, .f32⟩
  | 50 => ⟨S16, .i32⟩
  | 51 => ⟨S16x1, .i32⟩
  | 52 => ⟨S64, .i32⟩
  | 53 => ⟨S1x64, .i32⟩
  | 54 => ⟨S16x64, .i32⟩
  | 55 => ⟨S16x64, .i32⟩
  | 56 => ⟨S16x64, .i1⟩
  | 57 => ⟨S_, .f32⟩
  | 58 => ⟨S_, .f32⟩
  | 59 => ⟨S16x64, .f32⟩
  | 60 => ⟨S16x64, .f32⟩
  | 61 => ⟨S16x64, .f32⟩
  | 62 => ⟨S1x16x1x64, .f32⟩
  | 63 => ⟨S8x16x64x64, .f32⟩
  | 64 => ⟨S1x8192x1x64, .f32⟩
  | 65 => ⟨S4x8192x8x64, .f32⟩
  | 66 => ⟨S4x8192x8x32, .f32⟩
  | 67 => ⟨S4x8192x8x32, .f32⟩
  | 68 => ⟨S4x8192x8x32, .f32⟩
  | 69 => ⟨S4x8192x8x32, .f32⟩
  | 70 => ⟨S4x8192x8x32, .f32⟩
  | 71 => ⟨S4x8192x8x32, .f32⟩
  | 72 => ⟨S4x8192x8x32, .f32⟩
  | 73 => ⟨S4x8192x8x32, .f32⟩
  | 74 => ⟨S4x8192x8x32, .f32⟩
  | 75 => ⟨S4x8192x8x32, .f32⟩
  | 76 => ⟨S4x8192x8x32, .f32⟩
  | 77 => ⟨S4x8192x8x32, .f32⟩
  | 78 => ⟨S4x8192x8x64, .f32⟩
  | 79 => ⟨S_, .f32⟩
  | 80 => ⟨S4x8192x8x64, .f32⟩
  | 81 => ⟨S4x8192x8x64, .f32⟩
  | 82 => ⟨S_, .f32⟩
  | 83 => ⟨S4x8192x8x64, .f32⟩
  | 84 => ⟨S4x8192x8x64, .f32⟩
  | 85 => ⟨S4x8192x8x128, .f32⟩
  | 86 => ⟨S32768x1024, .f32⟩
  | 87 => ⟨S32768x1024, .bf16⟩
  | 88 => ⟨S4x8192x2x64, .f32⟩
  | 89 => ⟨S4x8192x2x32, .f32⟩
  | 90 => ⟨S4x8192x2x32, .f32⟩
  | 91 => ⟨S4x8192x2x32, .f32⟩
  | 92 => ⟨S4x8192x2x32, .f32⟩
  | 93 => ⟨S4x8192x2x32, .f32⟩
  | 94 => ⟨S4x8192x2x32, .f32⟩
  | 95 => ⟨S4x8192x2x32, .f32⟩
  | 96 => ⟨S4x8192x2x32, .f32⟩
  | 97 => ⟨S4x8192x2x32, .f32⟩
  | 98 => ⟨S4x8192x2x32, .f32⟩
  | 99 => ⟨S4x8192x2x32, .f32⟩
  | 100 => ⟨S4x8192x2x32, .f32⟩
  | 101 => ⟨S4x8192x2x64, .f32⟩
  | 102 => ⟨S32768x128, .f32⟩
  | 103 => ⟨S4x8192x2x64, .f32⟩
  | 104 => ⟨S4x8192x2x32, .f32⟩
  | 105 => ⟨S4x8192x2x32, .f32⟩
  | 106 => ⟨S4x8192x2x32, .f32⟩
  | 107 => ⟨S4x8192x2x32, .f32⟩
  | 108 => ⟨S4x8192x2x32, .f32⟩
  | 109 => ⟨S4x8192x2x32, .f32⟩
  | 110 => ⟨S4x8192x2x32, .f32⟩
  | 111 => ⟨S4x8192x2x32, .f32⟩
  | 112 => ⟨S4x8192x2x32, .f32⟩
  | 113 => ⟨S4x8192x2x32, .f32⟩
  | 114 => ⟨S4x8192x2x32, .f32⟩
  | 115 => ⟨S4x8192x2x32, .f32⟩
  | 116 => ⟨S4x8192x2x64, .f32⟩
  | 117 => ⟨S4x8192x2x64, .f32⟩
  | 118 => ⟨S4x8192x2x64, .f32⟩
  | 119 => ⟨S4x8192x2x128, .f32⟩
  | 120 => ⟨S32768x256, .f32⟩
  | 121 => ⟨S32768x256, .bf16⟩
  | 122 => ⟨S4x8192x2x64, .f32⟩
  | 123 => ⟨S4x8192x2x32, .f32⟩
  | 124 => ⟨S4x8192x2x32, .f32⟩
  | 125 => ⟨S4x8192x2x32, .f32⟩
  | 126 => ⟨S4x8192x2x32, .f32⟩
  | 127 => ⟨S4x8192x2x32, .f32⟩
  | _ => ⟨S4x8192x1024, .f32⟩

abbrev hbmTy0_1 (i : Nat) : BufTy := match i % 128 with
  | 0 => ⟨S4x8192x2x32, .f32⟩
  | 1 => ⟨S4x8192x2x32, .f32⟩
  | 2 => ⟨S4x8192x2x32, .f32⟩
  | 3 => ⟨S4x8192x2x32, .f32⟩
  | 4 => ⟨S4x8192x2x32, .f32⟩
  | 5 => ⟨S4x8192x2x32, .f32⟩
  | 6 => ⟨S4x8192x2x32, .f32⟩
  | 7 => ⟨S4x8192x2x64, .f32⟩
  | 8 => ⟨S_, .f32⟩
  | 9 => ⟨S4x8192x2x64, .f32⟩
  | 10 => ⟨S4x8192x2x64, .f32⟩
  | 11 => ⟨S4x8192x2x128, .f32⟩
  | 12 => ⟨S32768x256, .f32⟩
  | 13 => ⟨S32768x256, .bf16⟩
  | 14 => ⟨S32768x128, .f32⟩
  | 15 => ⟨S4x8192x2x64, .f32⟩
  | 16 => ⟨S_, .f32⟩
  | 17 => ⟨S4x8192x2x64, .f32⟩
  | 18 => ⟨S4x8192x2x64, .f32⟩
  | 19 => ⟨S4x8192x2x128, .f32⟩
  | 20 => ⟨S32768x256, .f32⟩
  | 21 => ⟨S32768x256, .bf16⟩
  | 22 => ⟨S4x8192x2x64, .f32⟩
  | 23 => ⟨S_, .f32⟩
  | 24 => ⟨S4x8192x2x64, .f32⟩
  | 25 => ⟨S4x8192x2x64, .f32⟩
  | 26 => ⟨S4x8192x2x128, .f32⟩
  | 27 => ⟨S32768x256, .f32⟩
  | 28 => ⟨S32768x256, .bf16⟩
  | 29 => ⟨S32768x24, .f32⟩
  | 30 => ⟨S_, .i32⟩
  | 31 => ⟨S_, .f32⟩
  | 32 => ⟨S32768x128, .f32⟩
  | 33 => ⟨S32768x1792, .f32⟩
  | 34 => ⟨S32768x1024, .f32⟩
  | 35 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_8 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_cst_9 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_cst_10 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_c : Ref sig .tc := ⟨.hbm, 158, rfl⟩
abbrev main_call1_v0 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S32768x512 : Shape := ⟨2, ![32768, 512]⟩
abbrev S32768x1024 : Shape := ⟨2, ![32768, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S3072x128 : Shape := ⟨2, ![3072, 128]⟩
abbrev S36 : Shape := ⟨1, ![36]⟩
abbrev S128 : Shape := ⟨1, ![128]⟩
abbrev S1x128 : Shape := ⟨2, ![1, 128]⟩
abbrev S1x512 : Shape := ⟨2, ![1, 512]⟩
abbrev S1x1024 : Shape := ⟨2, ![1, 1024]⟩
abbrev S4096x8x8x128 : Shape := ⟨4, ![4096, 8, 8, 128]⟩
abbrev S32768x128 : Shape := ⟨2, ![32768, 128]⟩
abbrev S512x512 : Shape := ⟨2, ![512, 512]⟩
abbrev S64x8x8x128 : Shape := ⟨4, ![64, 8, 8, 128]⟩
abbrev S512x128 : Shape := ⟨2, ![512, 128]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩
abbrev S32x8x128 : Shape := ⟨3, ![32, 8, 128]⟩
abbrev S32x8x8x128 : Shape := ⟨4, ![32, 8, 8, 128]⟩
abbrev S32x1x8x128 : Shape := ⟨4, ![32, 1, 8, 128]⟩
abbrev S256x256 : Shape := ⟨2, ![256, 256]⟩

abbrev nBuf : Space → Nat
  | .hbm => 44
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S32768x512, .f32⟩
  | .hbm, ⟨4, _⟩ => ⟨S32768x512, .f32⟩
  | .hbm, ⟨5, _⟩ => ⟨S32768x1024, .f32⟩
  | .hbm, ⟨6, _⟩ => ⟨S32768x1024, .f32⟩
  | .hbm, ⟨7, _⟩ => ⟨S512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S32768x1024, .f32⟩
  | .hbm, ⟨18, _⟩ => ⟨S32768x512, .bf16⟩
  | .hbm, ⟨19, _⟩ => ⟨S32768x512, .f32⟩
  | .hbm, ⟨20, _⟩ => ⟨S1024x36, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .bf16⟩
  | .hbm, ⟨25, _⟩ => ⟨S1024x128, .f32⟩
  | .hbm, ⟨26, _⟩ => ⟨S1024x128, .f32⟩
  | .hbm, ⟨27, _⟩ => ⟨S1024x128, .bf16⟩
  | .hbm, ⟨28, _⟩ => ⟨S3072x128, .bf16⟩
  | .hbm, ⟨29, _⟩ => ⟨S36, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S512x1024, .bf16⟩
  | .hbm, ⟨35, _⟩ => ⟨S512x1024, .bf16⟩
  | .hbm, ⟨36, _⟩ => ⟨S1024x1024, .bf16⟩
  | .hbm, ⟨37, _⟩ => ⟨S1x512, .f32⟩
  | .hbm, ⟨38, _⟩ => ⟨S1x512, .f32⟩
  | .hbm, ⟨39, _⟩ => ⟨S1x1024, .f32⟩
  | .hbm, ⟨40, _⟩ => ⟨S32768x1024, .f32⟩
  | .hbm, ⟨41, _⟩ => ⟨S4096x8x8x128, .f32⟩
  | .hbm, ⟨42, _⟩ => ⟨S32768x128, .f32⟩
  | .hbm, ⟨43, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x512, .f32⟩
  | .local _ .vmem, ⟨15, _⟩ => ⟨S1x512, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S3072x128, .bf16⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S64x8x8x128, .f32⟩
  | .local _ .vmem, ⟨25, _⟩ => ⟨S64x8x8x128, .f32⟩
  | .local _ .vmem, ⟨26, _⟩ => ⟨S512x128, .f32⟩
  | .local _ .vmem, ⟨27, _⟩ => ⟨S512x128, .f32⟩
  | .local _ .vmem, ⟨28, _⟩ => ⟨S1x128, .f32⟩
  | .local _ .vmem, ⟨29, _⟩ => ⟨S1x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev main_v19_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3072x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x8x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S4x8192x1024 : Shape := ⟨3, ![4, 8192, 1024]⟩
abbrev S4x8192x512 : Shape := ⟨3, ![4, 8192, 512]⟩
abbrev S32768x512 : Shape := ⟨2, ![32768, 512]⟩
abbrev S32768x1024 : Shape := ⟨2, ![32768, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1x512 : Shape := ⟨2, ![1, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S4096x8x8x128 : Shape := ⟨4, ![4096, 8, 8, 128]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S32768x512, .f32⟩
  | .hbm, ⟨4, _⟩ => ⟨S32768x512, .f32⟩
  | .hbm, ⟨5, _⟩ => ⟨S32768x1024, .f32⟩
  | .hbm, ⟨6, _⟩ => ⟨S32768x1024, .f32⟩
  | .hbm, ⟨7, _⟩ => ⟨S512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S32768x512, .f32⟩
  | .hbm, ⟨18, _⟩ => ⟨S1x512, .f32⟩
  | .hbm, ⟨19, _⟩ => ⟨S32768x512, .f32⟩
  | .hbm, ⟨20, _⟩ => ⟨S32768x512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .bf16⟩
  | .hbm, ⟨27, _⟩ => ⟨S32768x512, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S1x1024, .f32⟩
  | .hbm, ⟨66, _⟩ => ⟨S32768x1024, .f32⟩
  | .hbm, ⟨67, _⟩ => ⟨S32768x1024, .f32⟩
  | .hbm, ⟨68, _⟩ => ⟨S4096x8x8x128, .f32⟩
  | .hbm, ⟨69, _⟩ => ⟨S4096x8x8x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Kernel4.lean ====
abbrev S288 : Shape := ⟨1, ![288]⟩
abbrev S9216x8x8x128 : Shape := ⟨4, ![9216, 8, 8, 128]⟩
abbrev S32x1024x256 : Shape := ⟨3, ![32, 1024, 256]⟩
abbrev S32x256x1024 : Shape := ⟨3, ![32, 256, 1024]⟩
abbrev S32x1024x512 : Shape := ⟨3, ![32, 1024, 512]⟩
abbrev S32x8x8x128 : Shape := ⟨4, ![32, 8, 8, 128]⟩
abbrev S1x1024x512 : Shape := ⟨3, ![1, 1024, 512]⟩
abbrev S1 : Shape := ⟨1, ![1]⟩
abbrev S1x256x1024 : Shape := ⟨3, ![1, 256, 1024]⟩
abbrev S32x1x8x128 : Shape := ⟨4, ![32, 1, 8, 128]⟩
abbrev S32x8x128 : Shape := ⟨3, ![32, 8, 128]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S256x256 : Shape := ⟨2, ![256, 256]⟩

abbrev nBuf : Space → Nat
  | .hbm => 8
  | .vmem => 8
  | .smem => 1
  | _ => 0

abbrev bufTy : (tb : Table) → Fin (tcTables nBuf tb) → BufTy
  | .hbm, ⟨0, _⟩ => ⟨S9216x8x8x128, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S32x1024x512, .f32⟩
  | .hbm, ⟨5, _⟩ => ⟨S32x1024x512, .bf16⟩
  | .hbm, ⟨6, _⟩ => ⟨S32x256x1024, .bf16⟩
  | .hbm, ⟨7, _⟩ => ⟨S9216x8x8x128, .f32⟩
  | .local _ .vmem, ⟨0, _⟩ => ⟨S32x8x8x128, .f32⟩
  | .local _ .vmem, ⟨1, _⟩ => ⟨S32x8x8x128, .f32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S32x8x8x128, .f32⟩
  | .local _ .vmem, ⟨7, _⟩ => ⟨S32x8x8x128, .f32⟩
  | .local _ .smem, ⟨0, _⟩ => ⟨S288, .i32⟩
  | _, _ => ⟨S9216x8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S288 : Shape := ⟨1, ![288]⟩
abbrev S9216x8x8x128 : Shape := ⟨4, ![9216, 8, 8, 128]⟩
abbrev S32x1024x256 : Shape := ⟨3, ![32, 1024, 256]⟩
abbrev S32x256x1024 : Shape := ⟨3, ![32, 256, 1024]⟩
abbrev S288x256x1024 : Shape := ⟨3, ![288, 256, 1024]⟩
abbrev S32x262144 : Shape := ⟨2, ![32, 262144]⟩
abbrev S_ : Shape := ⟨0, ![]⟩
abbrev S288x1 : Shape := ⟨2, ![288, 1]⟩
abbrev S288x262144 : Shape := ⟨2, ![288, 262144]⟩
abbrev S288x1024x256 : Shape := ⟨3, ![288, 1024, 256]⟩
abbrev S288x256x256 : Shape := ⟨3, ![288, 256, 256]⟩

abbrev nBuf : Space → Nat
  | .hbm => 55
  | .vmem => 0
  | .smem => 0
  | _ => 0

abbrev bufTy : (tb : Table) → Fin (tcTables nBuf tb) → BufTy
  | .hbm, ⟨0, _⟩ => ⟨S288, .i32⟩
  | .hbm, ⟨1, _⟩ => ⟨S9216x8x8x128, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S9216x8x8x128, .f32⟩
  | .hbm, ⟨6, _⟩ => ⟨S288x256x1024, .f32⟩
  | .hbm, ⟨7, _⟩ => ⟨S32x262144, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x262144, .f32⟩
  | .hbm, ⟨17, _⟩ => ⟨S288x1024x256, .f32⟩
  | .hbm, ⟨18, _⟩ => ⟨S288x256x256, .f32⟩
  | .hbm, ⟨19, _⟩ => ⟨S288x256x256, .f32⟩
  | .hbm, ⟨20, _⟩ => ⟨S288x256x256, .f32⟩
  | .hbm, ⟨21, _⟩ => ⟨S_, .f32⟩
  | .hbm, ⟨22, _⟩ => ⟨S288x256x256, .f32⟩
  | .hbm, ⟨23, _⟩ => ⟨S288x256x256, .f32⟩
  | .hbm, ⟨24, _⟩ => ⟨S_, .f32⟩
  | .hbm, ⟨25, _⟩ => ⟨S288x256x256, .f32⟩
  | .hbm, ⟨26, _⟩ => ⟨S288x256x256, .f32⟩
  | .hbm, ⟨27, _⟩ => ⟨S288x256x256, .f32⟩
  | .hbm, ⟨28, _⟩ => ⟨S32x262144, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x262144, .f32⟩
  | .hbm, ⟨38, _⟩ => ⟨S288x1024x256, .f32⟩
  | .hbm, ⟨39, _⟩ => ⟨S288x256x256, .f32⟩
  | .hbm, ⟨40, _⟩ => ⟨S288x256x256, .f32⟩
  | .hbm, ⟨41, _⟩ => ⟨S32x262144, .f32⟩
  | .hbm, ⟨42, _⟩ => ⟨S_, .i32⟩
  | .hbm, ⟨43, _⟩ => ⟨S288, .i32⟩
  | .hbm, ⟨44, _⟩ => ⟨S288, .i1⟩
  | .hbm, ⟨45, _⟩ => ⟨S_, .i32⟩
  | .hbm, ⟨46, _⟩ => ⟨S288, .i32⟩
  | .hbm, ⟨47, _⟩ => ⟨S288, .i32⟩
  | .hbm, ⟨48, _⟩ => ⟨S288, .i32⟩
  | .hbm, ⟨49, _⟩ => ⟨S288x1, .i32⟩
  | .hbm, ⟨50, _⟩ => ⟨S288x262144, .f32⟩
  | .hbm, ⟨51, _⟩ => ⟨S288x256x1024, .f32⟩
  | .hbm, ⟨52, _⟩ => ⟨S288x256x1024, .f32⟩
  | .hbm, ⟨53, _⟩ => ⟨S9216x8x8x128, .f32⟩
  | .hbm, ⟨54, _⟩ => ⟨S9216x8x8x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Proof.ChunkUnit.lean ====
/- What the chunk kernel stores, written once. One grid point holds four chunks of eight heads; the body computes for each of
   these 32 units a pair of blocks: the outputs (`unitTop`) and the state (`unitBot`), as affine functions of the incoming
   state. `out_eq` says that the body's 64 stores are these two functions at the 32 units. -/
module

public import proofs.«01_k».proof.Proof.Gen.KernelIdeal.Frame

@[expose] public section

set_option maxRecDepth 16384

noncomputable section

namespace Cert.Proof.Chunk

open Idealize.ShloMosaic Idealize.SL.Sem
open Cert.KernelIdeal Cert.KernelIdeal.Gen

variable {F : FTy → Type} [FloatOps F]

/-! ## Masks over 64 by 64 positions -/

/-- The row number. -/
def rowI : IVec S64x64 32 := iota .tc S64x64 32 [0] iota_S64x64_d0_w32
/-- The column number. -/
def colI : IVec S64x64 32 := iota .tc S64x64 32 [1] iota_S64x64_d1_w32

/-- Floor division by `w`, as signed words. -/
def fdivV (x : IVec S64x64 32) (w : BitVec 32) : IVec S64x64 32 :=
  select (andi (cmpi .ne
        (subi (extui 32 (cmpi .sgt x (broadcast S64x64 0#32)) natLt_1_32) (extui 32 (cmpi .slt x (broadcast S64x64 0#32)) natLt_1_32))
        (broadcast S64x64 (Scalar.subi (Scalar.extui (Scalar.cmpi .sgt w 0#32)) (Scalar.extui (Scalar.cmpi .slt w 0#32)))))
      (cmpi .ne (remsi x (broadcast S64x64 w)) (broadcast S64x64 0#32)))
    (subi (divsi x (broadcast S64x64 w)) (broadcast S64x64 1#32)) (divsi x (broadcast S64x64 w))

/-- Column before row. -/
def strictV : IVec S64x64 1 := cmpi .slt colI rowI
/-- Column not after row. -/
def inclV : IVec S64x64 1 := cmpi .sle colI rowI
/-- One block of 16. -/
def sameV : IVec S64x64 1 := cmpi .eq (fdivV rowI 16#32) (fdivV colI 16#32)
/-- Second by first half of a block of `w2`, the halves of `w`. -/
def belowV (w w2 : BitVec 32) : IVec S64x64 1 :=
  andi (cmpi .eq (fdivV rowI w) (addi (fdivV colI w) (broadcast S64x64 1#32))) (cmpi .eq (fdivV rowI w2) (fdivV colI w2))

/-- The identity matrix. -/
def eyeV : FVec F S64x64 .f32 := sitofp .f32 (extui 32 (cmpi .eq rowI colI) natLt_1_32)
/-- The lower triangle of ones. -/
def triV : FVec F S64x64 .bf16 := truncf .bf16 (sitofp (F := F) .f32 (extui 32 inclV natLt_1_32)) bitsLt_bf16_f32

/-- `a` where the mask is set, zero elsewhere. -/
def keep (p : IVec S64x64 1) (a : FVec F S64x64 .f32) : FVec F S64x64 .f32 :=
  select p a (broadcast S64x64 (Scalar.ofBits (F := F) .f32 0x00000000#32))

/-! ## Products -/

/-- A rounded operand. -/
abbrev lo {s : Shape} (a : FVec F s .f32) : FVec F s .bf16 := truncf .bf16 a bitsLt_bf16_f32

def mm (a b : FVec F S64x64 .f32) : FVec F S64x64 .f32 :=
  matmul dot_S64x64_S64x64_S64x64_1_0_0_1_n_n none (lo a) (lo b) (constant S64x64 .f32 0x00000000#32)

def mmWide (a : FVec F S64x64 .f32) (b : FVec F S64x128 .f32) : FVec F S64x128 .f32 :=
  matmul dot_S64x64_S64x128_S64x128_1_0_0_1_n_n none (lo a) (lo b) (constant S64x128 .f32 0x00000000#32)

def cat0 (a b : FVec F S64x64 .f32) : FVec F S128x64 .f32 :=
  concatenate S128x64 0 [⟨S64x64, a⟩, ⟨S64x64, b⟩] concatenates_S64x64_S64x64_S128x64_d0

def cat1 (a b : FVec F S64x64 .f32) : FVec F S64x128 .f32 :=
  concatenate S64x128 1 [⟨S64x64, a⟩, ⟨S64x64, b⟩] concatenates_S64x64_S64x64_S64x128_d1

/-! ## The rows of a chunk and the columns of a head -/

theorem rows_inb (j : ℕ) : ∀ a, (![0, j % 4 * 64, 0] : Fin 3 → ℕ) a + S1x64x512.size a ≤ S1x256x512.size a := by
  intro a
  fin_cases a
  · exact le_rfl
  · show j % 4 * 64 + 64 ≤ 256; omega
  · show 0 + 512 ≤ 512; omega

/-- Chunk `j`'s 64 rows of a block. -/
def rowsOf (x : Vec F S1x256x512 .f32) (j : ℕ) : FVec F S64x512 .f32 :=
  shapeCast S64x512 (View.ld x (Rect.unit (s := S1x256x512) ![0, j % 4 * 64, 0] S1x64x512.size (rows_inb j)))
    shapeCasts_S1x64x512_S64x512

theorem head_slices (h : ℕ) : S64x512.Slices ![0, h % 8 * 64] S64x64 :=
  ⟨rfl, fun a => by
    fin_cases a
    · exact le_of_eq (Nat.zero_add _)
    · show h % 8 * 64 + 64 ≤ 512; omega⟩

theorem headRow_slices (h : ℕ) : S1x512.Slices ![0, h % 8 * 64] S1x64 :=
  ⟨rfl, fun a => by
    fin_cases a
    · exact le_of_eq (Nat.zero_add _)
    · show h % 8 * 64 + 64 ≤ 512; omega⟩

/-- Head `h`'s 64 columns. -/
def headOf (h : ℕ) (a : FVec F S64x512 .f32) : FVec F S64x64 .f32 :=
  extractStridedSlice S64x64 ![0, h % 8 * 64] a (head_slices h)

/-! ## The decays -/

/-- The triangle of ones times a matrix. -/
def triMul (a : FVec F S64x512 .bf16) : FVec F S64x512 .f32 :=
  matmul dot_S64x64_S64x512_S64x512_1_0_0_1_n_n none triV a (constant S64x512 .f32 0x00000000#32)

/-- The running sums of the decay exponents: the triangle times the exponents, in three pieces. -/
def csV (lw : FVec F S64x512 .f32) : FVec F S64x512 .f32 :=
  let a0 : FVec F S64x512 .bf16 := lo lw
  let d1 : FVec F S64x512 .f32 := subf lw (extf .f32 a0 bitsLt_bf16_f32)
  let a1 : FVec F S64x512 .bf16 := lo d1
  let d2 : FVec F S64x512 .f32 := subf d1 (extf .f32 a1 bitsLt_bf16_f32)
  let a2 : FVec F S64x512 .bf16 := lo d2
  addf (addf (addf (broadcast S64x512 (Scalar.ofBits (F := F) .f32 0x00000000#32)) (triMul a0)) (triMul a1)) (triMul a2)

def zeroMinus (a : FVec F S64x512 .f32) : FVec F S64x512 .f32 :=
  subf (broadcast S64x512 (Scalar.ofBits (F := F) .f32 0x00000000#32)) a

/-- The running sums' last row. -/
def lastRow (cs : FVec F S64x512 .f32) : FVec F S1x512 .f32 :=
  extractStridedSlice S1x512 ![63, 0] cs slices_S64x512_o63_0_S1x512

def atV (lw kn : FVec F S64x512 .f32) : FVec F S64x512 .f32 := mulf (zeroMinus kn) (exp (subf (csV lw) lw))
def invV (lw k : FVec F S64x512 .f32) : FVec F S64x512 .f32 := mulf k (exp (zeroMinus (csV lw)))
def rtV (lw r : FVec F S64x512 .f32) : FVec F S64x512 .f32 := mulf r (exp (csV lw))
def endV (lw k : FVec F S64x512 .f32) : FVec F S64x512 .f32 :=
  mulf k (exp (subf (broadcastTo S64x512 (lastRow (csV lw)) broadcasts_S1x512_S64x512) (csV lw)))
def ptotV (lw : FVec F S64x512 .f32) : FVec F S1x512 .f32 := exp (lastRow (csV lw))

/-! ## One unit -/

/-- The triangular solve. -/
def solveV (a : FVec F S64x64 .f32) : FVec F S64x64 .f32 :=
  let p1 := keep sameV a
  let t1 := addf eyeV p1
  let p2 := mm p1 p1
  let t2 := addf t1 (mm t1 p2)
  let p4 := mm p2 p2
  let t4 := addf t2 (mm t2 p4)
  let p8 := mm p4 p4
  let t8 := addf t4 (mm t4 p8)
  let u := addf t8 (mm t8 (mm (keep (belowV 16#32 32#32) a) t8))
  addf u (mm u (mm (keep (belowV 32#32 64#32) a) u))

variable (r lw k v kn kb : FVec F S64x512 .f32) (h : ℕ)

/-- All couplings of a unit: [at; rt] times [bt; kt] transposed. -/
def coup : FVec F S128x128 .f32 :=
  matmul dot_S128x64_S128x64_S128x128_1_1_0_0_n_n none
    (lo (cat0 (headOf h (atV lw kn)) (headOf h (rtV lw r)))) (lo (cat0 (headOf h (invV lw kb)) (headOf h (invV lw k))))
    (constant S128x128 .f32 0x00000000#32)

def aabV : FVec F S64x64 .f32 :=
  keep strictV (extractStridedSlice S64x64 ![0, 0] (coup r lw k kn kb h) slices_S128x128_o0_0_S64x64)
def aakV : FVec F S64x64 .f32 :=
  keep strictV (extractStridedSlice S64x64 ![0, 64] (coup r lw k kn kb h) slices_S128x128_o0_64_S64x64)
def arkV : FVec F S64x64 .f32 :=
  keep inclV (extractStridedSlice S64x64 ![64, 64] (coup r lw k kn kb h) slices_S128x128_o64_64_S64x64)
def arbV : FVec F S64x64 .f32 :=
  keep inclV (extractStridedSlice S64x64 ![64, 0] (coup r lw k kn kb h) slices_S128x128_o64_0_S64x64)

/-- The writes' effect on corrections (upper half) and outputs (lower half). -/
def avV : FVec F S128x64 .f32 :=
  matmul dot_S128x64_S64x64_S128x64_1_0_0_1_n_n none (lo (cat0 (aakV r lw k kn kb h) (arkV r lw k kn kb h)))
    (lo (headOf h v)) (constant S128x64 .f32 0x00000000#32)

/-- The writes carried to the chunk's end. -/
def kvV : FVec F S64x64 .f32 :=
  matmul dot_S64x64_S64x64_S64x64_0_0_1_1_n_n none (lo (headOf h (endV lw k))) (lo (headOf h v)) (constant S64x64 .f32 0x00000000#32)

/-- The corrections. -/
def wuV : FVec F S64x128 .f32 :=
  mmWide (solveV (aabV r lw k kn kb h)) (cat1 (headOf h (atV lw kn))
    (extractStridedSlice S64x64 ![0, 0] (avV r lw k v kn kb h) slices_S128x64_o0_0_S64x64))

/-- The unit's outputs. -/
def unitTop : FVec F S64x128 .f32 :=
  addf (cat1 (headOf h (rtV lw r)) (extractStridedSlice S64x64 ![64, 0] (avV r lw k v kn kb h) slices_S128x64_o64_0_S64x64))
    (mmWide (arbV r lw k kn kb h) (wuV r lw k v kn kb h))

/-- The unit's final state. -/
def unitBot : FVec F S64x128 .f32 :=
  addf (matmul dot_S64x64_S64x128_S64x128_0_0_1_1_n_n none (lo (headOf h (endV lw kb))) (lo (wuV r lw k v kn kb h))
      (constant S64x128 .f32 0x00000000#32))
    (cat1 (mulf eyeV (broadcastTo S64x64 (extractStridedSlice S1x64 ![0, h % 8 * 64] (ptotV lw) (headRow_slices h)) broadcasts_S1x64_S64x64))
      (kvV lw k v h))

/-! ## The stores -/

theorem tile_inb (u e : ℕ) : ∀ a, (![0, u / 8 % 4, u % 8, e % 2 * 64, 0] : Fin 5 → ℕ) a + S1x1x1x64x128.size a ≤ S1x4x8x128x128.size a := by
  intro a
  fin_cases a
  · exact le_rfl
  · show u / 8 % 4 + 1 ≤ 4; omega
  · show u % 8 + 1 ≤ 8; omega
  · show e % 2 * 64 + 64 ≤ 128; omega
  · exact le_of_eq (Nat.zero_add _)

/-- Where half `e` of unit `u` lies in the block. -/
abbrev tileRect (u e : ℕ) : Rect S1x4x8x128x128 :=
  Rect.unit (s := S1x4x8x128x128) ![0, u / 8 % 4, u % 8, e % 2 * 64, 0] S1x1x1x64x128.size (tile_inb u e)

variable (x0 x1 x2 x3 x4 x5 : Vec F S1x256x512 .f32)

/-- The stores of the first `n` units, last first. -/
def pieces : ℕ → List (View.Piece (Elt F) S1x4x8x128x128 .f32)
  | 0 => []
  | u + 1 =>
    ⟨tileRect u 1, shapeCast S1x1x1x64x128 (unitBot (rowsOf x0 (u / 8)) (rowsOf x1 (u / 8)) (rowsOf x2 (u / 8)) (rowsOf x3 (u / 8))
        (rowsOf x4 (u / 8)) (rowsOf x5 (u / 8)) u) shapeCasts_S64x128_S1x1x1x64x128⟩ ::
    ⟨tileRect u 0, shapeCast S1x1x1x64x128 (unitTop (rowsOf x0 (u / 8)) (rowsOf x1 (u / 8)) (rowsOf x2 (u / 8)) (rowsOf x3 (u / 8))
        (rowsOf x4 (u / 8)) (rowsOf x5 (u / 8)) u) shapeCasts_S64x128_S1x1x1x64x128⟩ ::
    pieces u

set_option maxHeartbeats 4000000 in
theorem out_eq : out0_6 x0 x1 x2 x3 x4 x5 = View.canon (pieces x0 x1 x2 x3 x4 x5 32) := by
  sl_kernel_rfl

end Cert.Proof.Chunk

end
-- ==== Proof.ChunkMath.lean ====
/- The mathematics of one chunk of the delta-rule recurrence, over the reals. A chunk is 64 tokens; a token multiplies the
   state by a diagonal decay, adds a rank-one correction along a key and a rank-one write of a value. `scanState` is that
   recurrence, token by token. `chunk_state` and `chunk_out` say that the closed form (a triangular solve instead of 64
   steps) gives the same final state and the same outputs, and `solve_inv` that the kernel's blocked product expansion is the
   inverse of the triangular matrix. -/
module

public import Mathlib.Data.Matrix.Mul
public import Mathlib.Data.Matrix.Diagonal
public import Mathlib.Data.Real.Basic
public import Mathlib.Analysis.SpecialFunctions.Exp
public import Mathlib.Tactic.NoncommRing
public import Mathlib.Tactic.Ring
public import Mathlib.Tactic.LinearCombination

@[expose] public section

noncomputable section

namespace Cert.Proof.ChunkMath

open Matrix Finset

/-- The chunk's square matrices: 64 tokens by 64 tokens (or 64 channels). -/
abbrev Sq := Matrix (Fin 64) (Fin 64) ℝ

/-! ## The recurrence -/

/-- The state after `t` tokens: entry (value column, channel). Token `t` decays channel `d` by `exp (lw t d)`, adds the state's
    reading along `-kn` times `kb`, and adds the value times the key. -/
def scanState {W : ℕ} (lw k kn kb : Fin 64 → Fin 64 → ℝ) (v : Fin 64 → Fin W → ℝ) (s0 : Fin W → Fin 64 → ℝ) :
    ℕ → Fin W → Fin 64 → ℝ
  | 0 => s0
  | t + 1 => fun c d =>
    if h : t < 64 then
      scanState lw k kn kb v s0 t c d * Real.exp (lw ⟨t, h⟩ d)
        + (∑ e, scanState lw k kn kb v s0 t c e * -kn ⟨t, h⟩ e) * kb ⟨t, h⟩ d + v ⟨t, h⟩ c * k ⟨t, h⟩ d
    else scanState lw k kn kb v s0 t c d

theorem scanState_succ {W : ℕ} (lw k kn kb : Fin 64 → Fin 64 → ℝ) (v : Fin 64 → Fin W → ℝ) (s0 : Fin W → Fin 64 → ℝ)
    (t : ℕ) (h : t < 64) (c : Fin W) (d : Fin 64) :
    scanState lw k kn kb v s0 (t + 1) c d
      = scanState lw k kn kb v s0 t c d * Real.exp (lw ⟨t, h⟩ d)
        + (∑ e, scanState lw k kn kb v s0 t c e * -kn ⟨t, h⟩ e) * kb ⟨t, h⟩ d + v ⟨t, h⟩ c * k ⟨t, h⟩ d := by
  show (if h : t < 64 then _ else _) = _
  rw [dif_pos h]

/-- The output of token `t`: the state after it read along `r`. -/
def scanOut {W : ℕ} (r lw k kn kb : Fin 64 → Fin 64 → ℝ) (v : Fin 64 → Fin W → ℝ) (s0 : Fin W → Fin 64 → ℝ)
    (t : Fin 64) (c : Fin W) : ℝ :=
  ∑ d, scanState lw k kn kb v s0 (t.val + 1) c d * r t d

/-! ## Masks -/

/-- The matrix where `p` holds, zero elsewhere. -/
def maskM (p : Fin 64 → Fin 64 → Prop) [∀ i j, Decidable (p i j)] (A : Sq) : Sq := fun i j => if p i j then A i j else 0

/-- Column before row. -/
abbrev strictP (i j : Fin 64) : Prop := j.val < i.val
/-- Column not after row. -/
abbrev inclP (i j : Fin 64) : Prop := j.val ≤ i.val
/-- Row and column in one block of `w`. -/
abbrev sameP (w : ℕ) (i j : Fin 64) : Prop := i.val / w = j.val / w
/-- Row in the second, column in the first half of one block of `2 w`. -/
abbrev belowP (w : ℕ) (i j : Fin 64) : Prop := i.val / w = j.val / w + 1 ∧ i.val / (2 * w) = j.val / (2 * w)

/-! ## The triangular solve -/

/-- Zero outside the diagonal blocks of `w`. -/
def Blocky (w : ℕ) (A : Sq) : Prop := ∀ i j : Fin 64, i.val / w ≠ j.val / w → A i j = 0

theorem Blocky.mul {w : ℕ} {A B : Sq} (ha : Blocky w A) (hb : Blocky w B) : Blocky w (A * B) := by
  intro i j h
  rw [mul_apply]
  refine sum_eq_zero fun k _ => ?_
  by_cases hk : i.val / w = k.val / w
  · rw [hb k j (fun h' => h (hk.trans h')), mul_zero]
  · rw [ha i k hk, zero_mul]

theorem Blocky.add {w : ℕ} {A B : Sq} (ha : Blocky w A) (hb : Blocky w B) : Blocky w (A + B) := by
  intro i j h
  rw [Matrix.add_apply, ha i j h, hb i j h, add_zero]

theorem Blocky.one (w : ℕ) : Blocky w (1 : Sq) := by
  intro i j h
  exact Matrix.one_apply_ne fun e => h (e ▸ rfl)

theorem Blocky.widen {w : ℕ} {A : Sq} (ha : Blocky w A) : Blocky (2 * w) A := by
  intro i j h
  refine ha i j fun e => h ?_
  rw [mul_comm, ← Nat.div_div_eq_div_mul, ← Nat.div_div_eq_div_mul, e]

/-- Entry (i, j) is zero unless `j + n ≤ i` and both lie in one block of 16. -/
def Lower (n : ℕ) (A : Sq) : Prop := ∀ i j : Fin 64, A i j ≠ 0 → j.val + n ≤ i.val ∧ i.val / 16 = j.val / 16

theorem Lower.mul {a b : ℕ} {A B : Sq} (ha : Lower a A) (hb : Lower b B) : Lower (a + b) (A * B) := by
  intro i j h
  rw [mul_apply] at h
  obtain ⟨k, _, hk⟩ := exists_ne_zero_of_sum_ne_zero h
  have h1 := ha i k (left_ne_zero_of_mul hk)
  have h2 := hb k j (right_ne_zero_of_mul hk)
  omega

theorem Lower.eq_zero {A : Sq} (h : Lower 16 A) : A = 0 := by
  ext i j
  by_contra hne
  have := h i j hne
  omega

/-- The inverse of `1 - P` for `P` strictly lower triangular within blocks of 16: four doubling factors. -/
def solve16 (P : Sq) : Sq :=
  let t1 := 1 + P
  let p2 := P * P
  let t2 := t1 + t1 * p2
  let p4 := p2 * p2
  let t4 := t2 + t2 * p4
  let p8 := p4 * p4
  t4 + t4 * p8

/-- One widening: the inverse for blocks of `2 w` from the inverse for blocks of `w` and the part `X` below the diagonal. -/
def widen (T X : Sq) : Sq := T + T * (X * T)

/-- The kernel's inverse of `1 - A`. -/
def solve (A : Sq) : Sq :=
  widen (widen (solve16 (maskM (sameP 16) A)) (maskM (belowP 16) A)) (maskM (belowP 32) A)

theorem solve16_inv {P : Sq} (h : Lower 1 P) : (1 - P) * solve16 P = 1 := by
  have hz : P * P * (P * P) * (P * P * (P * P)) * (P * P * (P * P) * (P * P * (P * P))) = 0 :=
    Lower.eq_zero ((((h.mul h).mul (h.mul h)).mul ((h.mul h).mul (h.mul h))).mul
      (((h.mul h).mul (h.mul h)).mul ((h.mul h).mul (h.mul h))))
  have e : (1 - P) * solve16 P
      = 1 - P * P * (P * P) * (P * P * (P * P)) * (P * P * (P * P) * (P * P * (P * P))) := by
    simp only [solve16]; noncomm_ring
  rw [e, hz, sub_zero]

theorem solve16_blocky {P : Sq} (h : Blocky 16 P) : Blocky 16 (solve16 P) := by
  have h1 := (Blocky.one 16).add h
  have h2 := h1.add (h1.mul (h.mul h))
  have h4 := h2.add (h2.mul ((h.mul h).mul (h.mul h)))
  exact h4.add (h4.mul (((h.mul h).mul (h.mul h)).mul ((h.mul h).mul (h.mul h))))

theorem below_zero (w : ℕ) {A T : Sq} (hT : Blocky w T) : maskM (belowP w) A * T * maskM (belowP w) A = 0 := by
  ext i j
  rw [mul_apply]
  refine sum_eq_zero fun k _ => ?_
  by_cases hk : belowP w k j
  · rw [mul_apply, sum_eq_zero, zero_mul]
    intro l _
    by_cases hl : belowP w i l
    · rw [hT l k, mul_zero]
      intro e
      obtain ⟨h1, h2⟩ := hk
      obtain ⟨h3, h4⟩ := hl
      rw [mul_comm, ← Nat.div_div_eq_div_mul, ← Nat.div_div_eq_div_mul] at h2 h4
      omega
    · rw [maskM, if_neg hl, zero_mul]
  · rw [show maskM (belowP w) A k j = 0 from if_neg hk, mul_zero]

theorem widen_inv (w : ℕ) {D A T : Sq} (hi : (1 - D) * T = 1) (hT : Blocky w T) :
    (1 - (D + maskM (belowP w) A)) * widen T (maskM (belowP w) A) = 1 := by
  have hz := below_zero w (A := A) hT
  set X := maskM (belowP w) A
  have e : (1 - (D + X)) * widen T X
      = (1 - D) * T + (1 - D) * T * (X * T) - X * T - X * T * X * T := by
    simp only [widen]; noncomm_ring
  rw [e, hi, hz]; simp

theorem below_blocky (w : ℕ) (A : Sq) : Blocky (2 * w) (maskM (belowP w) A) := by
  intro i j h
  exact if_neg fun hb => h hb.2

theorem solve_inv {A : Sq} (hA : ∀ i j : Fin 64, i.val ≤ j.val → A i j = 0) : (1 - A) * solve A = 1 := by
  have hP : Lower 1 (maskM (sameP 16) A) := by
    intro i j h
    by_cases hs : sameP 16 i j
    · rw [maskM, if_pos hs] at h
      exact ⟨by by_contra hn; exact h (hA i j (by omega)), hs⟩
    · exact absurd (if_neg hs) h
  have hB : Blocky 16 (maskM (sameP 16) A) := fun i j h => if_neg h
  have hT := solve16_blocky hB
  have h1 := widen_inv 16 (A := A) (solve16_inv hP) hT
  have hT2 : Blocky 32 (widen (solve16 (maskM (sameP 16) A)) (maskM (belowP 16) A)) :=
    (Blocky.widen hT).add ((Blocky.widen hT).mul ((below_blocky 16 A).mul (Blocky.widen hT)))
  have h2 := widen_inv 32 (A := A) h1 hT2
  have e : maskM (sameP 16) A + maskM (belowP 16) A + maskM (belowP 32) A = A := by
    ext i j
    simp only [Matrix.add_apply, maskM]
    by_cases hij : i.val ≤ j.val
    · rw [hA i j hij]; simp
    · have hi := i.isLt
      by_cases h16 : sameP 16 i j
      · rw [if_pos h16, if_neg (by simp only [belowP, sameP] at *; omega), if_neg (by simp only [belowP, sameP] at *; omega)]; simp
      · by_cases h32 : belowP 16 i j
        · rw [if_neg h16, if_pos h32, if_neg (by simp only [belowP, sameP] at *; omega)]; simp
        · rw [if_neg h16, if_neg h32, if_pos (by simp only [belowP, sameP] at *; omega)]; simp
  rw [e] at h2
  exact h2

/-! ## The closed form of a chunk -/

/-- The decay exponents summed through token `t` (itself included). -/
def cum (lw : Fin 64 → Fin 64 → ℝ) (t d : Fin 64) : ℝ := ∑ s, if s.val ≤ t.val then lw s d else 0

/-- The decay exponents summed over the first `t` tokens. -/
def cumN (lw : Fin 64 → Fin 64 → ℝ) (t : ℕ) (d : Fin 64) : ℝ := ∑ s : Fin 64, if s.val < t then lw s d else 0

theorem cum_eq (lw : Fin 64 → Fin 64 → ℝ) (t d : Fin 64) : cum lw t d = cumN lw (t.val + 1) d := by
  refine sum_congr rfl fun s _ => ?_
  simp only [Nat.lt_succ_iff]

theorem sum_lt_succ (f : Fin 64 → ℝ) (t : ℕ) (h : t < 64) :
    (∑ s : Fin 64, if s.val < t + 1 then f s else 0) = (∑ s : Fin 64, if s.val < t then f s else 0) + f ⟨t, h⟩ := by
  have e : ∀ s : Fin 64, (if s.val < t + 1 then f s else 0)
      = (if s.val < t then f s else 0) + (if s = ⟨t, h⟩ then f ⟨t, h⟩ else 0) := by
    intro s
    by_cases hs : s = ⟨t, h⟩
    · subst hs; simp
    · have hne : s.val ≠ t := fun e => hs (Fin.ext e)
      by_cases hlt : s.val < t
      · rw [if_pos (by omega), if_pos hlt, if_neg hs, add_zero]
      · rw [if_neg (by omega), if_neg hlt, if_neg hs, add_zero]
  rw [sum_congr rfl fun s _ => e s, sum_add_distrib, sum_ite_eq' univ, if_pos (mem_univ _)]

theorem cumN_succ (lw : Fin 64 → Fin 64 → ℝ) (t : ℕ) (h : t < 64) (d : Fin 64) :
    cumN lw (t + 1) d = cumN lw t d + lw ⟨t, h⟩ d := sum_lt_succ (fun s => lw s d) t h

section Chunk

variable {W : ℕ} (r lw k kn kb : Fin 64 → Fin 64 → ℝ) (v : Matrix (Fin 64) (Fin W) ℝ) (n0 : Matrix (Fin 64) (Fin W) ℝ)

/-- The correction's reading key, with the decay before its token. -/
def atM : Sq := fun t d => -kn t d * Real.exp (cum lw t d - lw t d)
/-- The correction's key, with the decay through its token divided out. -/
def btM : Sq := fun t d => kb t d * Real.exp (-cum lw t d)
/-- The write's key, likewise. -/
def ktM : Sq := fun t d => k t d * Real.exp (-cum lw t d)
/-- The reading key, with the decay through its token. -/
def rtM : Sq := fun t d => r t d * Real.exp (cum lw t d)
/-- The correction's key, with the decay from its token to the end. -/
def blM : Sq := fun t d => kb t d * Real.exp (cum lw 63 d - cum lw t d)
/-- The write's key, likewise. -/
def klM : Sq := fun t d => k t d * Real.exp (cum lw 63 d - cum lw t d)
/-- The whole chunk's decay. -/
def ptV : Fin 64 → ℝ := fun d => Real.exp (cum lw 63 d)

/-- The corrections' coupling. -/
def aab : Sq := maskM strictP (atM lw kn * (btM lw kb)ᵀ)
/-- The writes' effect on the corrections. -/
def aak : Sq := maskM strictP (atM lw kn * (ktM lw k)ᵀ)
/-- The corrections' effect on the outputs. -/
def arb : Sq := maskM inclP (rtM r lw * (btM lw kb)ᵀ)
/-- The writes' effect on the outputs. -/
def ark : Sq := maskM inclP (rtM r lw * (ktM lw k)ᵀ)

/-- The corrections of all tokens. -/
def corr : Matrix (Fin 64) (Fin W) ℝ := solve (aab lw kn kb) * (atM lw kn * n0 + aak lw k kn * v)

/-- The closed form's outputs. -/
def chunkOut : Matrix (Fin 64) (Fin W) ℝ :=
  rtM r lw * n0 + ark r lw k * v + arb r lw kb * corr lw k kn kb v n0

/-- The closed form's final state, channels by value columns. -/
def chunkState : Matrix (Fin 64) (Fin W) ℝ :=
  (blM lw kb)ᵀ * corr lw k kn kb v n0 + (Matrix.diagonal (ptV lw) * n0 + (klM lw k)ᵀ * v)

theorem corr_fix : corr lw k kn kb v n0
    = atM lw kn * n0 + aak lw k kn * v + aab lw kn kb * corr lw k kn kb v n0 := by
  have hA : ∀ i j : Fin 64, i.val ≤ j.val → aab lw kn kb i j = 0 := fun i j h => if_neg (by simp only [strictP]; omega)
  have h := congrArg (· * (atM lw kn * n0 + aak lw k kn * v)) (solve_inv hA)
  simp only [Matrix.mul_assoc, Matrix.one_mul] at h
  rw [Matrix.sub_mul, Matrix.one_mul] at h
  exact (sub_eq_iff_eq_add.mp h)

/-- The state after `t` tokens in closed form. -/
def closedState (t : ℕ) (c : Fin W) (d : Fin 64) : ℝ :=
  Real.exp (cumN lw t d) * (n0 d c + ∑ s : Fin 64, if s.val < t then
    btM lw kb s d * corr lw k kn kb v n0 s c + ktM lw k s d * v s c else 0)

theorem masked_mul (p : Fin 64 → Fin 64 → Prop) [∀ i j, Decidable (p i j)] (A B : Sq) (C : Matrix (Fin 64) (Fin W) ℝ)
    (i : Fin 64) (c : Fin W) :
    (maskM p (A * Bᵀ) * C) i c = ∑ d, A i d * ∑ s, if p i s then B s d * C s c else 0 := by
  simp only [mul_apply, maskM, transpose_apply, mul_sum]
  rw [sum_comm]
  refine sum_congr rfl fun s _ => ?_
  by_cases h : p i s
  · simp only [if_pos h, sum_mul]
    exact sum_congr rfl fun d _ => by ring
  · simp [if_neg h]

theorem read_closed (p : Fin 64 → Fin 64 → Prop) [∀ i j, Decidable (p i j)] (A : Sq) (t : Fin 64) (c : Fin W) :
    (∑ d, A t d * (n0 d c + ∑ s : Fin 64, if p t s then
      btM lw kb s d * corr lw k kn kb v n0 s c + ktM lw k s d * v s c else 0))
    = (A * n0 + maskM p (A * (ktM lw k)ᵀ) * v + maskM p (A * (btM lw kb)ᵀ) * corr lw k kn kb v n0) t c := by
  rw [Matrix.add_apply, Matrix.add_apply, masked_mul, masked_mul, mul_apply, ← sum_add_distrib, ← sum_add_distrib]
  refine sum_congr rfl fun d _ => ?_
  rw [← mul_add, ← mul_add]
  congr 1
  rw [add_assoc, ← sum_add_distrib]
  congr 1
  refine sum_congr rfl fun s _ => ?_
  by_cases h : p t s
  · simp only [if_pos h]; ring
  · simp [if_neg h]

theorem scan_closed (t : ℕ) (ht : t ≤ 64) (c : Fin W) (d : Fin 64) :
    scanState lw k kn kb v (fun c d => n0 d c) t c d = closedState lw k kn kb v n0 t c d := by
  induction t generalizing c d with
  | zero => simp [scanState, closedState, cumN]
  | succ t ih =>
    have h : t < 64 := by omega
    have hu : (∑ e, scanState lw k kn kb v (fun c d => n0 d c) t c e * -kn ⟨t, h⟩ e)
        = corr lw k kn kb v n0 ⟨t, h⟩ c := by
      rw [corr_fix]
      show _ = (atM lw kn * n0 + maskM strictP (atM lw kn * (ktM lw k)ᵀ) * v
        + maskM strictP (atM lw kn * (btM lw kb)ᵀ) * corr lw k kn kb v n0) ⟨t, h⟩ c
      rw [← read_closed lw k kn kb v n0 strictP (atM lw kn) ⟨t, h⟩ c]
      refine sum_congr rfl fun e _ => ?_
      rw [ih (by omega), closedState, atM, cum_eq, cumN_succ lw t h e, add_sub_cancel_right]
      ring
    rw [scanState_succ lw k kn kb v _ t h, hu, ih (by omega), closedState, closedState, sum_lt_succ _ t h, cumN_succ lw t h,
      Real.exp_add, btM, ktM, cum_eq, cumN_succ lw t h, Real.exp_neg, Real.exp_add]
    have h1 := Real.exp_ne_zero (cumN lw t d)
    have h2 := Real.exp_ne_zero (lw ⟨t, h⟩ d)
    field_simp
    ring

/-- THE OUTPUTS: the closed form's row `t` is the recurrence's output at token `t`. -/
theorem chunk_out (t : Fin 64) (c : Fin W) :
    scanOut r lw k kn kb v (fun c d => n0 d c) t c = chunkOut r lw k kn kb v n0 t c := by
  rw [chunkOut]
  show _ = (rtM r lw * n0 + maskM inclP (rtM r lw * (ktM lw k)ᵀ) * v
        + maskM inclP (rtM r lw * (btM lw kb)ᵀ) * corr lw k kn kb v n0) t c
  rw [← read_closed lw k kn kb v n0 inclP (rtM r lw) t c]
  refine sum_congr rfl fun d _ => ?_
  rw [scan_closed _ _ _ _ _ _ _ (by omega), closedState, rtM, cum_eq]
  simp only [Nat.lt_succ_iff, inclP]
  ring

/-- THE STATE: the closed form's final state is the recurrence's after 64 tokens. -/
theorem chunk_state (d : Fin 64) (c : Fin W) :
    scanState lw k kn kb v (fun c d => n0 d c) 64 c d = chunkState lw k kn kb v n0 d c := by
  rw [scan_closed _ _ _ _ _ _ _ le_rfl, closedState, chunkState]
  have e63 : cumN lw 64 d = cum lw 63 d := (cum_eq lw 63 d).symm
  simp only [Matrix.add_apply, diagonal_mul]
  simp only [mul_apply, transpose_apply, e63, Fin.is_lt, if_true]
  rw [mul_add, mul_sum, add_left_comm, ← sum_add_distrib]
  refine congrArg₂ (· + ·) rfl (sum_congr rfl fun s _ => ?_)
  rw [blM, klM, btM, ktM, Real.exp_sub, Real.exp_neg]
  ring

end Chunk

end Cert.Proof.ChunkMath

end
-- ==== Proof.ChunkMask.lean ====
/- The masks of `ChunkUnit.lean`, position by position. -/
module

public import proofs.«01_k».proof.Proof.ChunkUnit
public import proofs.«01_k».proof.Proof.ChunkMath
public import Idealize.ShloMosaic.Lib.ValueIdx

@[expose] public section

set_option maxRecDepth 16384

noncomputable section

namespace Cert.Proof.Chunk

open Idealize.ShloMosaic
open Idealize.ShloMosaic.ValueIdx
open Cert.KernelIdeal Cert.KernelIdeal.Gen
open Cert.Proof.ChunkMath

theorem strictV_apply : ∀ i j : Fin 64, strictV (ix2 i j) = if strictP i j then 1#1 else 0#1 := by decide +kernel
theorem inclV_apply : ∀ i j : Fin 64, inclV (ix2 i j) = if inclP i j then 1#1 else 0#1 := by decide +kernel
theorem sameV_apply : ∀ i j : Fin 64, sameV (ix2 i j) = if sameP 16 i j then 1#1 else 0#1 := by decide +kernel
theorem below16_apply : ∀ i j : Fin 64, belowV 16#32 32#32 (ix2 i j) = if belowP 16 i j then 1#1 else 0#1 := by decide +kernel
theorem below32_apply : ∀ i j : Fin 64, belowV 32#32 64#32 (ix2 i j) = if belowP 32 i j then 1#1 else 0#1 := by decide +kernel
theorem eyeI_apply : ∀ i j : Fin 64, (extui 32 (cmpi .eq rowI colI) natLt_1_32 : IVec S64x64 32) (ix2 i j) = if i = j then 1#32 else 0#32 := by
  decide +kernel
theorem triI_apply : ∀ i j : Fin 64, (extui 32 inclV natLt_1_32 : IVec S64x64 32) (ix2 i j) = if inclP i j then 1#32 else 0#32 := by
  decide +kernel

end Cert.Proof.Chunk

end
-- ==== Proof.ChunkReal.lean ====
/- The unit of `ChunkUnit.lean` on real inputs. `cv M` is the vector holding the real matrix `M`; each operation of the unit
   takes such vectors to such vectors, and the two results are the closed form of `ChunkMath.lean` for the incoming state
   "identity, then zero" and the values "zero, then the head's values". -/
module

public import proofs.«01_k».proof.Proof.ChunkUnit
public import proofs.«01_k».proof.Proof.ChunkMath
public import proofs.«01_k».proof.Proof.ChunkMask
public import Idealize.ShloMosaic.Lib.MatmulPlain
public import Idealize.ShloMosaic.Lib.Pointwise
public import Idealize.ShloMosaic.Lib.ValueIdx
public import Idealize.ShloMosaic.Lib.ValueLayout
public import Idealize.ShloMosaic.Lib.IdealHost

@[expose] public section

set_option maxRecDepth 16384

noncomputable section

namespace Cert.Proof.Chunk

open Idealize.ShloMosaic hiding ix2 eq_ix2
open Idealize.ShloMosaic.ValueIdx
open Cert.KernelIdeal Cert.KernelIdeal.Gen
open Cert.Proof.ChunkMath Matrix

/-! ## Vectors that hold real matrices -/

/-- The vector holding `M`. -/
def cv {a b : ℕ} (M : Matrix (Fin a) (Fin b) ℝ) : (⟨2, ![a, b]⟩ : Shape).Idx → EReal := fun i => ((M (i 0) (i 1) : ℝ) : EReal)

theorem cv_apply {a b : ℕ} (M : Matrix (Fin a) (Fin b) ℝ) (i : Fin a) (j : Fin b) : cv M (ix2 i j) = ((M i j : ℝ) : EReal) := rfl

theorem ext2 {a b : ℕ} {β : Type} {f g : (⟨2, ![a, b]⟩ : Shape).Idx → β} (h : ∀ i j, f (ix2 i j) = g (ix2 i j)) : f = g := by
  funext x
  rw [eq_ix2 x]
  exact h _ _

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_dot {n : ℕ} (f g : Fin n → ℝ) :
    Ideal.ofBits .f32 0x00000000#32 + ∑ k, ((f k : ℝ) : EReal) * ((g k : ℝ) : EReal) = ((∑ k, f k * g k : ℝ) : EReal) := by
  rw [Ideal.ofBits_zero_f32, zero_add, ← coe_sum]
  exact Finset.sum_congr rfl fun k _ => (EReal.coe_mul _ _).symm

/-- `A` above `B`. -/
def rowsM {a b n : ℕ} (A : Matrix (Fin a) (Fin n) ℝ) (B : Matrix (Fin b) (Fin n) ℝ) : Matrix (Fin (a + b)) (Fin n) ℝ :=
  Matrix.of fun i j => if h : i.val < a then A ⟨i.val, h⟩ j else B ⟨i.val - a, by omega⟩ j
/-- `A` left of `B`. -/
def colsM (A B : Sq) : Matrix (Fin 64) (Fin 128) ℝ :=
  Matrix.of fun i j => if h : j.val < 64 then A i ⟨j.val, h⟩ else B i ⟨j.val - 64, by omega⟩

variable (A B : Sq)

theorem mm_cv : mm (F := Ideal) (cv A) (cv B) = cv (A * B) := ext2 fun i j =>
  (Ideal.matmul_plain_apply (M := 64) (K := 64) (N := 64) none (cv A) (cv B) _ i j).trans (coe_dot _ _)

theorem mmWide_cv (B : Matrix (Fin 64) (Fin 128) ℝ) : mmWide (F := Ideal) (cv A) (cv B) = cv (A * B) := ext2 fun i j =>
  (Ideal.matmul_plain_apply (M := 64) (K := 64) (N := 128) none (cv A) (cv B) _ i j).trans (coe_dot _ _)

theorem mmTall_cv (A : Matrix (Fin 128) (Fin 64) ℝ) :
    matmul (F := Ideal) dot_S128x64_S64x64_S128x64_1_0_0_1_n_n none (lo (cv A)) (lo (cv B)) (constant S128x64 .f32 0x00000000#32)
      = cv (A * B) := ext2 fun i j =>
  (Ideal.matmul_plain_apply (M := 128) (K := 64) (N := 64) none (cv A) (cv B) _ i j).trans (coe_dot _ _)

theorem mmT_cv (A B : Matrix (Fin 128) (Fin 64) ℝ) :
    matmul (F := Ideal) dot_S128x64_S128x64_S128x128_1_1_0_0_n_n none (lo (cv A)) (lo (cv B)) (constant S128x128 .f32 0x00000000#32)
      = cv (A * Bᵀ) := ext2 fun i j =>
  (Ideal.matmul_transposedRhs_apply (M := 128) (K := 64) (N := 128) none (cv A) (cv B) _ i j).trans (coe_dot _ _)

theorem tmm_cv :
    matmul (F := Ideal) dot_S64x64_S64x64_S64x64_0_0_1_1_n_n none (lo (cv A)) (lo (cv B)) (constant S64x64 .f32 0x00000000#32)
      = cv (Aᵀ * B) := ext2 fun i j =>
  (Ideal.matmul_apply₁_of dot_S64x64_S64x64_S64x64_0_0_1_1_n_n (a := 0) rfl (K := 64) rfl (cv A) (cv B) _ (ix2 i j)
    (fun k => ix2 k i) (fun k => ix2 k j) (fun k => by funext a; fin_cases a <;> rfl) (fun k => by funext a; fin_cases a <;> rfl)).trans
    (coe_dot _ _)

theorem tmmWide_cv (B : Matrix (Fin 64) (Fin 128) ℝ) :
    matmul (F := Ideal) dot_S64x64_S64x128_S64x128_0_0_1_1_n_n none (lo (cv A)) (lo (cv B)) (constant S64x128 .f32 0x00000000#32)
      = cv (Aᵀ * B) := ext2 fun i j =>
  (Ideal.matmul_apply₁_of dot_S64x64_S64x128_S64x128_0_0_1_1_n_n (a := 0) rfl (K := 64) rfl (cv A) (cv B) _ (ix2 i j)
    (fun k => ix2 k i) (fun k => ix2 k j) (fun k => by funext a; fin_cases a <;> rfl) (fun k => by funext a; fin_cases a <;> rfl)).trans
    (coe_dot _ _)

theorem addf_cv {a b : ℕ} (A B : Matrix (Fin a) (Fin b) ℝ) :
    addf (F := Ideal) (φ := .f32) (s := ⟨2, ![a, b]⟩) (cv A) (cv B) = cv (A + B) := funext fun _ => (EReal.coe_add _ _).symm

theorem subf_cv {a b : ℕ} (A B : Matrix (Fin a) (Fin b) ℝ) :
    subf (F := Ideal) (φ := .f32) (s := ⟨2, ![a, b]⟩) (cv A) (cv B) = cv (A - B) := funext fun _ => (EReal.coe_sub _ _).symm

theorem mulf_cv {a b : ℕ} (A B : Matrix (Fin a) (Fin b) ℝ) :
    mulf (F := Ideal) (φ := .f32) (s := ⟨2, ![a, b]⟩) (cv A) (cv B) = cv (Matrix.of fun i j => A i j * B i j) :=
  funext fun _ => (EReal.coe_mul _ _).symm

theorem exp_cv {a b : ℕ} (A : Matrix (Fin a) (Fin b) ℝ) :
    exp (F := Ideal) (φ := .f32) (s := ⟨2, ![a, b]⟩) (cv A) = cv (Matrix.of fun i j => Real.exp (A i j)) :=
  funext fun _ => rfl

theorem zeroMinus_cv (A : Matrix (Fin 64) (Fin 512) ℝ) : zeroMinus (F := Ideal) (cv A) = cv (-A) := funext fun i => by
  show Ideal.ofBits .f32 0x00000000#32 - ((A (i 0) (i 1) : ℝ) : EReal) = ((-A (i 0) (i 1) : ℝ) : EReal)
  rw [Ideal.ofBits_zero_f32, zero_sub, EReal.coe_neg]

theorem cat0_cv : cat0 (F := Ideal) (cv A) (cv B) = cv (rowsM A B) := ext2 fun i j => by
  by_cases h : i.val < 64
  · refine (concatenate_pair_apply_left (t := S128x64) 0 (cv A) (cv B) _ (ix2 i j) rfl (ix2 ⟨i.val, h⟩ j) (fun b => by fin_cases b <;> rfl)).trans ?_
    exact congrArg (fun x : ℝ => (x : EReal)) (dif_pos h : rowsM A B i j = _).symm
  · refine (concatenate_pair_apply_right (t := S128x64) 0 (cv A) (cv B) _ (ix2 i j) rfl rfl (ix2 ⟨i.val - 64, by omega⟩ j)
      (fun b hb => by fin_cases b; exacts [absurd rfl hb, rfl]) (show i.val - 64 + 64 = i.val by omega)).trans ?_
    exact congrArg (fun x : ℝ => (x : EReal)) (dif_neg h : rowsM A B i j = _).symm

theorem cat1_cv : cat1 (F := Ideal) (cv A) (cv B) = cv (colsM A B) := ext2 fun i j => by
  by_cases h : j.val < 64
  · refine (concatenate_pair_apply_left (t := S64x128) 1 (cv A) (cv B) _ (ix2 i j) rfl (ix2 i ⟨j.val, h⟩) (fun b => by fin_cases b <;> rfl)).trans ?_
    exact congrArg (fun x : ℝ => (x : EReal)) (dif_pos h : colsM A B i j = _).symm
  · refine (concatenate_pair_apply_right (t := S64x128) 1 (cv A) (cv B) _ (ix2 i j) rfl rfl (ix2 i ⟨j.val - 64, by omega⟩)
      (fun b hb => by fin_cases b; exacts [rfl, absurd rfl hb]) (show j.val - 64 + 64 = j.val by omega)).trans ?_
    exact congrArg (fun x : ℝ => (x : EReal)) (dif_neg h : colsM A B i j = _).symm

/-- A block of a matrix. -/
theorem slice_cv {a b m n : ℕ} (M : Matrix (Fin a) (Fin b) ℝ) (o p : ℕ)
    (h : (⟨2, ![a, b]⟩ : Shape).Slices ![o, p] ⟨2, ![m, n]⟩) (N : Matrix (Fin m) (Fin n) ℝ)
    (hN : ∀ (i : Fin m) (j : Fin n) (i' : Fin a) (j' : Fin b), i'.val = o + i.val → j'.val = p + j.val → M i' j' = N i j) :
    extractStridedSlice ⟨2, ![m, n]⟩ ![o, p] (cv M) h = cv N := ext2 fun i j => by
  have h0 : o + m ≤ a := h.2 0
  have h1 : p + n ≤ b := h.2 1
  rw [extractStridedSlice_apply ![o, p] (cv M) h (ix2 i j) (ix2 ⟨o + i.val, by omega⟩ ⟨p + j.val, by omega⟩)
    (fun q => by fin_cases q <;> rfl), cv_apply, cv_apply, hN i j _ _ rfl rfl]

/-- Column `d` of head `h`. -/
def hd (h : ℕ) (d : Fin 64) : Fin 512 := ⟨h % 8 * 64 + d.val, by omega⟩

/-- Head `h`'s columns of a matrix. -/
def hM (h : ℕ) (M : Matrix (Fin 64) (Fin 512) ℝ) : Sq := Matrix.of fun t d => M t (hd h d)

theorem headOf_cv (h : ℕ) (M : Matrix (Fin 64) (Fin 512) ℝ) :
    headOf (F := Ideal) h (cv M) = cv (hM h M) :=
  slice_cv M 0 _ _ _ fun i j i' j' hi hj => by
    rw [show i' = i from Fin.ext (by omega), show j' = hd h j from Fin.ext hj]
    rfl

/-! ## Masks -/

theorem keep_cv (p : IVec S64x64 1) (q : Fin 64 → Fin 64 → Prop) [∀ i j, Decidable (q i j)]
    (hp : ∀ i j, p (ix2 i j) = if q i j then 1#1 else 0#1) : keep (F := Ideal) p (cv A) = cv (maskM q A) := ext2 fun i j => by
  rw [keep, select_apply, hp, cv_apply]
  show _ = ((if q i j then A i j else 0 : ℝ) : EReal)
  by_cases h : q i j
  · rw [if_pos h, if_pos h]; rfl
  · rw [if_neg h, if_neg h]
    exact Ideal.ofBits_zero_f32

theorem eyeV_cv : eyeV (F := Ideal) = cv (1 : Sq) := ext2 fun i j => by
  rw [eyeV, sitofp_apply, eyeI_apply, cv_apply, Matrix.one_apply]
  by_cases h : i = j
  · rw [if_pos h, if_pos h]; show (((1#32).toInt : ℝ) : EReal) = _; norm_num
  · rw [if_neg h, if_neg h]; show (((0#32).toInt : ℝ) : EReal) = _; norm_num

theorem triV_cv : triV (F := Ideal) = cv (maskM inclP (Matrix.of fun _ _ => 1)) := ext2 fun i j => by
  show ((((extui 32 inclV natLt_1_32 : IVec S64x64 32) (ix2 i j)).toInt : ℝ) : EReal) = _
  rw [triI_apply, cv_apply]
  show _ = ((if inclP i j then 1 else 0 : ℝ) : EReal)
  by_cases h : inclP i j
  · rw [if_pos h, if_pos h]; norm_num
  · rw [if_neg h, if_neg h]; norm_num

/-! ## The decays of a head -/

section Heads

variable (R L K V N B : Matrix (Fin 64) (Fin 512) ℝ) (h : ℕ)

/-- The running sums of all columns. -/
def csM : Matrix (Fin 64) (Fin 512) ℝ := Matrix.of fun t d => ∑ s, if s.val ≤ t.val then L s d else 0

theorem csM_head (t d : Fin 64) : csM L t (hd h d) = cum (hM h L) t d := rfl

theorem triMul_cv (M : Matrix (Fin 64) (Fin 512) ℝ) : triMul (F := Ideal) (cv M) = cv (csM M) := ext2 fun i j => by
  rw [triMul, triV_cv]
  refine (Ideal.matmul_plain_apply (M := 64) (K := 64) (N := 512) (φ₁ := .bf16) (φ₂ := .bf16) none _ (cv M) _ i j).trans ((coe_dot _ _).trans ?_)
  rw [cv_apply]
  refine congrArg (fun x : ℝ => (x : EReal)) ?_
  show ∑ s, maskM inclP (Matrix.of fun _ _ => 1) i s * M s j = ∑ s, if s.val ≤ i.val then M s j else 0
  refine Finset.sum_congr rfl fun s _ => ?_
  show (if inclP i s then (1 : ℝ) else 0) * M s j = if s.val ≤ i.val then M s j else 0
  rw [ite_mul, one_mul, zero_mul]

theorem csV_cv : csV (F := Ideal) (cv L) = cv (csM L) := by
  have e0 : subf (F := Ideal) (φ := .f32) (s := S64x512) (cv L) (cv L) = cv (0 : Matrix (Fin 64) (Fin 512) ℝ) := by
    rw [subf_cv, sub_self]
  have e1 : subf (F := Ideal) (φ := .f32) (s := S64x512) (cv (0 : Matrix (Fin 64) (Fin 512) ℝ)) (cv (0 : Matrix (Fin 64) (Fin 512) ℝ))
      = cv (0 : Matrix (Fin 64) (Fin 512) ℝ) := by
    rw [subf_cv, sub_self]
  show addf (F := Ideal) (φ := .f32) (addf (addf (broadcast S64x512 (Scalar.ofBits (F := Ideal) .f32 0x00000000#32))
      (triMul (cv L))) (triMul (subf (F := Ideal) (φ := .f32) (s := S64x512) (cv L) (cv L))))
      (triMul (subf (F := Ideal) (φ := .f32) (s := S64x512) (subf (F := Ideal) (φ := .f32) (s := S64x512) (cv L) (cv L))
          (subf (F := Ideal) (φ := .f32) (s := S64x512) (cv L) (cv L)))) = _
  rw [e0, e1, triMul_cv, triMul_cv]
  have z : csM 0 = 0 := by
    ext t d
    simp [csM]
  have b0 : (broadcast S64x512 (Scalar.ofBits (F := Ideal) .f32 0x00000000#32) : FVec Ideal S64x512 .f32)
      = cv (0 : Matrix (Fin 64) (Fin 512) ℝ) := funext fun _ => Ideal.ofBits_zero_f32
  rw [z, b0, addf_cv, addf_cv, addf_cv, zero_add, add_zero, add_zero]

theorem atV_cv : headOf h (atV (F := Ideal) (cv L) (cv N)) = cv (atM (hM h L) (hM h N)) := by
  rw [atV, csV_cv, zeroMinus_cv, subf_cv, exp_cv, mulf_cv, headOf_cv]
  rfl

theorem invV_cv : headOf h (invV (F := Ideal) (cv L) (cv B)) = cv (btM (hM h L) (hM h B)) := by
  rw [invV, csV_cv, zeroMinus_cv, exp_cv, mulf_cv, headOf_cv]
  rfl

theorem rtV_cv : headOf h (rtV (F := Ideal) (cv L) (cv R)) = cv (rtM (hM h R) (hM h L)) := by
  rw [rtV, csV_cv, exp_cv, mulf_cv, headOf_cv]
  rfl

theorem lastRow_cv : lastRow (F := Ideal) (cv L) = cv (Matrix.of fun (_ : Fin 1) d => L 63 d) :=
  slice_cv L 63 0 _ _ fun i j i' j' hi hj => by
    rw [show i' = 63 from Fin.ext (by rw [hi]; simp), show j' = j from Fin.ext (by omega)]
    rfl

theorem spread_cv {b : ℕ} (M : Matrix (Fin 1) (Fin b) ℝ) (hb : (⟨2, ![1, b]⟩ : Shape).Broadcasts ⟨2, ![64, b]⟩) :
    broadcastTo ⟨2, ![64, b]⟩ (cv M) hb = cv (Matrix.of fun (_ : Fin 64) d => M 0 d) := ext2 fun i j => by
  rw [broadcastTo_1b_ab_apply]; rfl

theorem endV_cv : headOf h (endV (F := Ideal) (cv L) (cv B)) = cv (blM (hM h L) (hM h B)) := by
  rw [endV, csV_cv, lastRow_cv, spread_cv, subf_cv, exp_cv, mulf_cv, headOf_cv]
  rfl

theorem ptotV_cv : broadcastTo S64x64 (extractStridedSlice S1x64 ![0, h % 8 * 64] (ptotV (F := Ideal) (cv L)) (headRow_slices h))
    broadcasts_S1x64_S64x64 = cv (Matrix.of fun (_ : Fin 64) d => ptV (hM h L) d) := by
  rw [ptotV, csV_cv, lastRow_cv, exp_cv]
  rw [slice_cv (N := Matrix.of fun (_ : Fin 1) d => ptV (hM h L) d), spread_cv]
  · rfl
  intro i j i' j' hi hj
  rw [show j' = hd h j from Fin.ext hj]
  rfl

/-! ## The two results -/

theorem solveV_cv (A : Sq) : solveV (F := Ideal) (cv A) = cv (solve A) := by
  simp only [solveV, keep_cv _ _ _ sameV_apply, keep_cv _ _ _ below16_apply, keep_cv _ _ _ below32_apply, eyeV_cv, addf_cv, mm_cv]
  rfl

theorem coup_cv : coup (F := Ideal) (cv R) (cv L) (cv K) (cv N) (cv B) h
    = cv (rowsM (atM (hM h L) (hM h N)) (rtM (hM h R) (hM h L)) * (rowsM (btM (hM h L) (hM h B)) (ktM (hM h L) (hM h K)))ᵀ) := by
  rw [coup, atV_cv, rtV_cv, invV_cv, invV_cv, cat0_cv, cat0_cv, mmT_cv]
  rfl

/-- A block of a product of stacked matrices. -/
theorem stack_mul (A B C D : Sq) (i j : Fin 64) (i' j' : Fin (64 + 64)) :
    (i'.val = 0 + i.val → j'.val = 0 + j.val → (rowsM A B * (rowsM C D)ᵀ) i' j' = (A * Cᵀ) i j) ∧
    (i'.val = 0 + i.val → j'.val = 64 + j.val → (rowsM A B * (rowsM C D)ᵀ) i' j' = (A * Dᵀ) i j) ∧
    (i'.val = 64 + i.val → j'.val = 0 + j.val → (rowsM A B * (rowsM C D)ᵀ) i' j' = (B * Cᵀ) i j) ∧
    (i'.val = 64 + i.val → j'.val = 64 + j.val → (rowsM A B * (rowsM C D)ᵀ) i' j' = (B * Dᵀ) i j) := by
  have lo (X Y : Sq) (a : Fin 64) (a' : Fin (64 + 64)) (e : a'.val = 0 + a.val) (k : Fin 64) : rowsM X Y a' k = X a k := by
    rw [rowsM, Matrix.of_apply, dif_pos (by omega : a'.val < 64)]
    exact congrArg (X · k) (Fin.ext (by simp [e]))
  have hi (X Y : Sq) (a : Fin 64) (a' : Fin (64 + 64)) (e : a'.val = 64 + a.val) (k : Fin 64) : rowsM X Y a' k = Y a k := by
    rw [rowsM, Matrix.of_apply, dif_neg (by omega : ¬ a'.val < 64)]
    exact congrArg (Y · k) (Fin.ext (by simp [e]))
  refine ⟨fun e f => ?_, fun e f => ?_, fun e f => ?_, fun e f => ?_⟩ <;>
    simp only [Matrix.mul_apply, Matrix.transpose_apply]
  · simp only [lo _ _ _ _ e, lo _ _ _ _ f]
  · simp only [lo _ _ _ _ e, hi _ _ _ _ f]
  · simp only [hi _ _ _ _ e, lo _ _ _ _ f]
  · simp only [hi _ _ _ _ e, hi _ _ _ _ f]

theorem aabV_cv : aabV (F := Ideal) (cv R) (cv L) (cv K) (cv N) (cv B) h = cv (aab (hM h L) (hM h N) (hM h B)) := by
  rw [aabV, coup_cv, slice_cv (N := atM (hM h L) (hM h N) * (btM (hM h L) (hM h B))ᵀ), keep_cv _ _ _ strictV_apply]
  · rfl
  · exact fun i j i' j' => (stack_mul _ _ _ _ i j i' j').1

theorem aakV_cv : aakV (F := Ideal) (cv R) (cv L) (cv K) (cv N) (cv B) h = cv (aak (hM h L) (hM h K) (hM h N)) := by
  rw [aakV, coup_cv, slice_cv (N := atM (hM h L) (hM h N) * (ktM (hM h L) (hM h K))ᵀ), keep_cv _ _ _ strictV_apply]
  · rfl
  · exact fun i j i' j' => (stack_mul _ _ _ _ i j i' j').2.1

theorem arbV_cv : arbV (F := Ideal) (cv R) (cv L) (cv K) (cv N) (cv B) h = cv (arb (hM h R) (hM h L) (hM h B)) := by
  rw [arbV, coup_cv, slice_cv (N := rtM (hM h R) (hM h L) * (btM (hM h L) (hM h B))ᵀ), keep_cv _ _ _ inclV_apply]
  · rfl
  · exact fun i j i' j' => (stack_mul _ _ _ _ i j i' j').2.2.1

theorem arkV_cv : arkV (F := Ideal) (cv R) (cv L) (cv K) (cv N) (cv B) h = cv (ark (hM h R) (hM h L) (hM h K)) := by
  rw [arkV, coup_cv, slice_cv (N := rtM (hM h R) (hM h L) * (ktM (hM h L) (hM h K))ᵀ), keep_cv _ _ _ inclV_apply]
  · rfl
  · exact fun i j i' j' => (stack_mul _ _ _ _ i j i' j').2.2.2

theorem avV_cv : avV (F := Ideal) (cv R) (cv L) (cv K) (cv V) (cv N) (cv B) h
    = cv (rowsM (aak (hM h L) (hM h K) (hM h N) * hM h V) (ark (hM h R) (hM h L) (hM h K) * hM h V)) := by
  rw [avV, aakV_cv, arkV_cv, headOf_cv, cat0_cv]
  refine (mmTall_cv _ _).trans (congrArg cv ?_)
  ext i j
  by_cases c : i.val < 64 <;> simp only [rowsM, Matrix.of_apply, Matrix.mul_apply, c, dite_true, dite_false]

theorem avTop_cv : extractStridedSlice S64x64 ![0, 0] (avV (F := Ideal) (cv R) (cv L) (cv K) (cv V) (cv N) (cv B) h) slices_S128x64_o0_0_S64x64
    = cv (aak (hM h L) (hM h K) (hM h N) * hM h V) := by
  rw [avV_cv]
  refine slice_cv _ 0 0 _ _ fun i j i' j' e f => ?_
  rw [rowsM, Matrix.of_apply, dif_pos (by omega : i'.val < 64), show j' = j from Fin.ext (by omega)]
  exact congrArg (fun a => (aak (hM h L) (hM h K) (hM h N) * hM h V) a j) (Fin.ext (by simp [e]))

theorem avBot_cv : extractStridedSlice S64x64 ![64, 0] (avV (F := Ideal) (cv R) (cv L) (cv K) (cv V) (cv N) (cv B) h) slices_S128x64_o64_0_S64x64
    = cv (ark (hM h R) (hM h L) (hM h K) * hM h V) := by
  rw [avV_cv]
  refine slice_cv _ 64 0 _ _ fun i j i' j' e f => ?_
  rw [rowsM, Matrix.of_apply, dif_neg (by omega : ¬ i'.val < 64), show j' = j from Fin.ext (by omega)]
  exact congrArg (fun a => (ark (hM h R) (hM h L) (hM h K) * hM h V) a j) (Fin.ext (by simp [e]))

/-- The incoming state: the identity, then zero. -/
def start : Matrix (Fin 64) (Fin 128) ℝ := colsM 1 0
/-- The values: zero, then the head's values. -/
def padded (X : Sq) : Matrix (Fin 64) (Fin 128) ℝ := colsM 0 X

theorem cols_mul (X Y Z : Sq) : X * colsM Y Z = colsM (X * Y) (X * Z) := by
  ext i j
  by_cases c : j.val < 64 <;> simp only [colsM, Matrix.of_apply, Matrix.mul_apply, c, dite_true, dite_false]

theorem cols_add (X Y Z W : Sq) : colsM X Y + colsM Z W = colsM (X + Z) (Y + W) := by
  ext i j
  by_cases c : j.val < 64 <;> simp only [colsM, Matrix.of_apply, Matrix.add_apply, c, dite_true, dite_false]

theorem affine (X Y Z : Sq) : X * start + Y * padded Z = colsM X (Y * Z) := by
  rw [start, padded, cols_mul, cols_mul, cols_add, Matrix.mul_one, Matrix.mul_zero, Matrix.mul_zero, add_zero, zero_add]

theorem wuV_cv : wuV (F := Ideal) (cv R) (cv L) (cv K) (cv V) (cv N) (cv B) h
    = cv (corr (hM h L) (hM h K) (hM h N) (hM h B) (padded (hM h V)) start) := by
  rw [wuV, aabV_cv, solveV_cv, atV_cv, avTop_cv, cat1_cv, mmWide_cv]
  exact congrArg cv (congrArg (_ * ·) (affine _ _ _).symm)

theorem unitTop_cv : unitTop (F := Ideal) (cv R) (cv L) (cv K) (cv V) (cv N) (cv B) h
    = cv (chunkOut (hM h R) (hM h L) (hM h K) (hM h N) (hM h B) (padded (hM h V)) start) := by
  rw [unitTop, wuV_cv, arbV_cv, rtV_cv, avBot_cv, cat1_cv, mmWide_cv, ← affine]
  exact addf_cv _ _

theorem diag_cv (p : Fin 64 → ℝ) :
    mulf (F := Ideal) (φ := .f32) (s := S64x64) (cv (1 : Sq)) (cv (Matrix.of fun (_ : Fin 64) d => p d)) = cv (Matrix.diagonal p) := by
  refine (mulf_cv (1 : Sq) _).trans (congrArg cv ?_)
  ext i j
  show (1 : Sq) i j * p j = Matrix.diagonal p i j
  rw [Matrix.one_apply, Matrix.diagonal_apply, ite_mul, one_mul, zero_mul]
  by_cases c : i = j
  · rw [if_pos c, if_pos c, c]
  · rw [if_neg c, if_neg c]

theorem unitBot_cv : unitBot (F := Ideal) (cv R) (cv L) (cv K) (cv V) (cv N) (cv B) h
    = cv (chunkState (hM h L) (hM h K) (hM h N) (hM h B) (padded (hM h V)) start) := by
  rw [unitBot, kvV, wuV_cv, ptotV_cv, endV_cv, endV_cv, headOf_cv, eyeV_cv, diag_cv, tmm_cv, cat1_cv, tmmWide_cv, ← affine]
  exact addf_cv _ _

end Heads

end Cert.Proof.Chunk

end
-- ==== Proof.ChunkValue.lean ====
/- The array that the chunk kernel leaves, on real arguments: at (batch, chunk, head, i, c) the recurrence of that chunk and
   head, run from the state "identity, then zero" on the values "zero, then the head's values" — the output of token `i` for
   `i < 64`, the final state's channel `i - 64` after. -/
module

public import proofs.«01_k».proof.Proof.ChunkReal
public import proofs.«01_k».proof.Proof.Gen.KernelIdeal.Value
public import Idealize.ShloMosaic.Lib.Pipeline.ValueKit.Tiles
public import Idealize.ShloMosaic.Lib.Claim

@[expose] public section

set_option maxRecDepth 16384

noncomputable section

namespace Cert.Proof.Chunk

open Idealize.ShloMosaic hiding ix2 eq_ix2 ix3 eq_ix3 ix5 eq_ix5
open Idealize.ShloMosaic.ValueIdx Idealize.ShloMosaic.TcCoe Idealize.SL.Sem
open Cert.KernelIdeal Cert.KernelIdeal.Gen
open Cert.Proof.ChunkMath Matrix

/-- One entry of a unit's block: the recurrence's outputs above, its final state below. -/
def unitCell (R L K V N B : Sq) (i c : Fin 128) : ℝ :=
  if h : i.val < 64 then scanOut R L K N B (padded V) (fun c d => start d c) ⟨i.val, h⟩ c
  else scanState L K N B (padded V) (fun c d => start d c) 64 c ⟨i.val - 64, by omega⟩

/-! ## One block -/

section Block

variable (x0 x1 x2 x3 x4 x5 : Vec Ideal S1x256x512 .f32) (R L K V N B : ℕ → Matrix (Fin 64) (Fin 512) ℝ)

/-- Unit `u`'s lower store. -/
abbrev botPiece (u : ℕ) : View.Piece (Elt Ideal) S1x4x8x128x128 .f32 :=
  ⟨tileRect u 1, shapeCast S1x1x1x64x128 (unitBot (rowsOf x0 (u / 8)) (rowsOf x1 (u / 8)) (rowsOf x2 (u / 8)) (rowsOf x3 (u / 8))
    (rowsOf x4 (u / 8)) (rowsOf x5 (u / 8)) u) shapeCasts_S64x128_S1x1x1x64x128⟩
/-- Unit `u`'s upper store. -/
abbrev topPiece (u : ℕ) : View.Piece (Elt Ideal) S1x4x8x128x128 .f32 :=
  ⟨tileRect u 0, shapeCast S1x1x1x64x128 (unitTop (rowsOf x0 (u / 8)) (rowsOf x1 (u / 8)) (rowsOf x2 (u / 8)) (rowsOf x3 (u / 8))
    (rowsOf x4 (u / 8)) (rowsOf x5 (u / 8)) u) shapeCasts_S64x128_S1x1x1x64x128⟩

theorem mem_pieces (n : ℕ) (p : View.Piece (Elt Ideal) S1x4x8x128x128 .f32) :
    p ∈ pieces x0 x1 x2 x3 x4 x5 n ↔ ∃ u < n, p = botPiece x0 x1 x2 x3 x4 x5 u ∨ p = topPiece x0 x1 x2 x3 x4 x5 u := by
  induction n with
  | zero => simp [pieces]
  | succ n ih =>
    rw [pieces, List.mem_cons, List.mem_cons, ih]
    constructor
    · rintro (h | h | ⟨u, hu, h⟩)
      · exact ⟨n, Nat.lt_succ_self n, Or.inl h⟩
      · exact ⟨n, Nat.lt_succ_self n, Or.inr h⟩
      · exact ⟨u, Nat.lt_succ_of_lt hu, h⟩
    · rintro ⟨u, hu, h⟩
      rcases Nat.lt_succ_iff_lt_or_eq.mp hu with h' | rfl
      · exact Or.inr (Or.inr ⟨u, h', h⟩)
      · exact h.elim Or.inl fun h => Or.inr (Or.inl h)

/-- What the block holds for chunk `j` and head `h`. -/
def cellAt (j h : ℕ) (i c : Fin 128) : ℝ :=
  unitCell (hM h (R j)) (hM h (L j)) (hM h (K j)) (hM h (V j)) (hM h (N j)) (hM h (B j)) i c

/-- What the block holds at an index. -/
def blockCell (z : S1x4x8x128x128.Idx) : EReal := ((cellAt R L K V N B (z 1).val (z 2).val (z 3) (z 4) : ℝ) : EReal)

theorem hM_mod (h : ℕ) (M : Matrix (Fin 64) (Fin 512) ℝ) : hM (h % 8) M = hM h M := by
  ext t d
  exact congrArg (M t) (Fin.ext (by simp [hd]))

theorem idx_val (u e : ℕ) (x : S1x1x1x64x128.Idx) (a : Fin 5) :
    ((tileRect u e).emb x a).val = (![0, u / 8 % 4, u % 8, e % 2 * 64, 0] : Fin 5 → ℕ) a + (x a).val :=
  Rect.idx_unit_val (s := S1x4x8x128x128) _ S1x1x1x64x128.size (tile_inb u e) x a

theorem cast_apply (T : FVec Ideal S64x128 .f32) (x : S1x1x1x64x128.Idx) :
    shapeCast S1x1x1x64x128 T shapeCasts_S64x128_S1x1x1x64x128 x = T (ix2 (x 3) (x 4)) := by
  refine shapeCast_apply T _ x _ ?_
  have h0 : (x 0).val < 1 := (x 0).isLt
  have h1 : (x 1).val < 1 := (x 1).isLt
  have h2 : (x 2).val < 1 := (x 2).isLt
  refine (Shape.rowMajor_val_two _).trans (Eq.trans ?_ (Shape.rowMajor_val_five _).symm)
  show (x 3).val * 128 + (x 4).val = ((((x 0).val * 1 + (x 1).val) * 1 + (x 2).val) * 64 + (x 3).val) * 128 + (x 4).val
  omega

variable (h0 : ∀ j < 4, rowsOf x0 j = cv (R j)) (h1 : ∀ j < 4, rowsOf x1 j = cv (L j)) (h2 : ∀ j < 4, rowsOf x2 j = cv (K j))
  (h3 : ∀ j < 4, rowsOf x3 j = cv (V j)) (h4 : ∀ j < 4, rowsOf x4 j = cv (N j)) (h5 : ∀ j < 4, rowsOf x5 j = cv (B j))

include h0 h1 h2 h3 h4 h5

theorem top_apply (u : ℕ) (hu : u < 32) (i : Fin 64) (c : Fin 128) (i' : Fin 128) (hi : i'.val = i.val) :
    unitTop (rowsOf x0 (u / 8)) (rowsOf x1 (u / 8)) (rowsOf x2 (u / 8)) (rowsOf x3 (u / 8)) (rowsOf x4 (u / 8)) (rowsOf x5 (u / 8)) u (ix2 i c)
      = ((cellAt R L K V N B (u / 8) (u % 8) i' c : ℝ) : EReal) := by
  have hj : u / 8 < 4 := by omega
  rw [h0 _ hj, h1 _ hj, h2 _ hj, h3 _ hj, h4 _ hj, h5 _ hj, unitTop_cv, cv_apply, cellAt, unitCell, dif_pos (by omega : i'.val < 64)]
  simp only [hM_mod]
  refine congrArg (fun x : ℝ => (x : EReal)) ((chunk_out _ _ _ _ _ _ _ _ _).symm.trans ?_)
  rw [show (⟨i'.val, _⟩ : Fin 64) = i from Fin.ext hi]

theorem bot_apply (u : ℕ) (hu : u < 32) (i : Fin 64) (c : Fin 128) (i' : Fin 128) (hi : i'.val = 64 + i.val) :
    unitBot (rowsOf x0 (u / 8)) (rowsOf x1 (u / 8)) (rowsOf x2 (u / 8)) (rowsOf x3 (u / 8)) (rowsOf x4 (u / 8)) (rowsOf x5 (u / 8)) u (ix2 i c)
      = ((cellAt R L K V N B (u / 8) (u % 8) i' c : ℝ) : EReal) := by
  have hj : u / 8 < 4 := by omega
  rw [h0 _ hj, h1 _ hj, h2 _ hj, h3 _ hj, h4 _ hj, h5 _ hj, unitBot_cv, cv_apply, cellAt, unitCell, dif_neg (by omega : ¬ i'.val < 64)]
  simp only [hM_mod]
  refine congrArg (fun x : ℝ => (x : EReal)) ((chunk_state _ _ _ _ _ _ _ _).symm.trans ?_)
  rw [show (⟨i'.val - 64, _⟩ : Fin 64) = i from Fin.ext (by simp [hi])]

theorem out_cell : out0_6 x0 x1 x2 x3 x4 x5 = blockCell R L K V N B := by
  rw [out_eq]
  funext y
  refine View.canon_apply_of_pieces (Val := Elt Ideal) (e := .f32) (blockCell R L K V N B) _ ?_ y ?_
  · intro p hp x
    obtain ⟨u, hu, h⟩ := (mem_pieces x0 x1 x2 x3 x4 x5 32 p).mp hp
    have emb (e : ℕ) (he : e < 2) (x : S1x1x1x64x128.Idx) :
        blockCell R L K V N B ((tileRect u e).emb x)
          = ((cellAt R L K V N B (u / 8) (u % 8) ⟨e * 64 + (x 3).val, by have : (x 3).val < 64 := (x 3).isLt; omega⟩ (x 4) : ℝ) : EReal) := by
      have a1 : ((tileRect u e).emb x 1).val = u / 8 % 4 + (x 1).val := idx_val u e x 1
      have a2 : ((tileRect u e).emb x 2).val = u % 8 + (x 2).val := idx_val u e x 2
      have a3 : ((tileRect u e).emb x 3).val = e % 2 * 64 + (x 3).val := idx_val u e x 3
      have a4 : ((tileRect u e).emb x 4).val = 0 + (x 4).val := idx_val u e x 4
      have b1 : (x 1).val < 1 := (x 1).isLt
      have b2 : (x 2).val < 1 := (x 2).isLt
      have c1 : ((tileRect u e).emb x 1).val = u / 8 := by omega
      have c2 : ((tileRect u e).emb x 2).val = u % 8 := by omega
      rw [blockCell, c1, c2]
      exact congrArg₂ (fun (i c : Fin 128) => ((cellAt R L K V N B (u / 8) (u % 8) i c : ℝ) : EReal)) (Fin.ext (by rw [a3]; show _ = e * 64 + _; omega))
        (Fin.ext (by rw [a4]; omega))
    rcases h with rfl | rfl
    · exact (cast_apply _ x).trans ((bot_apply x0 x1 x2 x3 x4 x5 R L K V N B h0 h1 h2 h3 h4 h5 u hu (x 3) (x 4) _ (by
        show 1 * 64 + _ = _; rw [Nat.one_mul])).trans (emb 1 (by omega) x).symm)
    · exact (cast_apply _ x).trans ((top_apply x0 x1 x2 x3 x4 x5 R L K V N B h0 h1 h2 h3 h4 h5 u hu (x 3) (x 4) _ (by
        show 0 * 64 + _ = _; rw [Nat.zero_mul, Nat.zero_add])).trans (emb 0 (by omega) x).symm)
  · have b0 : (y 0).val < 1 := (y 0).isLt
    have b1 : (y 1).val < 4 := (y 1).isLt
    have b2 : (y 2).val < 8 := (y 2).isLt
    have b3 : (y 3).val < 128 := (y 3).isLt
    have b4 : (y 4).val < 128 := (y 4).isLt
    have cov (e : ℕ) (he : e < 2) (h3 : e * 64 ≤ (y 3).val) (h3' : (y 3).val < e * 64 + 64) :
        y ∈ (tileRect ((y 1).val * 8 + (y 2).val) e).set := by
      refine Rect.mem_set_unit.mpr fun a => ?_
      match a with
      | ⟨0, _⟩ => show 0 ≤ (y 0).val ∧ (y 0).val < 0 + 1; omega
      | ⟨1, _⟩ => show ((y 1).val * 8 + (y 2).val) / 8 % 4 ≤ (y 1).val ∧ (y 1).val < ((y 1).val * 8 + (y 2).val) / 8 % 4 + 1; omega
      | ⟨2, _⟩ => show ((y 1).val * 8 + (y 2).val) % 8 ≤ (y 2).val ∧ (y 2).val < ((y 1).val * 8 + (y 2).val) % 8 + 1; omega
      | ⟨3, _⟩ => show e % 2 * 64 ≤ (y 3).val ∧ (y 3).val < e % 2 * 64 + 64; omega
      | ⟨4, _⟩ => show 0 ≤ (y 4).val ∧ (y 4).val < 0 + 128; omega
    by_cases h : (y 3).val < 64
    · exact ⟨topPiece x0 x1 x2 x3 x4 x5 ((y 1).val * 8 + (y 2).val),
        (mem_pieces x0 x1 x2 x3 x4 x5 32 _).mpr ⟨_, by omega, Or.inr rfl⟩, cov 0 (by omega) (by omega) (by omega)⟩
    · exact ⟨botPiece x0 x1 x2 x3 x4 x5 ((y 1).val * 8 + (y 2).val),
        (mem_pieces x0 x1 x2 x3 x4 x5 32 _).mpr ⟨_, by omega, Or.inl rfl⟩, cov 1 (by omega) (by omega) (by omega)⟩

end Block

/-! ## The array -/

/-- Chunk `q`'s rows. -/
def rowsAt (A : Matrix (Fin 32768) (Fin 512) ℝ) (q : ℕ) : Matrix (Fin 64) (Fin 512) ℝ :=
  Matrix.of fun t d => A ⟨q % 512 * 64 + t.val, by omega⟩ d

/-- The rows of the argument arrays by batch and position. -/
theorem split_apply (A : Matrix (Fin 32768) (Fin 512) ℝ) (z : S4x8192x512.Idx) (s : Fin 32768) (d : Fin 512)
    (hs : s.val = (z 0).val * 8192 + (z 1).val) (hd : d.val = (z 2).val) :
    shapeCast S4x8192x512 (cv A) shapeCasts_S32768x512_S4x8192x512 z = ((A s d : ℝ) : EReal) := by
  refine (shapeCast_apply (cv A) _ z (ix2 s d) ?_).trans rfl
  refine (Shape.rowMajor_val_two _).trans (Eq.trans ?_ (Shape.rowMajor_val_three _).symm)
  show s.val * 512 + d.val = ((z 0).val * 8192 + (z 1).val) * 512 + (z 2).val
  rw [hs, hd]

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem idx6 : ∀ t : Fin cfg0.N, win0_6.index t (0 : Fin 5) = t.val / 32 ∧ win0_6.index t (1 : Fin 5) = t.val % 32 ∧ win0_6.index t (2 : Fin 5) = 0
    ∧ win0_6.index t (3 : Fin 5) = 0 ∧ win0_6.index t (4 : Fin 5) = 0 :=
  (by decide +kernel : ∀ t : Fin grid0.N, _)

theorem emb0_val (t : Fin cfg0.N) (z : S1x256x512.Idx) : (((cfg0.win 0).blk t).view.emb z 0).val = t.val / 32
    ∧ (((cfg0.win 0).blk t).view.emb z 1).val = t.val % 32 * 256 + (z 1).val ∧ (((cfg0.win 0).blk t).view.emb z 2).val = (z 2).val := by
  obtain ⟨e0, e1, e2⟩ := idx0 t
  have z0 : (z 0).val < 1 := (z 0).isLt
  refine ⟨?_, ?_, ?_⟩
  · show win0_0.index t (0 : Fin 3) * 1 + 1 * (z 0).val = _; omega
  · show win0_0.index t (1 : Fin 3) * 256 + 1 * (z 1).val = _; omega
  · show win0_0.index t (2 : Fin 3) * 512 + 1 * (z 2).val = _; omega

/-- The rows of chunk `j` in the block of point `t`. -/
theorem rows_blk (A : Matrix (Fin 32768) (Fin 512) ℝ) (t : Fin cfg0.N) (j : ℕ) (hj : j < 4) :
    rowsOf (((cfg0.win 0).blk t).view.read (Elt Ideal) (shapeCast S4x8192x512 (cv A) shapeCasts_S32768x512_S4x8192x512)) j
      = cv (rowsAt A (4 * t.val + j)) := ext2 fun i d => by
  have hN : t.val < 128 := lt_of_lt_of_eq t.isLt (by decide : cfg0.N = 128)
  rw [rowsOf, shapeCast_1ab_ab_apply, View.ld_unit_apply_of _ _ _ _ _ (ix3 (0 : Fin 1) ⟨j % 4 * 64 + i.val, by omega⟩ d)
    (fun a => by fin_cases a; exacts [rfl, rfl, (Nat.zero_add _).symm]), cv_apply]
  obtain ⟨a0, a1, a2⟩ := emb0_val t (ix3 (0 : Fin 1) ⟨j % 4 * 64 + i.val, by omega⟩ d)
  refine split_apply A (((cfg0.win 0).blk t).view.emb (ix3 (0 : Fin 1) ⟨j % 4 * 64 + i.val, by omega⟩ d)) _ d ?_ a2.symm
  rw [a0, a1]
  show (4 * t.val + j) % 512 * 64 + i.val = t.val / 32 * 8192 + (t.val % 32 * 256 + (j % 4 * 64 + i.val))
  omega

/-- The array that the kernel leaves. -/
def final (R L K V N B : Matrix (Fin 32768) (Fin 512) ℝ) (y : S4x128x8x128x128.Idx) : EReal :=
  ((cellAt (rowsAt R) (rowsAt L) (rowsAt K) (rowsAt V) (rowsAt N) (rowsAt B) ((y 0).val * 128 + (y 1).val) (y 2).val (y 3) (y 4) : ℝ) : EReal)

theorem covered (y : S4x128x8x128x128.Idx) : ∃ t : Fin cfg0.N, (cfg0.win 6).flush t = true ∧ y ∈ ((cfg0.win 6).blk t).view.set := by
  have y0 : (y 0).val < 4 := (y 0).isLt
  have y1 : (y 1).val < 128 := (y 1).isLt
  have hN : (y 0).val * 32 + (y 1).val / 4 < cfg0.N := lt_of_lt_of_eq (by omega : _ < 128) (by decide : cfg0.N = 128).symm
  refine ⟨⟨(y 0).val * 32 + (y 1).val / 4, hN⟩, flush0_6 _, ?_⟩
  obtain ⟨f0, f1, f2, f3, f4⟩ := idx6 ⟨(y 0).val * 32 + (y 1).val / 4, hN⟩
  have h := ((cfg0.win 6).blk ⟨(y 0).val * 32 + (y 1).val / 4, hN⟩).view.emb_mem_set
    (ix5 (0 : Fin 1) (⟨(y 1).val % 4, by omega⟩ : Fin 4) (y 2) (y 3) (y 4) : S1x4x8x128x128.Idx)
  have e : ((cfg0.win 6).blk ⟨(y 0).val * 32 + (y 1).val / 4, hN⟩).view.emb
      (ix5 (0 : Fin 1) (⟨(y 1).val % 4, by omega⟩ : Fin 4) (y 2) (y 3) (y 4) : S1x4x8x128x128.Idx) = y := by
    funext a; apply Fin.ext
    match a with
    | ⟨0, _⟩ => show win0_6.index _ (0 : Fin 5) * 1 + 1 * 0 = (y 0).val; rw [f0]; show ((y 0).val * 32 + (y 1).val / 4) / 32 * 1 + 1 * 0 = _; omega
    | ⟨1, _⟩ => show win0_6.index _ (1 : Fin 5) * 4 + 1 * ((y 1).val % 4) = (y 1).val; rw [f1]; show ((y 0).val * 32 + (y 1).val / 4) % 32 * 4 + _ = _; omega
    | ⟨2, _⟩ => show win0_6.index _ (2 : Fin 5) * 8 + 1 * (y 2).val = (y 2).val; omega
    | ⟨3, _⟩ => show win0_6.index _ (3 : Fin 5) * 128 + 1 * (y 3).val = (y 3).val; omega
    | ⟨4, _⟩ => show win0_6.index _ (4 : Fin 5) * 128 + 1 * (y 4).val = (y 4).val; omega
  rwa [e] at h

theorem entry0 (m : (ℓ : Loc nD τ sig) → Buf (Elt Ideal) ℓ) (c : Dev nD) (A : Matrix (Fin 32768) (Fin 512) ℝ)
    (e : m ((c : Thread nD τ).loc main_arg0) = cv A) :
    Cert.KernelIdeal.Gen.V m c main_v0 = shapeCast S4x8192x512 (cv A) shapeCasts_S32768x512_S4x8192x512 := by
  rw [← e]; entry_read; rfl
theorem entry1 (m : (ℓ : Loc nD τ sig) → Buf (Elt Ideal) ℓ) (c : Dev nD) (A : Matrix (Fin 32768) (Fin 512) ℝ)
    (e : m ((c : Thread nD τ).loc main_arg1) = cv A) :
    Cert.KernelIdeal.Gen.V m c main_v1 = shapeCast S4x8192x512 (cv A) shapeCasts_S32768x512_S4x8192x512 := by
  rw [← e]; entry_read; rfl
theorem entry2 (m : (ℓ : Loc nD τ sig) → Buf (Elt Ideal) ℓ) (c : Dev nD) (A : Matrix (Fin 32768) (Fin 512) ℝ)
    (e : m ((c : Thread nD τ).loc main_arg2) = cv A) :
    Cert.KernelIdeal.Gen.V m c main_v2 = shapeCast S4x8192x512 (cv A) shapeCasts_S32768x512_S4x8192x512 := by
  rw [← e]; entry_read; rfl
theorem entry3 (m : (ℓ : Loc nD τ sig) → Buf (Elt Ideal) ℓ) (c : Dev nD) (A : Matrix (Fin 32768) (Fin 512) ℝ)
    (e : m ((c : Thread nD τ).loc main_arg3) = cv A) :
    Cert.KernelIdeal.Gen.V m c main_v3 = shapeCast S4x8192x512 (cv A) shapeCasts_S32768x512_S4x8192x512 := by
  rw [← e]; entry_read; rfl
theorem entry4 (m : (ℓ : Loc nD τ sig) → Buf (Elt Ideal) ℓ) (c : Dev nD) (A : Matrix (Fin 32768) (Fin 512) ℝ)
    (e : m ((c : Thread nD τ).loc main_arg4) = cv A) :
    Cert.KernelIdeal.Gen.V m c main_v4 = shapeCast S4x8192x512 (cv A) shapeCasts_S32768x512_S4x8192x512 := by
  rw [← e]; entry_read; rfl
theorem entry5 (m : (ℓ : Loc nD τ sig) → Buf (Elt Ideal) ℓ) (c : Dev nD) (A : Matrix (Fin 32768) (Fin 512) ℝ)
    (e : m ((c : Thread nD τ).loc main_arg5) = cv A) :
    Cert.KernelIdeal.Gen.V m c main_v5 = shapeCast S4x8192x512 (cv A) shapeCasts_S32768x512_S4x8192x512 := by
  rw [← e]; entry_read; rfl

section Run

variable (m : (ℓ : Loc nD τ sig) → Buf (Elt Ideal) ℓ) (c : Dev nD) (R L K V N B : Matrix (Fin 32768) (Fin 512) ℝ)
  (e0 : m ((c : Thread nD τ).loc main_arg0) = cv R) (e1 : m ((c : Thread nD τ).loc main_arg1) = cv L)
  (e2 : m ((c : Thread nD τ).loc main_arg2) = cv K) (e3 : m ((c : Thread nD τ).loc main_arg3) = cv V)
  (e4 : m ((c : Thread nD τ).loc main_arg4) = cv N) (e5 : m ((c : Thread nD τ).loc main_arg5) = cv B)

include e0 e1 e2 e3 e4 e5

theorem flushed_eq (t : Fin cfg0.N) : (dats m 0 c).flushed 6 t
    = ((cfg0.win 6).blk t).view.read (Elt Ideal) (final R L K V N B) := by
  have hN : t.val < 128 := lt_of_lt_of_eq t.isLt (by decide : cfg0.N = 128)
  rw [Cert.KernelIdeal.Value.flushed6]
  rw [out_cell (iblk m c 0 t) (iblk m c 1 t) (iblk m c 2 t) (iblk m c 3 t) (iblk m c 4 t) (iblk m c 5 t) (fun j => rowsAt R (4 * t.val + j)) (fun j => rowsAt L (4 * t.val + j)) (fun j => rowsAt K (4 * t.val + j))
    (fun j => rowsAt V (4 * t.val + j)) (fun j => rowsAt N (4 * t.val + j)) (fun j => rowsAt B (4 * t.val + j))
    (fun j hj => (congrArg (fun X => rowsOf (((cfg0.win 0).blk t).view.read (Elt Ideal) X) j) (entry0 m c R e0)).trans (rows_blk R t j hj))
    (fun j hj => (congrArg (fun X => rowsOf (((cfg0.win 0).blk t).view.read (Elt Ideal) X) j) (entry1 m c L e1)).trans (rows_blk L t j hj))
    (fun j hj => (congrArg (fun X => rowsOf (((cfg0.win 0).blk t).view.read (Elt Ideal) X) j) (entry2 m c K e2)).trans (rows_blk K t j hj))
    (fun j hj => (congrArg (fun X => rowsOf (((cfg0.win 0).blk t).view.read (Elt Ideal) X) j) (entry3 m c V e3)).trans (rows_blk V t j hj))
    (fun j hj => (congrArg (fun X => rowsOf (((cfg0.win 0).blk t).view.read (Elt Ideal) X) j) (entry4 m c N e4)).trans (rows_blk N t j hj))
    (fun j hj => (congrArg (fun X => rowsOf (((cfg0.win 0).blk t).view.read (Elt Ideal) X) j) (entry5 m c B e5)).trans (rows_blk B t j hj))]
  obtain ⟨f0, f1, f2, f3, f4⟩ := idx6 t
  funext z
  change S1x4x8x128x128.Idx at z
  show blockCell _ _ _ _ _ _ z = final R L K V N B (((cfg0.win 6).blk t).view.emb z)
  have z0 : (z 0).val < 1 := (z 0).isLt
  have z1 : (z 1).val < 4 := (z 1).isLt
  have g0 : (((cfg0.win 6).blk t).view.emb z 0).val = t.val / 32 := by
    show win0_6.index t (0 : Fin 5) * 1 + 1 * (z 0).val = _; omega
  have g1 : (((cfg0.win 6).blk t).view.emb z 1).val = t.val % 32 * 4 + (z 1).val := by
    show win0_6.index t (1 : Fin 5) * 4 + 1 * (z 1).val = _; omega
  have g2 : (((cfg0.win 6).blk t).view.emb z 2).val = (z 2).val := by
    show win0_6.index t (2 : Fin 5) * 8 + 1 * (z 2).val = _; omega
  have g3 : ((cfg0.win 6).blk t).view.emb z 3 = z 3 := Fin.ext (by
    show win0_6.index t (3 : Fin 5) * 128 + 1 * (z 3).val = _; omega)
  have g4 : ((cfg0.win 6).blk t).view.emb z 4 = z 4 := Fin.ext (by
    show win0_6.index t (4 : Fin 5) * 128 + 1 * (z 4).val = _; omega)
  rw [final, g0, g1, g2, g3, g4, show t.val / 32 * 128 + (t.val % 32 * 4 + (z 1).val) = 4 * t.val + (z 1).val by omega]
  rfl

theorem final_eq : (dats m 0 c).arrAt 6 cfg0.N = final R L K V N B :=
  (dats m 0 c).arrAt_eq_of_cover 6 (final R L K V N B) (fun t _ => flushed_eq m c R L K V N B e0 e1 e2 e3 e4 e5 t) covered

end Run

end Cert.Proof.Chunk

end
-- ==== Proof.RefValue.lean ====
/- The reference's loop on real arguments: the state after `n` trips is `scanState … n` of every chunk and head, the outputs of
   the first `n` tokens are `scanOut`, so the reference leaves the array `final` that the kernel leaves. -/
module

public import proofs.«01_k».proof.Proof.ChunkValue
public import proofs.«01_k».proof.Proof.Gen.ReferenceIdeal.Run
public import proofs.«01_k».proof.Proof.Gen.ReferenceIdeal.Step
public import Idealize.ShloMosaic.Lib.DynamicIndex

@[expose] public section

set_option maxRecDepth 16384

noncomputable section

namespace Cert.Proof.Chunk.Ref

open Idealize.ShloMosaic hiding ix2 eq_ix2 ix3 eq_ix3 ix4 eq_ix4 ix5 eq_ix5
open Idealize.ShloMosaic.ValueIdx Idealize.ShloMosaic.TcCoe
open Cert.ReferenceIdeal Cert.ReferenceIdeal.Gen Cert.ReferenceIdeal.Step
open Cert.Proof.ChunkMath Cert.Proof.Chunk Matrix

/-! ## Indices -/

theorem ext3 {a b c : ℕ} {β : Type} {f g : (⟨3, ![a, b, c]⟩ : Shape).Idx → β} (h : ∀ i j k, f (ix3 i j k) = g (ix3 i j k)) : f = g := by
  funext x
  rw [eq_ix3 x]
  exact h _ _ _

theorem ext4 {a b c d : ℕ} {β : Type} {f g : (⟨4, ![a, b, c, d]⟩ : Shape).Idx → β}
    (h : ∀ i j k l, f (ix4 i j k l) = g (ix4 i j k l)) : f = g := by
  funext x
  rw [eq_ix4 x]
  exact h _ _ _ _

theorem expHost_cv {a b : ℕ} (A : Matrix (Fin a) (Fin b) ℝ) :
    Host.exp (F := Ideal) (φ := .f32) (s := ⟨2, ![a, b]⟩) (cv A) = cv (Matrix.of fun i j => Real.exp (A i j)) :=
  funext fun _ => rfl

/-! ## What the loop reads -/

/-- An argument by (token, chunk, head, channel). -/
def stepsOf (A : Matrix (Fin 32768) (Fin 512) ℝ) : Vec Ideal S64x512x8x64 .f32 :=
  fun z => ((hM (z 2).val (rowsAt A (z 1).val) (z 0) (z 3) : ℝ) : EReal)
/-- The values, zero in the first 64 channels. -/
def padOf (A : Matrix (Fin 32768) (Fin 512) ℝ) : Vec Ideal S64x512x8x128 .f32 :=
  fun z => ((padded (hM (z 2).val (rowsAt A (z 1).val)) (z 0) (z 3) : ℝ) : EReal)

theorem steps_eq (A : Matrix (Fin 32768) (Fin 512) ℝ) :
    transpose S64x512x8x64 [1, 0, 2, 3] (shapeCast S512x64x8x64 (cv A) shapeCasts_S32768x512_S512x64x8x64)
      transposes_S512x64x8x64_S64x512x8x64_1_0_2_3 = stepsOf A := ext4 fun t q h d => by
  refine (transpose_apply _ _ _ (ix4 t q h d) (ix4 q t h d) (fun b => by fin_cases b <;> rfl)).trans ?_
  refine (shapeCast_apply (cv A) _ (ix4 q t h d) (ix2 ⟨q.val % 512 * 64 + t.val, by omega⟩ (hd h.val d)) ?_).trans rfl
  refine (Shape.rowMajor_val_two _).trans (Eq.trans ?_ (Shape.rowMajor_val_four _).symm)
  show (q.val % 512 * 64 + t.val) * 512 + (h.val % 8 * 64 + d.val) = ((q.val * 64 + t.val) * 8 + h.val) * 64 + d.val
  omega

theorem pad_eq (A : Matrix (Fin 32768) (Fin 512) ℝ) :
    concatenate S64x512x8x128 3 [⟨S64x512x8x64, K_main_v13 (F := Ideal)⟩, ⟨S64x512x8x64, stepsOf A⟩]
      concatenates_S64x512x8x64_S64x512x8x64_S64x512x8x128_d3 = padOf A := ext4 fun t q h c => by
  by_cases hc : c.val < 64
  · refine (concatenate_pair_apply_left (t := S64x512x8x128) (s₁ := S64x512x8x64) (s₂ := S64x512x8x64) 3
      (K_main_v13 (F := Ideal)) (stepsOf A) _ (ix4 t q h c) rfl (ix4 t q h ⟨c.val, hc⟩) (fun b => by fin_cases b <;> rfl)).trans ?_
    show Ideal.ofBits .f32 0x00000000#32 = ((padded (hM h.val (rowsAt A q.val)) t c : ℝ) : EReal)
    rw [Ideal.ofBits_zero_f32, padded, colsM, Matrix.of_apply, dif_pos hc]
    rfl
  · refine (concatenate_pair_apply_right (t := S64x512x8x128) (s₁ := S64x512x8x64) (s₂ := S64x512x8x64) 3
      (K_main_v13 (F := Ideal)) (stepsOf A) _ (ix4 t q h c) rfl rfl (ix4 t q h ⟨c.val - 64, by omega⟩)
      (fun b hb => by fin_cases b <;> first | rfl | exact absurd rfl hb) ?_).trans ?_
    · show c.val - 64 + 64 = c.val
      omega
    · show ((hM h.val (rowsAt A q.val) t ⟨c.val - 64, _⟩ : ℝ) : EReal) = ((padded (hM h.val (rowsAt A q.val)) t c : ℝ) : EReal)
      rw [padded, colsM, Matrix.of_apply, dif_neg hc]

/-! ## The state -/

section State

variable (R L K V N B : Matrix (Fin 32768) (Fin 512) ℝ)

/-- The recurrence's state after `n` tokens of chunk `q`, head `h`. -/
def scanAt (n q h : ℕ) : Fin 128 → Fin 64 → ℝ :=
  scanState (hM h (rowsAt L q)) (hM h (rowsAt K q)) (hM h (rowsAt N q)) (hM h (rowsAt B q)) (padded (hM h (rowsAt V q)))
    (fun c d => start d c) n
/-- The output of token `t`. -/
def outAt (t : Fin 64) (q h : ℕ) : Fin 128 → ℝ := fun c => ∑ d, scanAt L K V N B (t.val + 1) q h c d * hM h (rowsAt R q) t d

def stateOf (n : ℕ) : Vec Ideal S512x8x128x64 .f32 := fun z => ((scanAt L K V N B n (z 0).val (z 1).val (z 2) (z 3) : ℝ) : EReal)
def ysOf (n : ℕ) : Vec Ideal S64x512x8x128 .f32 := fun z =>
  (((if (z 0).val < n then outAt R L K V N B (z 0) (z 1).val (z 2).val (z 3) else 0) : ℝ) : EReal)

/-- The loop's state after `n` trips. -/
def model (n : ℕ) : State Ideal where
  main_v25_7 := stateOf L K V N B n
  main_v25_8 := ysOf R L K V N B n
  main_v25_0 := stepsOf R
  main_v25_1 := stepsOf (Matrix.of fun i j => Real.exp (L i j))
  main_v25_2 := stepsOf K
  main_v25_3 := padOf V
  main_v25_4 := stepsOf N
  main_v25_5 := stepsOf B

/-! ## One trip -/

theorem fits (n : ℕ) (hn : n < 64) : S64x512x8x64.Slices ![n, 0, 0, 0] S1x512x8x64 := ⟨rfl, fun a => by
  fin_cases a
  · show n + 1 ≤ 64
    omega
  all_goals exact Nat.le_refl _⟩
theorem fitsWide (n : ℕ) (hn : n < 64) : S64x512x8x128.Slices ![n, 0, 0, 0] S1x512x8x128 := ⟨rfl, fun a => by
  fin_cases a
  · show n + 1 ≤ 64
    omega
  all_goals exact Nat.le_refl _⟩

/-- The slice of token `n`. -/
theorem slice_steps (A : Matrix (Fin 32768) (Fin 512) ℝ) (n : ℕ) (hn : n < 64) (i : Fin 4 → Int)
    (hi : ∀ a, i a = ((![n, 0, 0, 0] : Fin 4 → ℕ) a : Int)) (q : Fin 512) (h : Fin 8) (d : Fin 64) :
    shapeCast S512x8x64 (Host.dynamicSlice S1x512x8x64 (stepsOf A) i sliceFits_S64x512x8x64_S1x512x8x64) shapeCasts_S1x512x8x64_S512x8x64
      (ix3 q h d) = ((hM h.val (rowsAt A q.val) ⟨n, hn⟩ d : ℝ) : EReal) := by
  have hs := fits n hn
  refine (shapeCast_apply _ _ (ix3 q h d) (ix4 (0 : Fin 1) q h d) ?_).trans ?_
  · refine (Shape.rowMajor_val_four _).trans (Eq.trans ?_ (Shape.rowMajor_val_three _).symm)
    show ((0 * 512 + q.val) * 8 + h.val) * 64 + d.val = (q.val * 8 + h.val) * 64 + d.val
    omega
  · rw [Host.dynamicSlice_eq_extractStridedSlice _ _ _ _ _ hs hi]
    refine (extractStridedSlice_apply _ _ hs _ (ix4 ⟨n, hn⟩ q h d) (fun a => ?_)).trans rfl
    fin_cases a
    exacts [rfl, (Nat.zero_add _).symm, (Nat.zero_add _).symm, (Nat.zero_add _).symm]

theorem slice_pad (n : ℕ) (hn : n < 64) (i : Fin 4 → Int)
    (hi : ∀ a, i a = ((![n, 0, 0, 0] : Fin 4 → ℕ) a : Int)) (q : Fin 512) (h : Fin 8) (c : Fin 128) :
    shapeCast S512x8x128 (Host.dynamicSlice S1x512x8x128 (padOf V) i sliceFits_S64x512x8x128_S1x512x8x128) shapeCasts_S1x512x8x128_S512x8x128
      (ix3 q h c) = ((padded (hM h.val (rowsAt V q.val)) ⟨n, hn⟩ c : ℝ) : EReal) := by
  have hs := fitsWide n hn
  refine (shapeCast_apply _ _ (ix3 q h c) (ix4 (0 : Fin 1) q h c) ?_).trans ?_
  · refine (Shape.rowMajor_val_four _).trans (Eq.trans ?_ (Shape.rowMajor_val_three _).symm)
    show ((0 * 512 + q.val) * 8 + h.val) * 128 + c.val = (q.val * 8 + h.val) * 128 + c.val
    omega
  · rw [Host.dynamicSlice_eq_extractStridedSlice _ _ _ _ _ hs hi]
    refine (extractStridedSlice_apply _ _ hs _ (ix4 ⟨n, hn⟩ q h c) (fun a => ?_)).trans rfl
    fin_cases a
    exacts [rfl, (Nat.zero_add _).symm, (Nat.zero_add _).symm, (Nat.zero_add _).symm]

/-- The starts of a trip's slices, as numbers. -/
theorem start_val (n : ℕ) (hn : n < 64) (a : Fin 4) :
    ((((![(constantI S_ 32 (BitVec.ofNat 32 n) : (⟨S_, .i32⟩ : BufTy).Contents (Elt Ideal)), constantI S_ 32 0#32, constantI S_ 32 0#32,
      constantI S_ 32 0#32] : Fin 4 → (⟨S_, .i32⟩ : BufTy).Contents (Elt Ideal))) a (Shape.Idx.first h_S_)).toInt : Int)
      = ((![n, 0, 0, 0] : Fin 4 → ℕ) a : Int) := by
  fin_cases a
  · exact toInt_ofNat_of_lt (by omega)
  all_goals rfl

/-- The state read along a vector per chunk and head. -/
theorem read_state (X : Vec Ideal S512x8x128x64 .f32) (y : Vec Ideal S512x8x64 .f32) (f : Fin 512 → Fin 8 → Fin 128 → Fin 64 → ℝ)
    (g : Fin 512 → Fin 8 → Fin 64 → ℝ) (hX : ∀ q h c d, X (ix4 q h c d) = ((f q h c d : ℝ) : EReal))
    (hy : ∀ q h d, y (ix3 q h d) = ((g q h d : ℝ) : EReal)) (q : Fin 512) (h : Fin 8) (c : Fin 128) :
    Host.dotGeneral (F := Ideal) (φ₁ := .f32) (φ₂ := .f32) dot_S512x8x128x64_S512x8x64_S512x8x128_3_2_2_n_01_01 none X y (ix3 q h c)
      = ((∑ d, f q h c d * g q h d : ℝ) : EReal) := by
  show FloatOps.dotGeneral (F := Ideal) (φ₁ := .f32) (φ₂ := .f32) _ none _ X y (ix3 q h c) = _
  rw [Ideal.dotGeneral_apply, DotDims.sum_contr₁ _ (a := 3) rfl (K := 64) rfl, ← coe_sum]
  refine Finset.sum_congr rfl fun d _ => ?_
  rw [EReal.coe_mul, ← hX, ← hy]
  refine congrArg₂ (fun a b => X a * y b) ?_ ?_
  · funext a; fin_cases a <;> rfl
  · funext a; fin_cases a <;> rfl

variable (n : ℕ) (hn : n < 64)

include hn in
theorem b46_model : b46 n (model R L K V N B n) = stateOf L K V N B (n + 1) := ext4 fun q h c d => by
  have hk : ∀ q h c, b31 n (model R L K V N B n) (ix3 q h c)
      = ((∑ d, scanAt L K V N B n q.val h.val c d * -hM h.val (rowsAt N q.val) ⟨n, hn⟩ d : ℝ) : EReal) :=
    read_state _ _ (fun q h => scanAt L K V N B n q.val h.val) (fun q h d => -hM h.val (rowsAt N q.val) ⟨n, hn⟩ d) (fun _ _ _ _ => rfl)
      (fun q h d => (congrArg (fun x : EReal => -x) (slice_steps N n hn _ (start_val n hn) q h d)).trans (EReal.coe_neg _).symm)
  have hw : b33 n (model R L K V N B n) (ix4 q h c d) = ((Real.exp (hM h.val (rowsAt L q.val) ⟨n, hn⟩ d) : ℝ) : EReal) := by
    refine (broadcastInDim_apply _ _ _ (ix4 q h c d) (ix4 q h (0 : Fin 1) d) (fun a => by fin_cases a <;> rfl)).trans ?_
    refine (broadcastInDim_apply _ _ _ (ix4 q h (0 : Fin 1) d) (ix3 q h d) (fun a => by fin_cases a <;> rfl)).trans ?_
    exact slice_steps (Matrix.of fun i j => Real.exp (L i j)) n hn _ (start_val n hn) q h d
  have hs : b37 n (model R L K V N B n) (ix4 q h c d)
      = ((∑ e, scanAt L K V N B n q.val h.val c e * -hM h.val (rowsAt N q.val) ⟨n, hn⟩ e : ℝ) : EReal) := by
    refine (broadcastInDim_apply _ _ _ (ix4 q h c d) (ix4 q h c (0 : Fin 1)) (fun a => by fin_cases a <;> rfl)).trans ?_
    refine (broadcastInDim_apply _ _ _ (ix4 q h c (0 : Fin 1)) (ix3 q h c) (fun a => by fin_cases a <;> rfl)).trans ?_
    exact hk q h c
  have hb : b38 n (model R L K V N B n) (ix4 q h c d) = ((hM h.val (rowsAt B q.val) ⟨n, hn⟩ d : ℝ) : EReal) := by
    refine (broadcastInDim_apply _ _ _ (ix4 q h c d) (ix4 q h (0 : Fin 1) d) (fun a => by fin_cases a <;> rfl)).trans ?_
    refine (broadcastInDim_apply _ _ _ (ix4 q h (0 : Fin 1) d) (ix3 q h d) (fun a => by fin_cases a <;> rfl)).trans ?_
    exact slice_steps B n hn _ (start_val n hn) q h d
  have hv : b43 n (model R L K V N B n) (ix4 q h c d) = ((padded (hM h.val (rowsAt V q.val)) ⟨n, hn⟩ c : ℝ) : EReal) := by
    refine (broadcastInDim_apply _ _ _ (ix4 q h c d) (ix4 q h c (0 : Fin 1)) (fun a => by fin_cases a <;> rfl)).trans ?_
    refine (broadcastInDim_apply _ _ _ (ix4 q h c (0 : Fin 1)) (ix3 q h c) (fun a => by fin_cases a <;> rfl)).trans ?_
    exact slice_pad V n hn _ (start_val n hn) q h c
  have hkk : b44 n (model R L K V N B n) (ix4 q h c d) = ((hM h.val (rowsAt K q.val) ⟨n, hn⟩ d : ℝ) : EReal) := by
    refine (broadcastInDim_apply _ _ _ (ix4 q h c d) (ix4 q h (0 : Fin 1) d) (fun a => by fin_cases a <;> rfl)).trans ?_
    refine (broadcastInDim_apply _ _ _ (ix4 q h (0 : Fin 1) d) (ix3 q h d) (fun a => by fin_cases a <;> rfl)).trans ?_
    exact slice_steps K n hn _ (start_val n hn) q h d
  show ((scanAt L K V N B n q.val h.val c d : ℝ) : EReal) * b33 n (model R L K V N B n) (ix4 q h c d)
    + b37 n (model R L K V N B n) (ix4 q h c d) * b38 n (model R L K V N B n) (ix4 q h c d)
    + b43 n (model R L K V N B n) (ix4 q h c d) * b44 n (model R L K V N B n) (ix4 q h c d) = ((scanAt L K V N B (n + 1) q.val h.val c d : ℝ) : EReal)
  rw [hw, hs, hb, hv, hkk]
  refine Eq.trans ?_ (congrArg (fun x : ℝ => (x : EReal)) (scanState_succ (hM h.val (rowsAt L q.val)) (hM h.val (rowsAt K q.val))
    (hM h.val (rowsAt N q.val)) (hM h.val (rowsAt B q.val)) (padded (hM h.val (rowsAt V q.val))) (fun c d => start d c) n hn c d).symm)
  show _ = ((_ + _ * _ + _ * _ : ℝ) : EReal)
  rw [EReal.coe_add, EReal.coe_add, EReal.coe_mul, EReal.coe_mul, EReal.coe_mul]
  rfl

include hn in
theorem b52_model : b52 n (model R L K V N B n) = ysOf R L K V N B (n + 1) := ext4 fun t q h c => by
  have hy : b47 n (model R L K V N B n) (ix3 q h c) = ((outAt R L K V N B ⟨n, hn⟩ q.val h.val c : ℝ) : EReal) :=
    read_state _ _ (fun q h => scanAt L K V N B (n + 1) q.val h.val) (fun q h d => hM h.val (rowsAt R q.val) ⟨n, hn⟩ d)
      (fun q h c d => congrFun (b46_model R L K V N B n hn) (ix4 q h c d)) (fun q h d => slice_steps R n hn _ (start_val n hn) q h d) q h c
  have cl (a : Fin 4) : Host.clampedStart S64x512x8x128 S1x512x8x128 rfl (fun k => (((![(constantI S_ 32 (BitVec.ofNat 32 n) : (⟨S_, .i32⟩ : BufTy).Contents (Elt Ideal)),
      constantI S_ 32 0#32, constantI S_ 32 0#32, constantI S_ 32 0#32] : Fin 4 → (⟨S_, .i32⟩ : BufTy).Contents (Elt Ideal))) k (Shape.Idx.first h_S_)).toInt) a
      = (![n, 0, 0, 0] : Fin 4 → ℕ) a :=
    Host.clampedStart_of_le (s := S64x512x8x128) (t := S1x512x8x128) rfl _ a _ (start_val n hn a) ((fitsWide n hn).2 a)
  refine (Host.dynamicUpdateSlice_apply _ _ _ _ _).trans ?_
  by_cases ht : t.val = n
  · rw [dif_pos (fun a => by
      refine ⟨le_of_eq_of_le (cl a) ?_, lt_of_lt_of_eq ?_ (congrArg (· + _) (cl a).symm)⟩
      · fin_cases a
        exacts [ht.ge, Nat.zero_le _, Nat.zero_le _, Nat.zero_le _]
      · fin_cases a
        · show t.val < n + 1
          omega
        · exact lt_of_lt_of_eq q.isLt (Nat.zero_add _).symm
        · exact lt_of_lt_of_eq h.isLt (Nat.zero_add _).symm
        · exact lt_of_lt_of_eq c.isLt (Nat.zero_add _).symm)]
    refine (broadcastInDim_apply _ _ _ _ (ix3 q h c) (fun a => ?_)).trans (hy.trans ?_)
    · fin_cases a
      · exact (congrArg (q.val - ·) (cl 1)).symm
      · exact (congrArg (h.val - ·) (cl 2)).symm
      · exact (congrArg (c.val - ·) (cl 3)).symm
    · show _ = (((if t.val < n + 1 then outAt R L K V N B t q.val h.val c else 0) : ℝ) : EReal)
      rw [if_pos (by omega), show t = ⟨n, hn⟩ from Fin.ext ht]
  · rw [dif_neg (fun hin => by
      have h1 := le_of_eq_of_le (cl 0).symm (hin 0).1
      have h2 := lt_of_lt_of_eq (hin 0).2 (congrArg (· + 1) (cl 0))
      have h1' : n ≤ t.val := h1
      have h2' : t.val < n + 1 := h2
      omega)]
    show (((if t.val < n then outAt R L K V N B t q.val h.val c else 0) : ℝ) : EReal)
      = (((if t.val < n + 1 then outAt R L K V N B t q.val h.val c else 0) : ℝ) : EReal)
    by_cases h' : t.val < n
    · rw [if_pos h', if_pos (by omega)]
    · rw [if_neg h', if_neg (by omega)]

/-! ## The first state -/

theorem eye_word : ∀ c d : Fin 64, IntOp.cmpi .eq (BitVec.ofNat 32 c.val + 0#32) (BitVec.ofNat 32 d.val) = if d = c then 1#1 else 0#1 := by
  decide +kernel

/-- The reference's incoming state: identity, then zero. -/
theorem start_eq : K_main_v23 (F := Ideal) = stateOf L K V N B 0 := ext4 fun q h c d => by
  refine (broadcastInDim_apply _ _ _ (ix4 q h c d) (ix2 c d) (fun a => by fin_cases a <;> rfl)).trans ?_
  show K_main_v22 (F := Ideal) (ix2 c d) = ((start d c : ℝ) : EReal)
  rw [start, colsM, Matrix.of_apply]
  by_cases hc : c.val < 64
  · rw [dif_pos hc]
    refine (concatenate_pair_apply_left (t := S128x64) (s₁ := S64x64) (s₂ := S64x64) 0 (K_main_v20 (F := Ideal)) (K_main_v21 (F := Ideal)) _
      (ix2 c d) rfl (ix2 ⟨c.val, hc⟩ d) (fun b => by fin_cases b <;> rfl)).trans ?_
    show (((IntOp.cmpi .eq (BitVec.ofNat 32 c.val + 0#32) (BitVec.ofNat 32 d.val)).toNat : ℝ) : EReal) = _
    rw [show IntOp.cmpi .eq (BitVec.ofNat 32 c.val + 0#32) (BitVec.ofNat 32 d.val) = if d = ⟨c.val, hc⟩ then 1#1 else 0#1 from
      eye_word ⟨c.val, hc⟩ d, Matrix.one_apply]
    by_cases h : d = ⟨c.val, hc⟩
    · rw [if_pos h, if_pos h]
      simp
    · rw [if_neg h, if_neg h]
      simp
  · rw [dif_neg hc]
    refine (concatenate_pair_apply_right (t := S128x64) (s₁ := S64x64) (s₂ := S64x64) 0 (K_main_v20 (F := Ideal)) (K_main_v21 (F := Ideal)) _
      (ix2 c d) rfl rfl (ix2 ⟨c.val - 64, by omega⟩ d) (fun b hb => by fin_cases b <;> first | rfl | exact absurd rfl hb) ?_).trans ?_
    · show c.val - 64 + 64 = c.val
      omega
    · show Ideal.ofBits .f32 0x00000000#32 = _
      rw [Ideal.ofBits_zero_f32]
      rfl

theorem ys_zero : K_main_v24 (F := Ideal) = ysOf R L K V N B 0 := funext fun z => by
  show Ideal.ofBits .f32 0x00000000#32 = ((if (z 0).val < 0 then _ else (0 : ℝ) : ℝ) : EReal)
  rw [Ideal.ofBits_zero_f32, if_neg (Nat.not_lt_zero _)]
  rfl

/-! ## The result -/

theorem result_eq : R_main_v29 (model R L K V N B 64) = final R L K V N B := by
  funext y
  obtain ⟨a, q, h, i, c, rfl⟩ : ∃ (a : Fin 4) (q : Fin 128) (h : Fin 8) (i c : Fin 128), y = ix5 a q h i c := ⟨_, _, _, _, _, eq_ix5 y⟩
  obtain ⟨g, hg⟩ : ∃ g : Fin 512, g.val = a.val * 128 + q.val := ⟨⟨a.val * 128 + q.val, by omega⟩, rfl⟩
  refine (shapeCast_apply _ _ (ix5 a q h i c) (ix4 g h i c) ?_).trans ?_
  · refine (Shape.rowMajor_val_four _).trans (Eq.trans ?_ (Shape.rowMajor_val_five _).symm)
    show ((g.val * 8 + h.val) * 128 + i.val) * 128 + c.val = (((a.val * 128 + q.val) * 8 + h.val) * 128 + i.val) * 128 + c.val
    rw [hg]
  · show _ = ((cellAt (rowsAt R) (rowsAt L) (rowsAt K) (rowsAt V) (rowsAt N) (rowsAt B) (a.val * 128 + q.val) h.val i c : ℝ) : EReal)
    rw [cellAt, unitCell, ← hg]
    by_cases hi : i.val < 64
    · rw [dif_pos hi]
      refine (concatenate_pair_apply_left (t := S512x8x128x128) (s₁ := S512x8x64x128) (s₂ := S512x8x64x128) 2 _ _ _
        (ix4 g h i c) rfl (ix4 g h ⟨i.val, hi⟩ c) (fun b => by fin_cases b <;> rfl)).trans ?_
      refine (transpose_apply _ (ysOf R L K V N B 64) _ (ix4 g h ⟨i.val, hi⟩ c) (ix4 ⟨i.val, hi⟩ g h c) (fun b => by fin_cases b <;> rfl)).trans ?_
      show (((if i.val < 64 then outAt R L K V N B ⟨i.val, hi⟩ g.val h.val c else 0) : ℝ) : EReal) = _
      rw [if_pos hi]
      rfl
    · rw [dif_neg hi]
      obtain ⟨i', hi'⟩ : ∃ i' : Fin 64, i'.val = i.val - 64 := ⟨⟨i.val - 64, by omega⟩, rfl⟩
      rw [show (⟨i.val - 64, _⟩ : Fin 64) = i' from Fin.ext hi'.symm]
      refine (concatenate_pair_apply_right (t := S512x8x128x128) (s₁ := S512x8x64x128) (s₂ := S512x8x64x128) 2 _ _ _
        (ix4 g h i c) rfl rfl (ix4 g h i' c) (fun b hb => by fin_cases b <;> first | rfl | exact absurd rfl hb) ?_).trans ?_
      · show i'.val + 64 = i.val
        omega
      · refine (transpose_apply _ (stateOf L K V N B 64) _ (ix4 g h i' c) (ix4 g h c i') (fun b => by fin_cases b <;> rfl)).trans ?_
        rfl

end State

/-! ## The run -/

open Cert.ReferenceIdeal.Value Idealize.ShloMosaic.StableHlo Idealize.SL.Sem

/-- The loop's buffers hold a state before trip `j`. -/
def Held (W : Valuation τ sig (Elt Ideal)) (s : State Ideal) (j : ℕ) : Prop :=
  (W (Proc.devRef .tc main_v25_7) = s.main_v25_7 ∧ W (Proc.devRef .tc main_v25_8) = s.main_v25_8
    ∧ W (Proc.devRef .tc main_v25_6) = constantI S_ 32 (BitVec.ofNat 32 j)) ∧ W (Proc.devRef .tc main_v25_0) = s.main_v25_0
    ∧ W (Proc.devRef .tc main_v25_1) = s.main_v25_1 ∧ W (Proc.devRef .tc main_v25_2) = s.main_v25_2
    ∧ W (Proc.devRef .tc main_v25_3) = s.main_v25_3 ∧ W (Proc.devRef .tc main_v25_4) = s.main_v25_4
    ∧ W (Proc.devRef .tc main_v25_5) = s.main_v25_5

theorem held_step (W : Valuation τ sig (Elt Ideal)) (s : State Ideal) (j : ℕ) (h : Held W s j) : Held (STEP W) (step j s) (j + 1) := by
  obtain ⟨⟨h7, h8, h6⟩, h0, h1, h2, h3, h4, h5⟩ := h
  have e46 : res_main_while0b_v52 W = b46 j s := by
    unfold res_main_while0b_v52
    rw [h1, h2, h3, h4, h5, h6, h7]
    rfl
  have e52 : Value.step_main_v25_8 W = b52 j s := by
    unfold Value.step_main_v25_8
    rw [e46, h0, h6, h8]
    rfl
  refine ⟨⟨(STEP_main_v25_7 W).trans e46, (STEP_main_v25_8 W).trans e52, (STEP_main_v25_6 W).trans ?_⟩, (STEP_main_v25_0 W).trans h0,
    (STEP_main_v25_1 W).trans h1, (STEP_main_v25_2 W).trans h2, (STEP_main_v25_3 W).trans h3, (STEP_main_v25_4 W).trans h4,
    (STEP_main_v25_5 W).trans h5⟩
  unfold step_main_v25_6
  rw [h6]
  funext i
  show BitVec.ofNat 32 j + 1#32 = BitVec.ofNat 32 (j + 1)
  rw [BitVec.ofNat_add]

section Run

variable (m : (ℓ : Loc nD τ sig) → Buf (Elt Ideal) ℓ) (c : Dev nD) (R L K V N B : Matrix (Fin 32768) (Fin 512) ℝ)
  (e0 : m ((c.tc : Thread nD τ).loc main_arg0) = cv R) (e1 : m ((c.tc : Thread nD τ).loc main_arg1) = cv L)
  (e2 : m ((c.tc : Thread nD τ).loc main_arg2) = cv K) (e3 : m ((c.tc : Thread nD τ).loc main_arg3) = cv V)
  (e4 : m ((c.tc : Thread nD τ).loc main_arg4) = cv N) (e5 : m ((c.tc : Thread nD τ).loc main_arg5) = cv B)

include e0 e1 e2 e3 e4 e5

set_option maxRecDepth 65536 in
set_option maxHeartbeats 400000 in
theorem held_entry : Held (entryContents preI m c) (model R L K V N B 0) 0 := by
  have a0 : init (cv R) (cv L) (cv K) (cv V) (cv N) (cv B) = model R L K V N B 0 := by
    unfold init model
    rw [start_eq L K V N B, ys_zero R L K V N B]
    unfold A_main_v1 A_main_v0 A_main_v4 A_main_v3 A_main_v2 A_main_v6 A_main_v5 A_main_v10 A_main_v9 A_main_v12 A_main_v11 A_main_v14
      A_main_v8 A_main_v7
    rw [steps_eq, steps_eq, steps_eq, steps_eq, steps_eq, expHost_cv, steps_eq, pad_eq]
  rw [← a0, ← e0, ← e1, ← e2, ← e3, ← e4, ← e5]
  refine ⟨⟨?_, ?_, ?_⟩, ?_, ?_, ?_, ?_, ?_, ?_⟩ <;> (simp only [entryContents, afterL_cons, afterL_nil]; after_reads_simp) <;> rfl

theorem held_iter (n : ℕ) (hn : n ≤ 64) : Held (STEP^[n] (entryContents preI m c)) (model R L K V N B n) n := by
  induction n with
  | zero => exact held_entry m c R L K V N B e0 e1 e2 e3 e4 e5
  | succ n ih =>
    rw [Function.iterate_succ_apply']
    have h := held_step _ _ n (ih (by omega))
    have e : step n (model R L K V N B n) = model R L K V N B (n + 1) := by
      unfold step
      rw [b46_model R L K V N B n (by omega), b52_model R L K V N B n (by omega)]
      rfl
    rwa [e] at h

theorem out_eq_final : (out_main_v29 (STEP^[64] (entryContents preI m c)) : S4x128x8x128x128.Idx → EReal) = final R L K V N B := by
  obtain ⟨⟨h7, h8, -⟩, -⟩ := held_iter m c R L K V N B e0 e1 e2 e3 e4 e5 64 le_rfl
  rw [← result_eq]
  unfold out_main_v29
  rw [h7, h8]
  rfl

end Run

end Cert.Proof.Chunk.Ref

end
-- ==== Proof.Finite.lean ====
/- The precondition says that every element of the six arguments is finite, so each argument holds a real matrix. -/
module

public import proofs.«01_k».proof.Proof.ChunkReal
public import proofs.«01_k».proof.Proof.Gen.Pre_finite
public import Idealize.ShloMosaic.Lib.ReduceAll

@[expose] public section

set_option maxRecDepth 16384

noncomputable section

namespace Cert.Proof.Chunk

open Idealize.ShloMosaic hiding ix2 eq_ix2 ix0
open Idealize.ShloMosaic.ValueIdx
open Cert.Pre_finite Cert.Pre_finite.Facts

/-- The real matrix of an array's elements. -/
def realOf {a b : ℕ} (x : (⟨2, ![a, b]⟩ : Shape).Idx → EReal) : Matrix (Fin a) (Fin b) ℝ := Matrix.of fun i j => (x (ix2 i j)).toReal

theorem abs_lt (y : EReal) (h : Ideal.cmp .olt (max y (-y)) (Ideal.ofBits .f32 0x7F800000#32) = 1#1) : y ≠ ⊤ ∧ y ≠ ⊥ := by
  have e : Ideal.ofBits .f32 0x7F800000#32 = ⊤ := by simp [Ideal.ofBits, Ideal.ieee]
  rw [e] at h
  have h' : max y (-y) < ⊤ := by
    by_contra hn
    simp [Ideal.cmp, hn] at h
  refine ⟨fun hy => ?_, fun hy => ?_⟩ <;> simp [hy] at h'

/-- The test "every element's magnitude is below infinity". -/
def test (x : FVec Ideal S32768x512 .f32) : IVec S_ 1 :=
  Host.reduce IntOp.andi (cmpf .olt (Host.absf x) (broadcastInDim S32768x512 ![] bcast_S_S32768x512 (constant S_ .f32 0x7F800000#32)))
    (constantI S_ 1 1#1) reducesTo_S32768x512_S_d0_1 h_S_

instance : Subsingleton S_.Idx := ⟨fun a b => funext fun x => x.elim0⟩

theorem eq_cv (x : FVec Ideal S32768x512 .f32) (h : test x ix0 = 1#1) : x = cv (realOf x) := ext2 fun i j => by
  obtain ⟨h1, h2⟩ := abs_lt _ (Host.reduce_andi_all _ _ _ _ ix0 h (ix2 i j))
  exact (EReal.coe_toReal h1 h2).symm

theorem finite_args (x0 x1 x2 x3 x4 x5 : FVec Ideal S32768x512 .f32) (h : fn (F := Ideal) x0 x1 x2 x3 x4 x5 = fun _ => 1#1) :
    x0 = cv (realOf x0) ∧ x1 = cv (realOf x1) ∧ x2 = cv (realOf x2) ∧ x3 = cv (realOf x3) ∧ x4 = cv (realOf x4) ∧ x5 = cv (realOf x5) := by
  have h' : andi (andi (andi (andi (andi (test x0) (test x1)) (test x2)) (test x3)) (test x4)) (test x5) ix0 = 1#1 := congrFun h ix0
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨eq_cv _ h0, eq_cv _ h1, eq_cv _ h2, eq_cv _ h3, eq_cv _ h4, eq_cv _ h5⟩

end Cert.Proof.Chunk

end
-- ==== Proof.InprojSpec.lean ====
/- The projections of a layer's first matrix product, token by token: the normed row, the columns of the product, the rotary
   turn of a head and the layout of the results. Both programs' arrays are stated by these functions. -/
module

public import Idealize.ShloMosaic.PureOps.Ideal
public import Idealize.ShloMosaic.Lib.ValueIdx
public import Idealize.ShloMosaic.Lib.Pipeline.Value
public import Idealize.ShloMosaic.Lib.KernelVsHost
public import Idealize.ShloMosaic.Lib.Pointwise.Reduce
public import Idealize.ShloMosaic.Lib.Pointwise.Contract

@[expose] public section

set_option maxRecDepth 16384

noncomputable section

namespace Cert.Proof.Inproj

open Idealize.ShloMosaic hiding ix1 eq_ix1 ix2 eq_ix2 ix3 eq_ix3 ix4 eq_ix4 ix5 eq_ix5
open Idealize.ShloMosaic.ValueIdx

theorem ext2 {a b : ℕ} {β : Type} {f g : (⟨2, ![a, b]⟩ : Shape).Idx → β} (h : ∀ i j, f (ix2 i j) = g (ix2 i j)) : f = g := by
  funext x
  rw [eq_ix2 x]
  exact h _ _

/-- A choice by a word that says whether `p`. -/
theorem sel_of {p : Prop} [Decidable p] {c : BitVec 1} (h : c = 1#1 ↔ p) (a b : EReal) : Scalar.select c a b = if p then a else b :=
  if_congr h rfl rfl

/-- A float constant's value. -/
abbrev lit (b : BitVec 32) : EReal := Ideal.ofBits .f32 b

/-- Entry `k` of the normed row. -/
def hrow (x g : Fin 1024 → EReal) (k : Fin 1024) : EReal :=
  x k * Ideal.rsqrt (Ideal.div (∑ i, x i * x i) (lit 0x44800000#32) + lit 0x358637BD#32) * g k

/-- The sequence and the position of token `n`. -/
def rb (n : ℕ) : Fin 4 := ⟨n / 8192 % 4, Nat.mod_lt _ (by decide)⟩
def rt (n : ℕ) : Fin 8192 := ⟨n % 8192, Nat.mod_lt _ (by decide)⟩

/-- The rotary frequencies. -/
def freq (f : ℕ) : EReal :=
  Host.powf (F := Ideal) (φ := .f32) (s := ⟨1, ![32]⟩) (constant ⟨1, ![32]⟩ .f32 0x461C4000#32)
    (Host.divf (Host.negf (sitofp .f32 (iotaInDim ⟨1, ![32]⟩ 32 0))) (constant ⟨1, ![32]⟩ .f32 0x42000000#32))
    (ix1 ⟨f % 32, Nat.mod_lt _ (by decide)⟩)

variable (x : FVec Ideal ⟨3, ![4, 8192, 1024]⟩ .f32) (pos : IVec ⟨2, ![4, 8192]⟩ 32) (g : FVec Ideal ⟨1, ![1024]⟩ .f32)
  (w : FVec Ideal ⟨2, ![1024, 5144]⟩ .f32)

/-- Column `j` of the product at token `n`. -/
def P (n j : ℕ) : EReal :=
  ∑ k, hrow (fun k => x (ix3 (rb n) (rt n) k)) (fun k => g (ix1 k)) k * w (ix2 k ⟨j % 5144, Nat.mod_lt _ (by decide)⟩)

def angle (n f : ℕ) : EReal := (sitofp .f32 pos : FVec Ideal ⟨2, ![4, 8192]⟩ .f32) (ix2 (rb n) (rt n)) * freq f
def C (n f : ℕ) : EReal := Ideal.cos (angle pos n f)
def S (n f : ℕ) : EReal := Ideal.sin (angle pos n f)

/-- Lane `e` of the head whose first column is `c`, turned by the token's position. -/
def rope (n c e : ℕ) : EReal :=
  if e < 32 then P x g w n (c + e) * C pos n e - P x g w n (c + (e + 32)) * S pos n e
  else P x g w n (c + (e - 32)) * S pos n (e - 32) + P x g w n (c + e) * C pos n (e - 32)

/-- Lane `j` of the heads whose first column is `c`. -/
def ropeAt (n c j : ℕ) : EReal := rope x pos g w n (c + j / 64 * 64) (j % 64)

/-- Heads of 64 lanes `v`, each followed by 64 lanes `c`. -/
def beside (v c : ℕ → EReal) (j : ℕ) : EReal := if j % 128 < 64 then v (j / 128 * 64 + j % 128) else c (j % 128 - 64)

/-- The mark of a token's own block. -/
def own (n l : ℕ) : EReal := if n / 64 % 16 = l then lit 0xF149F2CA#32 else lit 0x00000000#32

def qS (n j : ℕ) : EReal := beside (fun j => ropeAt x pos g w n 0 j * lit 0x3E38AA3B#32) (fun _ => lit 0x00000000#32) j
def kcS (n j : ℕ) : EReal := ropeAt x pos g w n 512 j
def kslS (n j : ℕ) : EReal := beside (ropeAt x pos g w n 768) (own n) j
def kwnS (n j : ℕ) : EReal := beside (ropeAt x pos g w n 1024) (fun _ => lit 0x00000000#32) j
def vcS (n j : ℕ) : EReal := P x g w n (640 + j)
def vslS (n j : ℕ) : EReal := beside (fun j => P x g w n (896 + j)) (fun _ => lit 0x3F800000#32) j
def vwnS (n j : ℕ) : EReal := beside (fun j => P x g w n (1152 + j)) (fun _ => lit 0x3F800000#32) j
def ngS (n j : ℕ) : EReal := if j < 24 then P x g w n (1280 + j) else 0
def prwS (n j : ℕ) : EReal := P x g w n (1304 + j)
def gaS (n j : ℕ) : EReal := P x g w n (3096 + j)
def gbS (n j : ℕ) : EReal := P x g w n (4120 + j)

/-- The array of a function of row and column. -/
def arr {a b : ℕ} (f : ℕ → ℕ → EReal) : (⟨2, ![a, b]⟩ : Shape).Idx → EReal := fun i => f (i 0).val (i 1).val

theorem arr_ext {a b : ℕ} {v : (⟨2, ![a, b]⟩ : Shape).Idx → EReal} {f : ℕ → ℕ → EReal}
    (h : ∀ i j, v (ix2 i j) = f i.val j.val) : v = arr f := ext2 h

/-- 24 columns padded to 128 by zeros. -/
theorem pad24_apply {R : ℕ} (v : FVec Ideal ⟨2, ![R, 24]⟩ .f32) (h : (⟨2, ![R, 24]⟩ : Shape).Pads ![0, 0] ![0, 104] ![0, 0] ⟨2, ![R, 128]⟩)
    (hu : 0 < (⟨0, ![]⟩ : Shape).numel) (n : Fin R) (j : Fin 128) :
    pad ⟨2, ![R, 128]⟩ ![0, 0] ![0, 104] ![0, 0] v (sitofp .f32 (constantI ⟨0, ![]⟩ 32 0#32)) h hu (ix2 n j) = if hj : j.val < 24 then v (ix2 n ⟨j.val, hj⟩) else 0 := by
  by_cases hj : j.val < 24
  · rw [dif_pos hj]
    exact pad_apply_of_inside _ _ _ _ _ _ _ (ix2 n j) (ix2 n ⟨j.val, hj⟩) (fun a => by
      fin_cases a
      · show n.val = 0 + n.val * (0 + 1)
        omega
      · show j.val = 0 + j.val * (0 + 1)
        omega)
  · rw [dif_neg hj]
    refine (pad_apply_of_not_inside _ _ _ _ _ _ _ (ix2 n j) 1 fun ha => hj ?_).trans sitofp_zero
    have h2 : (j.val - 0) / (0 + 1) < 24 := ha.2.2
    omega

end Cert.Proof.Inproj

end
-- ==== Proof.InprojRef.lean ====
/- The reference's arrays of the projections, entry by entry. -/
module

public import proofs.«01_k».proof.Proof.InprojSpec
public import proofs.«01_k».proof.Proof.Gen.Reference2Ideal
public import proofs.«01_k».proof.Proof.Gen.Reference2Ideal.Run

@[expose] public section

set_option maxRecDepth 16384

noncomputable section

namespace Cert.Proof.Inproj.Ref

open Idealize.ShloMosaic hiding ix1 eq_ix1 ix2 eq_ix2 ix3 eq_ix3 ix4 eq_ix4 ix5 eq_ix5
open Idealize.ShloMosaic.ValueIdx Idealize.ShloMosaic.TcCoe
open Cert.Reference2Ideal Cert.Reference2Ideal.Gen Cert.Reference2Ideal.Value
open Cert.Proof.Inproj

variable (x : FVec Ideal S4x8192x1024 .f32) (pos : IVec S4x8192 32) (g : FVec Ideal S1024 .f32) (w : FVec Ideal S1024x5144 .f32)

/-! ## The product -/

def normed : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

def prod : FVec Ideal S4x8192x5144 .f32 := Host.dotGeneral dot_S4x8192x1024_S1024x5144_S4x8192x5144_2_0_01_1_n_n none (normed x g) w

theorem normed_apply (b : Fin 4) (t : Fin 8192) (k : Fin 1024) :
    normed x g (ix3 b t k) = hrow (fun k => x (ix3 b t k)) (fun k => g (ix1 k)) k := by
  refine congrArg₂ (· * ·) (congrArg (x (ix3 b t k) * ·) ?_) ?_
  · refine (broadcastInDim_apply _ _ _ (ix3 b t k) (ix3 b t 0) (fun a => by fin_cases a <;> rfl)).trans ?_
    refine congrArg (fun s => Ideal.rsqrt (Ideal.div s (lit 0x44800000#32) + lit 0x358637BD#32)) ?_
    refine (broadcastInDim_apply _ _ _ (ix3 b t 0) (ix2 b t) (fun a => by fin_cases a <;> rfl)).trans ?_
    refine (Ideal.hostReduceAdd_r3_a2 _ _ _ _).trans ?_
    show Ideal.ofBits .f32 0x00000000#32 + _ = _
    rw [Ideal.ofBits_zero_f32, zero_add]
    rfl
  · refine (broadcastInDim_apply _ _ _ (ix3 b t k) (ix3 0 0 k) (fun a => by fin_cases a <;> rfl)).trans ?_
    exact broadcastInDim_apply _ _ _ (ix3 0 0 k) (ix1 k) (fun a => by fin_cases a <;> rfl)

theorem prod_apply (n : ℕ) (j : Fin 5144) : prod x g w (ix3 (rb n) (rt n) j) = P x g w n j.val := by
  show FloatOps.dotGeneral (F := Ideal) (φ₁ := .f32) (φ₂ := .f32) _ none _ (normed x g) w (ix3 (rb n) (rt n) j) = _
  rw [Ideal.dotGeneral_apply, DotDims.sum_contr₁ _ (a := (2 : Fin 3)) rfl (K := 1024) rfl]
  refine Finset.sum_congr rfl fun k _ => ?_
  refine congrArg₂ (· * ·) (Eq.trans (congrArg (normed x g) (a₂ := ix3 (rb n) (rt n) k) (funext fun a => by fin_cases a <;> rfl))
    (normed_apply x g _ _ k)) (congrArg w (funext fun a => ?_))
  fin_cases a
  · rfl
  · exact Fin.ext (Nat.mod_eq_of_lt j.isLt).symm

/-! ## Positions -/

def turn : FVec Ideal S4x8192x32 .f32 :=
  mulf (broadcastInDim S4x8192x32 ![0, 1, 2] bcast_S4x8192x1_S4x8192x32_0_1_2 (broadcastInDim S4x8192x1 ![0, 1] bcast_S4x8192_S4x8192x1_0_1 (sitofp .f32 pos)))
    (broadcastInDim S4x8192x32 ![0, 1, 2] bcast_S1x1x32_S4x8192x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem turn_apply (n : ℕ) (f : Fin 32) : turn pos (ix3 (rb n) (rt n) f) = angle pos n f.val := by
  refine congrArg₂ (· * ·) ?_ ?_
  · refine (broadcastInDim_apply _ _ _ (ix3 (rb n) (rt n) f) (ix3 (rb n) (rt n) 0) (fun a => by fin_cases a <;> rfl)).trans ?_
    exact broadcastInDim_apply _ _ _ (ix3 (rb n) (rt n) 0) (ix2 (rb n) (rt n)) (fun a => by fin_cases a <;> rfl)
  · refine (broadcastInDim_apply _ _ _ (ix3 (rb n) (rt n) f) (ix3 0 0 f) (fun a => by fin_cases a <;> rfl)).trans ?_
    refine (broadcastInDim_apply _ _ _ (ix3 0 0 f) (ix1 f) (fun a => by fin_cases a <;> rfl)).trans ?_
    have hf : (⟨f.val % 32, Nat.mod_lt _ (by decide)⟩ : Fin 32) = f := Fin.ext (Nat.mod_eq_of_lt f.isLt)
    unfold freq
    rw [hf]
    rfl

def cosT : FVec Ideal S4x8192x1x32 .f32 := broadcastInDim S4x8192x1x32 ![0, 1, 3] bcast_S4x8192x32_S4x8192x1x32_0_1_3 (Host.cos (turn pos))
def sinT : FVec Ideal S4x8192x1x32 .f32 := broadcastInDim S4x8192x1x32 ![0, 1, 3] bcast_S4x8192x32_S4x8192x1x32_0_1_3 (Host.sin (turn pos))

theorem cosT_apply (n : ℕ) (f : Fin 32) : cosT pos (ix4 (rb n) (rt n) 0 f) = C pos n f.val :=
  (broadcastInDim_apply _ _ _ (ix4 (rb n) (rt n) 0 f) (ix3 (rb n) (rt n) f) (fun a => by fin_cases a <;> rfl)).trans
    (congrArg Ideal.cos (turn_apply pos n f))
theorem sinT_apply (n : ℕ) (f : Fin 32) : sinT pos (ix4 (rb n) (rt n) 0 f) = S pos n f.val :=
  (broadcastInDim_apply _ _ _ (ix4 (rb n) (rt n) 0 f) (ix3 (rb n) (rt n) f) (fun a => by fin_cases a <;> rfl)).trans
    (congrArg Ideal.sin (turn_apply pos n f))

/-! ## Heads -/

section Heads

variable {H : ℕ}

/-- The rotary turn of `H` heads. -/
def ropeR (v : FVec Ideal ⟨4, ![4, 8192, H, 64]⟩ .f32) (cs sn : FVec Ideal S4x8192x1x32 .f32)
    (h0 : (⟨4, ![4, 8192, H, 64]⟩ : Shape).Slices ![0, 0, 0, 0] ⟨4, ![4, 8192, H, 32]⟩)
    (h1 : (⟨4, ![4, 8192, H, 64]⟩ : Shape).Slices ![0, 0, 0, 32] ⟨4, ![4, 8192, H, 32]⟩)
    (hb : S4x8192x1x32.BroadcastsInDim ⟨4, ![4, 8192, H, 32]⟩ (![0, 1, 2, 3] : Fin 4 → Fin 4))
    (hc : Shape.Concatenates [⟨4, ![4, 8192, H, 32]⟩, ⟨4, ![4, 8192, H, 32]⟩] ⟨4, ![4, 8192, H, 64]⟩ 3) :
    FVec Ideal ⟨4, ![4, 8192, H, 64]⟩ .f32 :=
  concatenate ⟨4, ![4, 8192, H, 64]⟩ 3 [⟨⟨4, ![4, 8192, H, 32]⟩, (subf (mulf (extractStridedSlice ⟨4, ![4, 8192, H, 32]⟩ ![0, 0, 0, 0] v h0) (broadcastInDim ⟨4, ![4, 8192, H, 32]⟩ ![0, 1, 2, 3] hb cs))
      (mulf (extractStridedSlice ⟨4, ![4, 8192, H, 32]⟩ ![0, 0, 0, 32] v h1) (broadcastInDim ⟨4, ![4, 8192, H, 32]⟩ ![0, 1, 2, 3] hb sn)) : FVec Ideal ⟨4, ![4, 8192, H, 32]⟩ .f32)⟩,
    ⟨⟨4, ![4, 8192, H, 32]⟩, (addf (mulf (extractStridedSlice ⟨4, ![4, 8192, H, 32]⟩ ![0, 0, 0, 0] v h0) (broadcastInDim ⟨4, ![4, 8192, H, 32]⟩ ![0, 1, 2, 3] hb sn))
      (mulf (extractStridedSlice ⟨4, ![4, 8192, H, 32]⟩ ![0, 0, 0, 32] v h1) (broadcastInDim ⟨4, ![4, 8192, H, 32]⟩ ![0, 1, 2, 3] hb cs)) : FVec Ideal ⟨4, ![4, 8192, H, 32]⟩ .f32)⟩] hc

theorem lo_apply (v : FVec Ideal ⟨4, ![4, 8192, H, 64]⟩ .f32) (h0 : (⟨4, ![4, 8192, H, 64]⟩ : Shape).Slices ![0, 0, 0, 0] ⟨4, ![4, 8192, H, 32]⟩)
    (b : Fin 4) (t : Fin 8192) (h : Fin H) (f : Fin 32) :
    extractStridedSlice ⟨4, ![4, 8192, H, 32]⟩ ![0, 0, 0, 0] v h0 (ix4 b t h f) = v (ix4 b t h ⟨f.val, by omega⟩) :=
  extractStridedSlice_apply _ _ h0 _ _ fun a => by fin_cases a <;> exact (Nat.zero_add _).symm
theorem hi_apply (v : FVec Ideal ⟨4, ![4, 8192, H, 64]⟩ .f32) (h1 : (⟨4, ![4, 8192, H, 64]⟩ : Shape).Slices ![0, 0, 0, 32] ⟨4, ![4, 8192, H, 32]⟩)
    (b : Fin 4) (t : Fin 8192) (h : Fin H) (f : Fin 32) :
    extractStridedSlice ⟨4, ![4, 8192, H, 32]⟩ ![0, 0, 0, 32] v h1 (ix4 b t h f) = v (ix4 b t h ⟨f.val + 32, by omega⟩) :=
  extractStridedSlice_apply _ _ h1 _ _ fun a => by
    fin_cases a
    · exact (Nat.zero_add _).symm
    · exact (Nat.zero_add _).symm
    · exact (Nat.zero_add _).symm
    · exact Nat.add_comm _ _
theorem heads_apply (cs : FVec Ideal S4x8192x1x32 .f32) (hb : S4x8192x1x32.BroadcastsInDim ⟨4, ![4, 8192, H, 32]⟩ (![0, 1, 2, 3] : Fin 4 → Fin 4))
    (b : Fin 4) (t : Fin 8192) (h : Fin H) (f : Fin 32) :
    broadcastInDim ⟨4, ![4, 8192, H, 32]⟩ ![0, 1, 2, 3] hb cs (ix4 b t h f) = cs (ix4 b t 0 f) :=
  broadcastInDim_apply _ _ _ (ix4 b t h f) (ix4 b t 0 f) (fun a => by fin_cases a <;> rfl)

/-- Two arrays of heads, one after the other along the lanes. -/
theorem pair_apply {A : ℕ} {B : ℕ} (u v : FVec Ideal ⟨4, ![4, 8192, H, A]⟩ .f32)
    (hc : Shape.Concatenates [⟨4, ![4, 8192, H, A]⟩, ⟨4, ![4, 8192, H, A]⟩] ⟨4, ![4, 8192, H, B]⟩ 3) (b : Fin 4) (t : Fin 8192) (h : Fin H) (e : Fin B)
    (hB : e.val < A + A) :
    concatenate ⟨4, ![4, 8192, H, B]⟩ 3 [⟨⟨4, ![4, 8192, H, A]⟩, u⟩, ⟨⟨4, ![4, 8192, H, A]⟩, v⟩] hc (ix4 b t h e)
      = if he : e.val < A then u (ix4 b t h ⟨e.val, he⟩) else v (ix4 b t h ⟨e.val - A, by omega⟩) := by
  by_cases he : e.val < A
  · rw [dif_pos he]
    exact concatenate_pair_apply_left (t := ⟨4, ![4, 8192, H, B]⟩) (s₁ := ⟨4, ![4, 8192, H, A]⟩) (s₂ := ⟨4, ![4, 8192, H, A]⟩) 3
      u v _ (ix4 b t h e) rfl (ix4 b t h ⟨e.val, he⟩) (fun b => by fin_cases b <;> rfl)
  · rw [dif_neg he]
    refine concatenate_pair_apply_right (t := ⟨4, ![4, 8192, H, B]⟩) (s₁ := ⟨4, ![4, 8192, H, A]⟩) (s₂ := ⟨4, ![4, 8192, H, A]⟩) 3
      u v _ (ix4 b t h e) rfl rfl (ix4 b t h ⟨e.val - A, by omega⟩) (fun b hb => by fin_cases b <;> first | rfl | exact absurd rfl hb) ?_
    show e.val - A + A = e.val
    omega

theorem ropeR_apply (v : FVec Ideal ⟨4, ![4, 8192, H, 64]⟩ .f32) (h0 h1 hb hc) (n c : ℕ)
    (hv : ∀ (h : Fin H) (e : Fin 64), v (ix4 (rb n) (rt n) h e) = P x g w n (c + (h.val * 64 + e.val))) (h : Fin H) (e : Fin 64) :
    ropeR v (cosT pos) (sinT pos) h0 h1 hb hc (ix4 (rb n) (rt n) h e) = rope x pos g w n (c + h.val * 64) e.val := by
  refine (pair_apply _ _ hc _ _ h e (by omega)).trans ?_
  unfold rope
  by_cases he : e.val < 32
  · rw [dif_pos he, if_pos he]
    show _ * _ - _ * _ = _
    rw [lo_apply, hi_apply, heads_apply, heads_apply, hv, hv, cosT_apply, sinT_apply]
    simp only [Nat.add_assoc]
  · rw [dif_neg he, if_neg he]
    show _ * _ + _ * _ = _
    rw [lo_apply, hi_apply, heads_apply, heads_apply, hv, hv, cosT_apply, sinT_apply]
    simp only [Nat.add_assoc, Nat.sub_add_cancel (Nat.not_lt.mp he)]

/-- The columns of a slice by head and lane. -/
theorem split_apply {N : ℕ} (v : FVec Ideal ⟨3, ![4, 8192, N]⟩ .f32) (hs : (⟨3, ![4, 8192, N]⟩ : Shape).ShapeCasts ⟨4, ![4, 8192, H, 64]⟩) (hN : N = H * 64)
    (b : Fin 4) (t : Fin 8192) (h : Fin H) (e : Fin 64) (hj : h.val * 64 + e.val < N) :
    shapeCast ⟨4, ![4, 8192, H, 64]⟩ v hs (ix4 b t h e) = v (ix3 b t ⟨h.val * 64 + e.val, hj⟩) := by
  refine shapeCast_apply v _ (ix4 b t h e) (ix3 b t ⟨h.val * 64 + e.val, hj⟩) ?_
  refine (Shape.rowMajor_val_three _).trans (Eq.trans ?_ (Shape.rowMajor_val_four _).symm)
  show (b.val * 8192 + t.val) * N + (h.val * 64 + e.val) = ((b.val * 8192 + t.val) * H + h.val) * 64 + e.val
  subst hN
  ring

/-- The rows of an array of heads. -/
theorem flat_apply {W N : ℕ} (v : FVec Ideal ⟨4, ![4, 8192, H, W]⟩ .f32) (hs : (⟨4, ![4, 8192, H, W]⟩ : Shape).ShapeCasts ⟨2, ![32768, N]⟩) (hN : N = H * W)
    (n : Fin 32768) (j : Fin N) (hh : j.val / W < H) (hl : j.val % W < W) :
    shapeCast ⟨2, ![32768, N]⟩ v hs (ix2 n j) = v (ix4 (rb n.val) (rt n.val) ⟨j.val / W, hh⟩ ⟨j.val % W, hl⟩) := by
  refine shapeCast_apply v _ (ix2 n j) _ ?_
  refine (Shape.rowMajor_val_four _).trans (Eq.trans ?_ (Shape.rowMajor_val_two _).symm)
  show ((n.val / 8192 % 4 * 8192 + n.val % 8192) * H + j.val / W) * W + j.val % W = n.val * N + j.val
  have hn : n.val / 8192 % 4 * 8192 + n.val % 8192 = n.val := by omega
  rw [hn, Nat.add_mul, Nat.add_assoc, Nat.div_add_mod', Nat.mul_assoc, ← hN]

/-- The rows of a slice. -/
theorem rows_apply {N : ℕ} (v : FVec Ideal ⟨3, ![4, 8192, N]⟩ .f32) (hs : (⟨3, ![4, 8192, N]⟩ : Shape).ShapeCasts ⟨2, ![32768, N]⟩)
    (n : Fin 32768) (j : Fin N) : shapeCast ⟨2, ![32768, N]⟩ v hs (ix2 n j) = v (ix3 (rb n.val) (rt n.val) j) := by
  refine shapeCast_apply v _ (ix2 n j) _ ?_
  refine (Shape.rowMajor_val_three _).trans (Eq.trans ?_ (Shape.rowMajor_val_two _).symm)
  show (n.val / 8192 % 4 * 8192 + n.val % 8192) * N + j.val = n.val * N + j.val
  have hn : n.val / 8192 % 4 * 8192 + n.val % 8192 = n.val := by omega
  rw [hn]

/-- A slice of the product's columns. -/
theorem cols_apply {N : ℕ} (c : ℕ) (hs : S4x8192x5144.Slices ![0, 0, c] ⟨3, ![4, 8192, N]⟩) (n : ℕ) (j : Fin N) (hj : c + j.val < 5144) :
    extractStridedSlice ⟨3, ![4, 8192, N]⟩ ![0, 0, c] (prod x g w) hs (ix3 (rb n) (rt n) j) = P x g w n (c + j.val) :=
  (extractStridedSlice_apply _ _ hs _ (ix3 (rb n) (rt n) ⟨c + j.val, hj⟩) fun a => by
    fin_cases a
    · exact (Nat.zero_add _).symm
    · exact (Nat.zero_add _).symm
    · rfl).trans (prod_apply x g w n ⟨c + j.val, hj⟩)

/-- Rows of heads, each head beside 64 further lanes. -/
theorem beside_apply {N : ℕ} (u v : FVec Ideal ⟨4, ![4, 8192, H, 64]⟩ .f32)
    (hc : Shape.Concatenates [⟨4, ![4, 8192, H, 64]⟩, ⟨4, ![4, 8192, H, 64]⟩] ⟨4, ![4, 8192, H, 128]⟩ 3)
    (hs : (⟨4, ![4, 8192, H, 128]⟩ : Shape).ShapeCasts ⟨2, ![32768, N]⟩) (hN : N = H * 128) (n : Fin 32768) (f d : ℕ → EReal)
    (hf : ∀ (h : Fin H) (e : Fin 64), u (ix4 (rb n.val) (rt n.val) h e) = f (h.val * 64 + e.val))
    (hd : ∀ (h : Fin H) (e : Fin 64), v (ix4 (rb n.val) (rt n.val) h e) = d e.val) (j : Fin N) :
    shapeCast ⟨2, ![32768, N]⟩ (concatenate ⟨4, ![4, 8192, H, 128]⟩ 3 [⟨⟨4, ![4, 8192, H, 64]⟩, u⟩, ⟨⟨4, ![4, 8192, H, 64]⟩, v⟩] hc) hs (ix2 n j)
      = beside f d j.val := by
  have hj := j.isLt
  have hl : j.val % 128 < 128 := Nat.mod_lt _ (by decide)
  have hh : j.val / 128 < H := by omega
  refine (flat_apply _ hs hN n j hh hl).trans ((pair_apply _ _ hc _ _ _ _ (by show j.val % 128 < 64 + 64; omega)).trans ?_)
  unfold beside
  by_cases he : j.val % 128 < 64
  · rw [dif_pos (show (⟨j.val % 128, hl⟩ : Fin 128).val < 64 from he), if_pos he, hf]
  · rw [dif_neg (show ¬(⟨j.val % 128, hl⟩ : Fin 128).val < 64 from he), if_neg he, hd]

end Heads

/-! ## The mark of a token's own block -/

def marks : FVec Ideal S1x8192x1x64 .f32 :=
  shapeCast S1x8192x1x64 (broadcastInDim S8x16x64x64 ![0, 1, 2, 3] bcast_S1x16x1x64_S8x16x64x64_0_1_2_3 (broadcastInDim S1x16x1x64 ![1, 3] bcast_S16x64_S1x16x1x64_1_3
    (select (cmpi .eq (broadcastInDim S16x64 ![0, 1] bcast_S16x1_S16x64_0_1 (broadcastInDim S16x1 ![0] bcast_S16_S16x1_0 (iotaInDim S16 32 0)))
        (broadcastInDim S16x64 ![0, 1] bcast_S1x64_S16x64_0_1 (broadcastInDim S1x64 ![1] bcast_S64_S1x64_1 (iotaInDim S64 32 0))))
      (broadcastInDim S16x64 ![] bcast_S_S16x64 (constant (F := Ideal) S_ .f32 0xF149F2CA#32)) (broadcastInDim S16x64 ![] bcast_S_S16x64 (constant (F := Ideal) S_ .f32 0x00000000#32)))))
    shapeCasts_S8x16x64x64_S1x8192x1x64

theorem marks_apply (n : ℕ) (l : Fin 64) : marks (ix4 0 (rt n) 0 l) = own n l.val := by
  refine (shapeCast_apply _ _ (ix4 0 (rt n) 0 l) (ix4 (⟨n / 1024 % 8, by omega⟩ : Fin 8) (⟨n / 64 % 16, by omega⟩ : Fin 16) (⟨n % 64, by omega⟩ : Fin 64) l) ?_).trans ?_
  · refine (Shape.rowMajor_val_four _).trans (Eq.trans ?_ (Shape.rowMajor_val_four _).symm)
    show ((n / 1024 % 8 * 16 + n / 64 % 16) * 64 + n % 64) * 64 + l.val = ((0 * 8192 + n % 8192) * 1 + 0) * 64 + l.val
    omega
  · refine (broadcastInDim_apply _ _ _ _ (ix4 0 (⟨n / 64 % 16, by omega⟩ : Fin 16) 0 l) (fun a => by fin_cases a <;> rfl)).trans ?_
    refine (broadcastInDim_apply _ _ _ _ (ix2 (⟨n / 64 % 16, by omega⟩ : Fin 16) l) (fun a => by fin_cases a <;> rfl)).trans ?_
    generalize hq : (⟨n / 64 % 16, by omega⟩ : Fin 16) = q
    have hq' : n / 64 % 16 = q.val := congrArg Fin.val hq
    unfold own
    rw [hq']
    show Scalar.select (Scalar.cmpi .eq _ _) (lit 0xF149F2CA#32) (lit 0x00000000#32) = _
    rw [show broadcastInDim S16x64 ![0, 1] bcast_S16x1_S16x64_0_1 (broadcastInDim S16x1 ![0] bcast_S16_S16x1_0 (iotaInDim S16 32 0)) (ix2 q l) = BitVec.ofNat 32 q.val from
        (broadcastInDim_apply _ _ _ (ix2 q l) (ix2 q 0) (fun a => by fin_cases a <;> rfl)).trans
          (broadcastInDim_apply _ _ _ (ix2 q 0) (ix1 q) (fun a => by fin_cases a <;> rfl)),
      show broadcastInDim S16x64 ![0, 1] bcast_S1x64_S16x64_0_1 (broadcastInDim S1x64 ![1] bcast_S64_S1x64_1 (iotaInDim S64 32 0)) (ix2 q l) = BitVec.ofNat 32 l.val from
        (broadcastInDim_apply _ _ _ (ix2 q l) (ix2 0 l) (fun a => by fin_cases a <;> rfl)).trans
          (broadcastInDim_apply _ _ _ (ix2 0 l) (ix1 l) (fun a => by fin_cases a <;> rfl))]
    have key : ∀ (q : Fin 16) (l : Fin 64), IntOp.cmpi .eq (BitVec.ofNat 32 q.val) (BitVec.ofNat 32 l.val) = 1#1 ↔ q.val = l.val := by decide +kernel
    exact sel_of (key q l) _ _

/-! ## The results -/

/-- Two heads' worth of columns from `c`, turned. -/
def pairR (c : ℕ) (hs : S4x8192x5144.Slices ![0, 0, c] S4x8192x128) : FVec Ideal S4x8192x2x64 .f32 :=
  ropeR (shapeCast S4x8192x2x64 (extractStridedSlice S4x8192x128 ![0, 0, c] (prod x g w) hs) shapeCasts_S4x8192x128_S4x8192x2x64) (cosT pos) (sinT pos)
    slices_S4x8192x2x64_S4x8192x2x32_0_0_0_0 slices_S4x8192x2x64_S4x8192x2x32_0_0_0_32 bcast_S4x8192x1x32_S4x8192x2x32_0_1_2_3 concatenates_S4x8192x2x32_S4x8192x2x32_S4x8192x2x64_d3

theorem cols2_apply (c : ℕ) (hs : S4x8192x5144.Slices ![0, 0, c] S4x8192x128) (hc : c + 128 ≤ 5144) (n : ℕ) (h : Fin 2) (e : Fin 64) :
    shapeCast S4x8192x2x64 (extractStridedSlice S4x8192x128 ![0, 0, c] (prod x g w) hs) shapeCasts_S4x8192x128_S4x8192x2x64 (ix4 (rb n) (rt n) h e)
      = P x g w n (c + (h.val * 64 + e.val)) :=
  (split_apply (H := 2) (N := 128) _ shapeCasts_S4x8192x128_S4x8192x2x64 rfl _ _ h e (by omega)).trans
    (cols_apply x g w (N := 128) c hs n ⟨h.val * 64 + e.val, by omega⟩ (by show c + (h.val * 64 + e.val) < 5144; omega))

theorem ropeAt_lane (n c h e : ℕ) (he : e < 64) : ropeAt x pos g w n c (h * 64 + e) = rope x pos g w n (c + h * 64) e := by
  have h1 : (h * 64 + e) / 64 = h := by omega
  have h2 : (h * 64 + e) % 64 = e := by omega
  rw [ropeAt, h1, h2]

theorem pairR_apply (c : ℕ) (hs : S4x8192x5144.Slices ![0, 0, c] S4x8192x128) (hc : c + 128 ≤ 5144) (n : ℕ) (h : Fin 2) (e : Fin 64) :
    pairR x pos g w c hs (ix4 (rb n) (rt n) h e) = ropeAt x pos g w n c (h.val * 64 + e.val) :=
  (ropeR_apply x pos g w _ _ _ _ _ n c (cols2_apply x g w c hs hc n) h e).trans (ropeAt_lane x pos g w n c h.val e.val e.isLt).symm

theorem q_eq : truncf .bf16 (shapeCast S32768x1024 (concatenate S4x8192x8x128 3 [⟨S4x8192x8x64, mulf (ropeR (H := 8) (shapeCast S4x8192x8x64 (extractStridedSlice S4x8192x512 ![0, 0, 0] (prod x g w) slices_S4x8192x5144_S4x8192x512_0_0_0) shapeCasts_S4x8192x512_S4x8192x8x64) (cosT pos) (sinT pos)
      slices_S4x8192x8x64_S4x8192x8x32_0_0_0_0 slices_S4x8192x8x64_S4x8192x8x32_0_0_0_32 bcast_S4x8192x1x32_S4x8192x8x32_0_1_2_3 concatenates_S4x8192x8x32_S4x8192x8x32_S4x8192x8x64_d3)
      (broadcastInDim S4x8192x8x64 ![] bcast_S_S4x8192x8x64 (constant (F := Ideal) S_ .f32 0x3E38AA3B#32))⟩,
      ⟨S4x8192x8x64, broadcastInDim S4x8192x8x64 ![] bcast_S_S4x8192x8x64 (constant (F := Ideal) S_ .f32 0x00000000#32)⟩] concatenates_S4x8192x8x64_S4x8192x8x64_S4x8192x8x128_d3)
      shapeCasts_S4x8192x8x128_S32768x1024) bitsLt_bf16_f32 = arr (qS x pos g w) := arr_ext fun n j => by
  refine beside_apply (H := 8) (N := 1024) _ _ concatenates_S4x8192x8x64_S4x8192x8x64_S4x8192x8x128_d3 shapeCasts_S4x8192x8x128_S32768x1024 rfl n
    (fun j => ropeAt x pos g w n.val 0 j * lit 0x3E38AA3B#32) (fun _ => lit 0x00000000#32) (fun h e => ?_) (fun h e => rfl) j
  refine congrArg (· * lit 0x3E38AA3B#32) ?_
  refine (ropeR_apply x pos g w _ _ _ _ _ n.val 0 (fun h e => ?_) h e).trans (ropeAt_lane x pos g w n.val 0 h.val e.val e.isLt).symm
  exact (split_apply (H := 8) (N := 512) _ shapeCasts_S4x8192x512_S4x8192x8x64 rfl _ _ h e (by omega)).trans
    (cols_apply x g w (N := 512) 0 slices_S4x8192x5144_S4x8192x512_0_0_0 n.val ⟨h.val * 64 + e.val, by omega⟩ (by show 0 + (h.val * 64 + e.val) < 5144; omega))

theorem kc_eq : shapeCast S32768x128 (pairR x pos g w 512 slices_S4x8192x5144_S4x8192x128_0_0_512) shapeCasts_S4x8192x2x64_S32768x128
    = arr (kcS x pos g w) := arr_ext fun n j => by
  have hj := j.isLt
  refine (flat_apply (H := 2) (W := 64) (N := 128) _ shapeCasts_S4x8192x2x64_S32768x128 rfl n j (by omega) (by omega)).trans ?_
  refine (pairR_apply x pos g w 512 _ (by decide) n.val _ _).trans (congrArg (ropeAt x pos g w n.val 512) ?_)
  show j.val / 64 * 64 + j.val % 64 = j.val
  omega

/-- Two heads and the lanes beside them, as rows. -/
def pairBeside (u v : FVec Ideal S4x8192x2x64 .f32) : FVec Ideal S32768x256 .bf16 :=
  truncf .bf16 (shapeCast S32768x256 (concatenate S4x8192x2x128 3 [⟨S4x8192x2x64, u⟩, ⟨S4x8192x2x64, v⟩] concatenates_S4x8192x2x64_S4x8192x2x64_S4x8192x2x128_d3)
    shapeCasts_S4x8192x2x128_S32768x256) bitsLt_bf16_f32

theorem pairBeside_eq (u v : FVec Ideal S4x8192x2x64 .f32) (f d : ℕ → ℕ → EReal)
    (hf : ∀ (n : ℕ) (h : Fin 2) (e : Fin 64), u (ix4 (rb n) (rt n) h e) = f n (h.val * 64 + e.val))
    (hd : ∀ (n : ℕ) (h : Fin 2) (e : Fin 64), v (ix4 (rb n) (rt n) h e) = d n e.val) :
    pairBeside u v = arr fun n => beside (f n) (d n) := arr_ext fun n j =>
  beside_apply (H := 2) (N := 256) _ _ concatenates_S4x8192x2x64_S4x8192x2x64_S4x8192x2x128_d3 shapeCasts_S4x8192x2x128_S32768x256 rfl n (f n.val) (d n.val) (hf n.val) (hd n.val) j

theorem ksl_eq : pairBeside (pairR x pos g w 768 slices_S4x8192x5144_S4x8192x128_0_0_768)
    (broadcastInDim S4x8192x2x64 ![0, 1, 2, 3] bcast_S1x8192x1x64_S4x8192x2x64_0_1_2_3 marks) = arr (kslS x pos g w) :=
  pairBeside_eq _ _ (fun n => ropeAt x pos g w n 768) own (pairR_apply x pos g w 768 _ (by decide)) fun n h e =>
    (broadcastInDim_apply _ _ _ (ix4 (rb n) (rt n) h e) (ix4 0 (rt n) 0 e) (fun a => by fin_cases a <;> rfl)).trans (marks_apply n e)

theorem kwn_eq : pairBeside (pairR x pos g w 1024 slices_S4x8192x5144_S4x8192x128_0_0_1024)
    (broadcastInDim S4x8192x2x64 ![] bcast_S_S4x8192x2x64 (constant (F := Ideal) S_ .f32 0x00000000#32)) = arr (kwnS x pos g w) :=
  pairBeside_eq _ _ (fun n => ropeAt x pos g w n 1024) (fun _ _ => lit 0x00000000#32) (pairR_apply x pos g w 1024 _ (by decide)) fun _ _ _ => rfl

theorem vsl_eq : pairBeside (shapeCast S4x8192x2x64 (extractStridedSlice S4x8192x128 ![0, 0, 896] (prod x g w) slices_S4x8192x5144_S4x8192x128_0_0_896) shapeCasts_S4x8192x128_S4x8192x2x64)
    (broadcastInDim S4x8192x2x64 ![] bcast_S_S4x8192x2x64 (constant (F := Ideal) S_ .f32 0x3F800000#32)) = arr (vslS x g w) :=
  pairBeside_eq _ _ (fun n j => P x g w n (896 + j)) (fun _ _ => lit 0x3F800000#32) (cols2_apply x g w 896 _ (by decide)) fun _ _ _ => rfl

theorem vwn_eq : pairBeside (shapeCast S4x8192x2x64 (extractStridedSlice S4x8192x128 ![0, 0, 1152] (prod x g w) slices_S4x8192x5144_S4x8192x128_0_0_1152) shapeCasts_S4x8192x128_S4x8192x2x64)
    (broadcastInDim S4x8192x2x64 ![] bcast_S_S4x8192x2x64 (constant (F := Ideal) S_ .f32 0x3F800000#32)) = arr (vwnS x g w) :=
  pairBeside_eq _ _ (fun n j => P x g w n (1152 + j)) (fun _ _ => lit 0x3F800000#32) (cols2_apply x g w 1152 _ (by decide)) fun _ _ _ => rfl

/-- The columns from `c`, as rows. -/
theorem rows_eq {N : ℕ} (c : ℕ) (hs : S4x8192x5144.Slices ![0, 0, c] ⟨3, ![4, 8192, N]⟩) (h : (⟨3, ![4, 8192, N]⟩ : Shape).ShapeCasts ⟨2, ![32768, N]⟩)
    (hc : c + N ≤ 5144) : shapeCast ⟨2, ![32768, N]⟩ (extractStridedSlice ⟨3, ![4, 8192, N]⟩ ![0, 0, c] (prod x g w) hs) h
      = arr fun n j => P x g w n (c + j) := arr_ext fun n j =>
  (rows_apply _ h n j).trans (cols_apply x g w c hs n.val j (by omega))

theorem ng_eq : pad S32768x128 ![0, 0] ![0, 104] ![0, 0] (shapeCast S32768x24 (extractStridedSlice S4x8192x24 ![0, 0, 1280] (prod x g w) slices_S4x8192x5144_S4x8192x24_0_0_1280) shapeCasts_S4x8192x24_S32768x24)
    (sitofp .f32 (constantI S_ 32 0#32)) pads_S32768x24_S32768x128_000_01040 h_S_ = arr (ngS x g w) := arr_ext fun n j => by
  refine (pad24_apply _ pads_S32768x24_S32768x128_000_01040 h_S_ n j).trans ?_
  unfold ngS
  by_cases hj : j.val < 24
  · rw [dif_pos hj, if_pos hj]
    exact congrFun (rows_eq x g w (N := 24) 1280 slices_S4x8192x5144_S4x8192x24_0_0_1280 shapeCasts_S4x8192x24_S32768x24 (by decide)) (ix2 n ⟨j.val, hj⟩)
  · rw [dif_neg hj, if_neg hj]

variable (m : (ℓ : Loc nD τ sig) → Buf (Elt Ideal) ℓ) (c : Dev nD)

/-- The arguments. -/
abbrev ax : FVec Ideal S4x8192x1024 .f32 := m ((c.tc : Thread nD τ).loc main_arg0)
abbrev ap : IVec S4x8192 32 := m ((c.tc : Thread nD τ).loc main_arg1)
abbrev ag : FVec Ideal S1024 .f32 := m ((c.tc : Thread nD τ).loc main_arg2)
abbrev aw : FVec Ideal S1024x5144 .f32 := m ((c.tc : Thread nD τ).loc main_arg3)

theorem res0 : res_main_v72 m c = arr (qS (ax m c) (ap m c) (ag m c) (aw m c)) := by
  unfold res_main_v72
  exact q_eq (ax m c) (ap m c) (ag m c) (aw m c)
theorem res1 : res_main_v87 m c = arr (kcS (ax m c) (ap m c) (ag m c) (aw m c)) := by
  unfold res_main_v87
  exact kc_eq (ax m c) (ap m c) (ag m c) (aw m c)
theorem res2 : res_main_v106 m c = arr (kslS (ax m c) (ap m c) (ag m c) (aw m c)) := by
  unfold res_main_v106
  exact ksl_eq (ax m c) (ap m c) (ag m c) (aw m c)
theorem res3 : res_main_v125 m c = arr (kwnS (ax m c) (ap m c) (ag m c) (aw m c)) := by
  unfold res_main_v125
  exact kwn_eq (ax m c) (ap m c) (ag m c) (aw m c)

end Cert.Proof.Inproj.Ref

end
-- ==== Proof.InprojBlock.lean ====
/- What the projection kernel stores at one grid point, row by row: each of its eleven blocks is, at row `r`, the specification's
   function of the token that the row stands for. -/
module

public import proofs.«01_k».proof.Proof.InprojSpec
public import proofs.«01_k».proof.Proof.Gen.Kernel2Ideal.Frame
public import Idealize.ShloMosaic.Lib.MatmulPlain
public import Idealize.ShloMosaic.Lib.ValueLayout

@[expose] public section

set_option maxRecDepth 16384

noncomputable section

namespace Cert.Proof.Inproj.Blk

open Idealize.ShloMosaic hiding ix1 eq_ix1 ix2 eq_ix2 ix3 eq_ix3 ix4 eq_ix4 ix5 eq_ix5
open Idealize.ShloMosaic.ValueIdx Idealize.ShloMosaic.TcCoe
open Cert.Kernel2Ideal Cert.Kernel2Ideal.Gen
open Cert.Proof.Inproj

/-- Row `r` of a block is `Y`. -/
def Row {B : ℕ} (r : Fin 512) (v : (⟨2, ![512, B]⟩ : Shape).Idx → EReal) (Y : ℕ → EReal) : Prop := ∀ j : Fin B, v (ix2 r j) = Y j.val

variable {r : Fin 512}

theorem Row.congr {B : ℕ} {v : (⟨2, ![512, B]⟩ : Shape).Idx → EReal} {Y Z : ℕ → EReal} (h : Row r v Y) (e : ∀ j < B, Y j = Z j) : Row r v Z :=
  fun j => (h j).trans (e j.val j.isLt)

theorem slice_row {A B o : ℕ} {y : (⟨2, ![512, A]⟩ : Shape).Idx → EReal} {Y : ℕ → EReal} (hs : (⟨2, ![512, A]⟩ : Shape).Slices ![0, o] ⟨2, ![512, B]⟩)
    (h : Row r y Y) : Row r (extractStridedSlice ⟨2, ![512, B]⟩ ![0, o] y hs) (fun j => Y (o + j)) := fun j => by
  have ho : o + B ≤ A := hs.2 (1 : Fin 2)
  exact (extractStridedSlice_apply _ _ hs (ix2 r j) (ix2 r ⟨o + j.val, by omega⟩) (fun a => by
    fin_cases a
    · exact (Nat.zero_add _).symm
    · rfl)).trans (h _)

theorem pieces_row {N B : ℕ} (f : Fin N → (S512x128.Idx → EReal))
    (h : Shape.Concatenates ((List.ofFn fun n : Fin N => (⟨S512x128, f n⟩ : (s : Shape) × (s.Idx → EReal))).map (·.1)) ⟨2, ![512, B]⟩ 1)
    (hB : B ≤ N * 128) (Z : ℕ → EReal) (hf : ∀ i : Fin N, Row r (f i) (fun l => Z (i.val * 128 + l))) :
    Row r (concatenate ⟨2, ![512, B]⟩ 1 (List.ofFn fun n : Fin N => (⟨S512x128, f n⟩ : (s : Shape) × (s.Idx → EReal))) h) Z := fun j => by
  have hj := j.isLt
  have hl : j.val % 128 < 128 := Nat.mod_lt _ (by decide)
  refine (concatenate_ofFn_apply (s₁ := S512x128) (t := ⟨2, ![512, B]⟩) 1 f h rfl 128 rfl (ix2 r j) ⟨j.val / 128, by omega⟩ rfl (ix2 r ⟨j.val % 128, hl⟩) rfl
    (fun b hb => by fin_cases b <;> first | rfl | exact absurd rfl hb)).trans ?_
  exact (hf _ ⟨j.val % 128, hl⟩).trans (congrArg Z (Nat.div_add_mod' _ _))

/-- A mask by lane, at every row. -/
def maskL (k : IVec S1x128 1) : IVec S512x128 1 := broadcastTo S512x128 (shapeCast S1x128 k shapeCasts_S1x128_S1x128) broadcasts_S1x128_S512x128
theorem maskL_apply (k : IVec S1x128 1) (l : Fin 128) : maskL k (ix2 r l) = k (ix2 0 l) :=
  (broadcastTo_1b_ab_apply _ broadcasts_S1x128_S512x128 r l).trans (congrFun (shapeCast_self k shapeCasts_S1x128_S1x128) _)

theorem rot_apply (v : FVec Ideal S512x128 .f32) (s : BitVec 32) (l k : Fin 128) (hk : k.val = (l.val + 128 - s.toNat % 128) % 128) :
    dynamicRotate 1 s none v rotates_S512x128_d1 (ix2 r l) = v (ix2 r k) :=
  dynamicRotate_apply _ _ _ _ _ (ix2 r k) fun b => by
    fin_cases b
    · rfl
    · exact hk

/-! ## The lanes beside a head -/

/-- Lanes below 64 of `v`, the others `c`. -/
def half0 (v : FVec Ideal S512x128 .f32) (c : Ideal .f32) : FVec Ideal S512x128 .f32 := select (maskL k0_pay18) v (broadcast S512x128 c)
/-- Lanes from 64 of `v`, then `c`. -/
def half1 (v : FVec Ideal S512x128 .f32) (c : Ideal .f32) : FVec Ideal S512x128 .f32 := half0 (dynamicRotate 1 64#32 none v rotates_S512x128_d1) c

theorem lane_bit : ∀ l : Fin 128, k0_pay18 (ix2 0 l) = 1#1 ↔ l.val < 64 :=
  (by decide +kernel : ∀ l : Fin 128, IntOp.cmpi .slt (BitVec.ofNat 32 (0 * 128 + l.val)) 64#32 = 1#1 ↔ l.val < 64)

theorem half0_apply (v : FVec Ideal S512x128 .f32) (c : Ideal .f32) (l : Fin 128) : half0 v c (ix2 r l) = if l.val < 64 then v (ix2 r l) else c := by
  show Scalar.select (maskL k0_pay18 (ix2 r l)) (v (ix2 r l)) c = _
  rw [maskL_apply]
  exact sel_of (lane_bit l) _ _

theorem half0_row {v : FVec Ideal S512x128 .f32} {Y : ℕ → EReal} (c : Ideal .f32) (h : Row r v Y) : Row r (half0 v c) (fun j => if j < 64 then Y j else c) := fun j => by
  rw [half0_apply, h j]

theorem half1_row {v : FVec Ideal S512x128 .f32} {Y : ℕ → EReal} (c : Ideal .f32) (h : Row r v Y) :
    Row r (half1 v c) (fun j => if j < 64 then Y (64 + j) else c) := fun j => by
  rw [half1, half0_apply]
  show _ = if j.val < 64 then Y (64 + j.val) else c
  by_cases hj : j.val < 64
  · rw [if_pos hj, if_pos hj, rot_apply v 64#32 j ⟨64 + j.val, by omega⟩ (by show 64 + j.val = (j.val + 128 - 64 % 128) % 128; omega)]
    exact h _
  · rw [if_neg hj, if_neg hj]

theorem beside_at (Y c : ℕ → EReal) (i l : ℕ) (hl : l < 128) : beside Y c (i * 128 + l) = if l < 64 then Y (i * 64 + l) else c (l - 64) := by
  have h1 : (i * 128 + l) % 128 = l := by omega
  have h2 : (i * 128 + l) / 128 = i := by omega
  rw [beside, h1, h2]

theorem even_row {v : FVec Ideal S512x128 .f32} {Y : ℕ → EReal} (c : Ideal .f32) (i o : ℕ) (ho : o = i * 64) (h : Row r v (fun j => Y (o + j))) :
    Row r (half0 v c) (fun l => beside Y (fun _ => c) (i * 128 + l)) :=
  (half0_row c h).congr fun l hl => by
    rw [beside_at _ _ _ _ hl, ho]
theorem odd_row {v : FVec Ideal S512x128 .f32} {Y : ℕ → EReal} (c : Ideal .f32) (i o : ℕ) (ho : o + 64 = i * 64) (h : Row r v (fun j => Y (o + j))) :
    Row r (half1 v c) (fun l => beside Y (fun _ => c) (i * 128 + l)) :=
  (half1_row c h).congr fun l hl => by
    rw [beside_at _ _ _ _ hl, ← ho, Nat.add_assoc]

/-- Two heads, each beside 64 lanes of `c`. -/
def spread (v : FVec Ideal S512x128 .f32) (c : Ideal .f32) : FVec Ideal S512x256 .f32 :=
  concatenate S512x256 1 [⟨S512x128, half0 v c⟩, ⟨S512x128, half1 v c⟩] concatenates_S512x128_S512x128_S512x256_d1

theorem spread_row {v : FVec Ideal S512x128 .f32} {Y : ℕ → EReal} (c : Ideal .f32) (h : Row r v Y) : Row r (spread v c) (beside Y (fun _ => c)) :=
  have h' : Row r v (fun j => Y (0 + j)) := h.congr fun j _ => by rw [Nat.zero_add]
  pieces_row (N := 2) (B := 256) ![half0 v c, half1 v c] concatenates_S512x128_S512x128_S512x256_d1 (by decide) _ fun i => by
    fin_cases i
    · exact even_row c 0 0 rfl h'
    · exact odd_row c 1 0 rfl h'

/-- Eight heads, each beside 64 lanes of `c`. -/
def spread8 (y : FVec Ideal S512x512 .f32) (c : Ideal .f32) : FVec Ideal S512x1024 .f32 :=
  concatenate S512x1024 1 [⟨S512x128, half0 (extractStridedSlice S512x128 ![0, 0] y slices_S512x512_o0_0_S512x128) c⟩,
    ⟨S512x128, half1 (extractStridedSlice S512x128 ![0, 0] y slices_S512x512_o0_0_S512x128) c⟩,
    ⟨S512x128, half0 (extractStridedSlice S512x128 ![0, 128] y slices_S512x512_o0_128_S512x128) c⟩,
    ⟨S512x128, half1 (extractStridedSlice S512x128 ![0, 128] y slices_S512x512_o0_128_S512x128) c⟩,
    ⟨S512x128, half0 (extractStridedSlice S512x128 ![0, 256] y slices_S512x512_o0_256_S512x128) c⟩,
    ⟨S512x128, half1 (extractStridedSlice S512x128 ![0, 256] y slices_S512x512_o0_256_S512x128) c⟩,
    ⟨S512x128, half0 (extractStridedSlice S512x128 ![0, 384] y slices_S512x512_o0_384_S512x128) c⟩,
    ⟨S512x128, half1 (extractStridedSlice S512x128 ![0, 384] y slices_S512x512_o0_384_S512x128) c⟩]
    concatenates_S512x128_S512x128_S512x128_S512x128_S512x128_S512x128_S512x128_S512x128_S512x1024_d1

set_option maxHeartbeats 1000000 in
theorem spread8_row {y : FVec Ideal S512x512 .f32} {Y : ℕ → EReal} (c : Ideal .f32) (h : Row r y Y) : Row r (spread8 y c) (beside Y (fun _ => c)) :=
  pieces_row (N := 8) (B := 1024) ![half0 (extractStridedSlice S512x128 ![0, 0] y slices_S512x512_o0_0_S512x128) c,
    half1 (extractStridedSlice S512x128 ![0, 0] y slices_S512x512_o0_0_S512x128) c, half0 (extractStridedSlice S512x128 ![0, 128] y slices_S512x512_o0_128_S512x128) c,
    half1 (extractStridedSlice S512x128 ![0, 128] y slices_S512x512_o0_128_S512x128) c, half0 (extractStridedSlice S512x128 ![0, 256] y slices_S512x512_o0_256_S512x128) c,
    half1 (extractStridedSlice S512x128 ![0, 256] y slices_S512x512_o0_256_S512x128) c, half0 (extractStridedSlice S512x128 ![0, 384] y slices_S512x512_o0_384_S512x128) c,
    half1 (extractStridedSlice S512x128 ![0, 384] y slices_S512x512_o0_384_S512x128) c]
    concatenates_S512x128_S512x128_S512x128_S512x128_S512x128_S512x128_S512x128_S512x128_S512x1024_d1 (by decide) _ fun i => by
    fin_cases i
    · exact even_row c 0 0 rfl (slice_row _ h)
    · exact odd_row c 1 0 rfl (slice_row _ h)
    · exact even_row c 2 128 rfl (slice_row _ h)
    · exact odd_row c 3 128 rfl (slice_row _ h)
    · exact even_row c 4 256 rfl (slice_row _ h)
    · exact odd_row c 5 256 rfl (slice_row _ h)
    · exact even_row c 6 384 rfl (slice_row _ h)
    · exact odd_row c 7 384 rfl (slice_row _ h)

/-! ## The rotary turn -/

/-- The turn of two heads of 64 lanes, from the cosines and the signed sines. -/
def turn2 (v cs sn : FVec Ideal S512x128 .f32) : FVec Ideal S512x128 .f32 :=
  addf (mulf v cs) (mulf (select (maskL k0_pay5) (dynamicRotate 1 96#32 none v rotates_S512x128_d1) (dynamicRotate 1 32#32 none v rotates_S512x128_d1)) sn)

theorem half_bit : ∀ l : Fin 128, k0_pay5 (ix2 0 l) = 1#1 ↔ l.val % 64 < 32 :=
  (by decide +kernel : ∀ l : Fin 128, IntOp.cmpi .eq (IntOp.andi (BitVec.ofNat 32 (0 * 128 + l.val)) 32#32) 0#32 = 1#1 ↔ l.val % 64 < 32)

theorem turn2_apply (v cs sn : FVec Ideal S512x128 .f32) (l : Fin 128) : turn2 v cs sn (ix2 r l)
    = v (ix2 r l) * cs (ix2 r l) + (if l.val % 64 < 32 then v (ix2 r ⟨(l.val + 32) % 128, Nat.mod_lt _ (by decide)⟩)
      else v (ix2 r ⟨(l.val + 96) % 128, Nat.mod_lt _ (by decide)⟩)) * sn (ix2 r l) := by
  show v (ix2 r l) * cs (ix2 r l) + Scalar.select (maskL k0_pay5 (ix2 r l)) (dynamicRotate 1 96#32 none v rotates_S512x128_d1 (ix2 r l))
    (dynamicRotate 1 32#32 none v rotates_S512x128_d1 (ix2 r l)) * sn (ix2 r l) = _
  rw [maskL_apply, sel_of (half_bit l), rot_apply v 96#32 l ⟨(l.val + 32) % 128, Nat.mod_lt _ (by decide)⟩ (by show (l.val + 32) % 128 = (l.val + 128 - 96 % 128) % 128; omega),
    rot_apply v 32#32 l ⟨(l.val + 96) % 128, Nat.mod_lt _ (by decide)⟩ (by show (l.val + 96) % 128 = (l.val + 128 - 32 % 128) % 128; omega)]

section Token

variable (x : FVec Ideal ⟨3, ![4, 8192, 1024]⟩ .f32) (pos : IVec ⟨2, ![4, 8192]⟩ 32) (g : FVec Ideal ⟨1, ![1024]⟩ .f32)
  (w : FVec Ideal ⟨2, ![1024, 5144]⟩ .f32) (n : ℕ)

theorem ropeAt_add (c q j : ℕ) : ropeAt x pos g w n c (64 * q + j) = ropeAt x pos g w n (c + 64 * q) j := by
  have h1 : (64 * q + j) / 64 * 64 = 64 * q + j / 64 * 64 := by omega
  have h2 : (64 * q + j) % 64 = j % 64 := by omega
  rw [ropeAt, ropeAt, h1, h2, Nat.add_assoc]

/-- The cosines and the signed sines of the token, by lane. -/
def csRow (l : ℕ) : EReal := C pos n (l % 32)
def snRow (l : ℕ) : EReal := if l % 64 < 32 then -S pos n (l % 32) else S pos n (l % 32)

theorem turn2_row {v cs sn : FVec Ideal S512x128 .f32} (c : ℕ) (hv : Row r v (fun l => P x g w n (c + l))) (hc : Row r cs (csRow pos n))
    (hs : Row r sn (snRow pos n)) : Row r (turn2 v cs sn) (ropeAt x pos g w n c) := fun l => by
  rw [turn2_apply, hv, hc, hs, hv, hv, csRow, snRow, ropeAt, rope]
  have hl := l.isLt
  by_cases h : l.val % 64 < 32
  · rw [if_pos h, if_pos h, if_pos h]
    have e1 : l.val % 32 = l.val % 64 := by omega
    have e2 : c + (l.val + 32) % 128 = c + l.val / 64 * 64 + (l.val % 64 + 32) := by omega
    have e3 : c + l.val = c + l.val / 64 * 64 + l.val % 64 := by omega
    show P x g w n (c + l.val) * C pos n (l.val % 32) + P x g w n (c + (l.val + 32) % 128) * -S pos n (l.val % 32) = _
    rw [e1, e2, e3, mul_neg, ← sub_eq_add_neg]
  · rw [if_neg h, if_neg h, if_neg h]
    have e1 : l.val % 32 = l.val % 64 - 32 := by omega
    have e2 : c + (l.val + 96) % 128 = c + l.val / 64 * 64 + (l.val % 64 - 32) := by omega
    have e3 : c + l.val = c + l.val / 64 * 64 + l.val % 64 := by omega
    show P x g w n (c + l.val) * C pos n (l.val % 32) + P x g w n (c + (l.val + 96) % 128) * S pos n (l.val % 32) = _
    rw [e1, e2, e3, add_comm]

/-- How far a column of the turned block lies from its column of the product. -/
def off (j : ℕ) : ℕ := if j < 640 then 0 else if j < 768 then 128 else 256

/-- Fourteen heads turned. -/
def turn14 (pr : FVec Ideal S512x896 .f32) (cs sn : FVec Ideal S512x128 .f32) : FVec Ideal S512x896 .f32 :=
  concatenate S512x896 1 [⟨S512x128, turn2 (extractStridedSlice S512x128 ![0, 0] pr slices_S512x896_o0_0_S512x128) cs sn⟩,
    ⟨S512x128, turn2 (extractStridedSlice S512x128 ![0, 128] pr slices_S512x896_o0_128_S512x128) cs sn⟩,
    ⟨S512x128, turn2 (extractStridedSlice S512x128 ![0, 256] pr slices_S512x896_o0_256_S512x128) cs sn⟩,
    ⟨S512x128, turn2 (extractStridedSlice S512x128 ![0, 384] pr slices_S512x896_o0_384_S512x128) cs sn⟩,
    ⟨S512x128, turn2 (extractStridedSlice S512x128 ![0, 512] pr slices_S512x896_o0_512_S512x128) cs sn⟩,
    ⟨S512x128, turn2 (extractStridedSlice S512x128 ![0, 640] pr slices_S512x896_o0_640_S512x128) cs sn⟩,
    ⟨S512x128, turn2 (extractStridedSlice S512x128 ![0, 768] pr slices_S512x896_o0_768_S512x128) cs sn⟩]
    concatenates_S512x128_S512x128_S512x128_S512x128_S512x128_S512x128_S512x128_S512x896_d1

theorem piece_row {pr : FVec Ideal S512x896 .f32} {cs sn : FVec Ideal S512x128 .f32} (hp : Row r pr (fun j => P x g w n (off j + j))) (hc : Row r cs (csRow pos n))
    (hs : Row r sn (snRow pos n)) (k e : ℕ) (he : ∀ l < 128, off (k * 128 + l) = e) (h : S512x896.Slices ![0, k * 128] S512x128) :
    Row r (turn2 (extractStridedSlice S512x128 ![0, k * 128] pr h) cs sn) (fun l => ropeAt x pos g w n (off (k * 128 + l)) (k * 128 + l)) :=
  (turn2_row x pos g w n (e + k * 128) ((slice_row h hp).congr fun l hl => by
    rw [he l hl, Nat.add_assoc]) hc hs).congr fun l hl => by
      rw [he l hl, show k * 128 + l = 64 * (2 * k) + l by omega, ropeAt_add, show e + k * 128 = e + 64 * (2 * k) by omega]

theorem turn14_row {pr : FVec Ideal S512x896 .f32} {cs sn : FVec Ideal S512x128 .f32} (hp : Row r pr (fun j => P x g w n (off j + j))) (hc : Row r cs (csRow pos n))
    (hs : Row r sn (snRow pos n)) : Row r (turn14 pr cs sn) (fun j => ropeAt x pos g w n (off j) j) :=
  pieces_row (N := 7) (B := 896) ![turn2 (extractStridedSlice S512x128 ![0, 0] pr slices_S512x896_o0_0_S512x128) cs sn,
    turn2 (extractStridedSlice S512x128 ![0, 128] pr slices_S512x896_o0_128_S512x128) cs sn, turn2 (extractStridedSlice S512x128 ![0, 256] pr slices_S512x896_o0_256_S512x128) cs sn,
    turn2 (extractStridedSlice S512x128 ![0, 384] pr slices_S512x896_o0_384_S512x128) cs sn, turn2 (extractStridedSlice S512x128 ![0, 512] pr slices_S512x896_o0_512_S512x128) cs sn,
    turn2 (extractStridedSlice S512x128 ![0, 640] pr slices_S512x896_o0_640_S512x128) cs sn, turn2 (extractStridedSlice S512x128 ![0, 768] pr slices_S512x896_o0_768_S512x128) cs sn]
    concatenates_S512x128_S512x128_S512x128_S512x128_S512x128_S512x128_S512x128_S512x896_d1 (by decide) _ fun i => by
    have lo (k : ℕ) (hk : k < 5) : ∀ l < 128, off (k * 128 + l) = 0 := fun l hl => if_pos (by omega)
    have mid : ∀ l < 128, off (5 * 128 + l) = 128 := fun l hl => (if_neg (by omega)).trans (if_pos (by omega))
    have hi : ∀ l < 128, off (6 * 128 + l) = 256 := fun l hl => (if_neg (by omega)).trans (if_neg (by omega))
    fin_cases i
    · exact piece_row x pos g w n hp hc hs 0 0 (lo 0 (by decide)) _
    · exact piece_row x pos g w n hp hc hs 1 0 (lo 1 (by decide)) _
    · exact piece_row x pos g w n hp hc hs 2 0 (lo 2 (by decide)) _
    · exact piece_row x pos g w n hp hc hs 3 0 (lo 3 (by decide)) _
    · exact piece_row x pos g w n hp hc hs 4 0 (lo 4 (by decide)) _
    · exact piece_row x pos g w n hp hc hs 5 128 mid _
    · exact piece_row x pos g w n hp hc hs 6 256 hi _

/-! ## The product -/

theorem pay1_apply (x0 : Vec Ideal S512x1024 .f32) (x1 : Vec Ideal S1x1024 .f32) (k : Fin 1024) :
    k0_pay1 x0 x1 (ix2 r k) = hrow (fun k => x0 (ix2 r k)) (fun k => x1 (ix2 0 k)) k := by
  have e0 : shapeCast S512x1024 x0 shapeCasts_S512x1024_S512x1024 = x0 := shapeCast_self _ _
  have e1 : shapeCast S1x1024 x1 shapeCasts_S1x1024_S1x1024 = x1 := shapeCast_self _ _
  unfold k0_pay1
  rw [e0, e1]
  refine congrArg₂ (· * ·) (congrArg (x0 (ix2 r k) * ·) ?_) (broadcastTo_1b_ab_apply _ broadcasts_S1x1024_S512x1024 r k)
  refine (broadcastTo_apply _ broadcasts_S512x1_S512x1024 (ix2 r k) (ix2 r 0) (fun a => by fin_cases a <;> rfl)).trans ?_
  refine congrArg (fun s => Ideal.rsqrt (Ideal.div s (lit 0x44800000#32) + lit 0x358637BD#32)) ?_
  refine (shapeCast_apply _ _ (ix2 r 0) (ix1 r) ?_).trans ?_
  · refine (Shape.rowMajor_val_one _).trans (Eq.trans ?_ (Shape.rowMajor_val_two _).symm)
    show r.val = r.val * 1 + 0
    omega
  · refine (Ideal.multiReduction_add_single _ _ _ _ _ _).trans (Finset.sum_congr rfl fun k _ => ?_)
    have e : reduces_S512x1024_S512.lift (ix1 r) k = ix2 r k := funext fun a => by fin_cases a <;> rfl
    exact congrArg (fun i => x0 i * x0 i) e

variable (x0 : Vec Ideal S512x1024 .f32) (x1 : Vec Ideal S1x1024 .f32)
  (h0 : ∀ k : Fin 1024, x0 (ix2 r k) = x (ix3 (rb n) (rt n) k)) (h1 : ∀ k : Fin 1024, x1 (ix2 0 k) = g (ix1 k))

include h0 h1

theorem pay1_row (k : Fin 1024) : k0_pay1 x0 x1 (ix2 r k) = hrow (fun k => x (ix3 (rb n) (rt n) k)) (fun k => g (ix1 k)) k := by
  rw [pay1_apply, funext h0, funext h1]

/-- The product with a matrix whose columns are columns of `w`. -/
theorem mm_row {B : ℕ} (W : FVec Ideal ⟨2, ![1024, B]⟩ .bf16) (col : ℕ → ℕ)
    (hW : ∀ (k : Fin 1024) (j : Fin B), W (ix2 k j) = w (ix2 k ⟨col j.val % 5144, Nat.mod_lt _ (by decide)⟩)) :
    Row r (matmul (DotDims.plain 512 1024 B) none (k0_pay1 x0 x1) W (constant (F := Ideal) ⟨2, ![512, B]⟩ .f32 0x00000000#32)) (fun j => P x g w n (col j)) := fun j => by
  refine (Ideal.matmul_plain_apply (M := 512) (K := 1024) (N := B) none (k0_pay1 x0 x1) W _ r j).trans ?_
  show Ideal.ofBits .f32 0x00000000#32 + _ = _
  rw [Ideal.ofBits_zero_f32, zero_add]
  exact Finset.sum_congr rfl fun k _ => congrArg₂ (· * ·) (pay1_row x g n x0 x1 h0 h1 k) (hW k j)

end Token

end Cert.Proof.Inproj.Blk

end
-- ==== Proof.InprojOuts.lean ====
/- The eleven blocks that the projection kernel stores, at a row whose inputs are those of one token. -/
module

public import proofs.«01_k».proof.Proof.InprojBlock
public import Idealize.ShloMosaic.Lib.Pipeline.ValueKit.Tiles

@[expose] public section

set_option maxRecDepth 16384

noncomputable section

namespace Cert.Proof.Inproj.Blk

open Idealize.ShloMosaic hiding ix1 eq_ix1 ix2 eq_ix2 ix3 eq_ix3 ix4 eq_ix4 ix5 eq_ix5
open Idealize.ShloMosaic.ValueIdx Idealize.ShloMosaic.TcCoe
open Cert.Kernel2Ideal Cert.Kernel2Ideal.Gen
open Cert.Proof.Inproj

variable (x : FVec Ideal ⟨3, ![4, 8192, 1024]⟩ .f32) (pos : IVec ⟨2, ![4, 8192]⟩ 32) (g : FVec Ideal ⟨1, ![1024]⟩ .f32)
  (w : FVec Ideal ⟨2, ![1024, 5144]⟩ .f32)

/-- The columns of `W` are columns of `w`. -/
def IsCols {B : ℕ} (W : FVec Ideal ⟨2, ![1024, B]⟩ .bf16) (col : ℕ → ℕ) : Prop :=
  ∀ (k : Fin 1024) (j : Fin B), W (ix2 k j) = w (ix2 k ⟨col j.val % 5144, Nat.mod_lt _ (by decide)⟩)

/-- What the kernel reads of token `n`, at row `r` of a block, and the weights it reads. -/
structure Reads (r : Fin 512) (n : ℕ) (x0 : Vec Ideal S512x1024 .f32) (x1 : Vec Ideal S1x1024 .f32) (x2 x3 : Vec Ideal S512x128 .f32)
    (x4 : Vec Ideal S1024x896 .bf16) (x5 : Vec Ideal S1024x384 .bf16) (x6 : Vec Ideal S1024x128 .bf16) (x7 : Vec Ideal S1024x1792 .bf16)
    (x8 : Vec Ideal S1024x2048 .bf16) : Prop where
  h0 : ∀ k : Fin 1024, x0 (ix2 r k) = x (ix3 (rb n) (rt n) k)
  h1 : ∀ k : Fin 1024, x1 (ix2 0 k) = g (ix1 k)
  h2 : Row r x2 (csRow pos n)
  h3 : Row r x3 (snRow pos n)
  h4 : IsCols w x4 (fun j => off j + j)
  h5 : IsCols w x5 (fun j => 640 + j / 128 * 128 + j)
  h6 : ∀ (k : Fin 1024) (j : Fin 128), x6 (ix2 k j) = if j.val < 24 then w (ix2 k ⟨(1280 + j.val) % 5144, Nat.mod_lt _ (by decide)⟩) else 0
  h7 : IsCols w x7 (fun j => 1304 + j)
  h8 : IsCols w x8 (fun j => 3096 + j)

variable {x pos g w} {i : grid0.Coords} {r : Fin 512} {n : ℕ} {x0 : Vec Ideal S512x1024 .f32} {x1 : Vec Ideal S1x1024 .f32} {x2 x3 : Vec Ideal S512x128 .f32}
    {x4 : Vec Ideal S1024x896 .bf16} {x5 : Vec Ideal S1024x384 .bf16} {x6 : Vec Ideal S1024x128 .bf16} {x7 : Vec Ideal S1024x1792 .bf16}
    {x8 : Vec Ideal S1024x2048 .bf16} (R : Reads x pos g w r n x0 x1 x2 x3 x4 x5 x6 x7 x8)

/-! ## The turned heads -/

theorem h_eq : k0_pay45 i x0 x1 x2 x3 x4 x5 x6 x7 x8 = k0_pay1 x0 x1 :=
  congrArg₂ k0_pay1 (View.ld_unit_lit (by decide) x0 (by decide)) (View.ld_unit_lit (by decide) x1 (by decide))

theorem turned_eq : k0_pay58 i x0 x1 x2 x3 x4 x5 x6 x7 x8 = turn14 (k0_pay2 x0 x1 x4) x2 x3 := by
  have e0 : View.ld x0 r0_0 = x0 := View.ld_unit_lit _ x0 (by decide)
  have e1 : View.ld x1 r0_1 = x1 := View.ld_unit_lit _ x1 (by decide)
  have e2 : View.ld x2 r0_3 = x2 := View.ld_unit_lit _ x2 (by decide)
  have e3 : View.ld x3 r0_3 = x3 := View.ld_unit_lit _ x3 (by decide)
  have e4 : View.ld x4 r0_2 = x4 := View.ld_unit_lit _ x4 (by decide)
  have c2 : k0_pay3 x2 = x2 := shapeCast_self _ _
  have c3 : k0_pay4 x3 = x3 := shapeCast_self _ _
  have h : k0_pay58 i x0 x1 x2 x3 x4 x5 x6 x7 x8
      = turn14 (k0_pay2 (View.ld x0 r0_0) (View.ld x1 r0_1) (View.ld x4 r0_2)) (k0_pay3 (View.ld x2 r0_3)) (k0_pay4 (View.ld x3 r0_3)) := rfl
  rw [h, e0, e1, e2, e3, e4, c2, c3]

section
include R

theorem turned_row : Row r (k0_pay58 i x0 x1 x2 x3 x4 x5 x6 x7 x8) (fun j => ropeAt x pos g w n (off j) j) := by
  rw [turned_eq]
  have e4 : shapeCast S1024x896 x4 shapeCasts_S1024x896_S1024x896 = x4 := shapeCast_self _ _
  refine turn14_row x pos g w n ?_ R.h2 R.h3
  unfold k0_pay2
  rw [e4]
  exact mm_row x g w n x0 x1 R.h0 R.h1 x4 _ R.h4

/-- Some heads of the turned block. -/
theorem heads_row {B : ℕ} (o q e : ℕ) (ho : o = 64 * q) (he : ∀ l < B, off (o + l) = e) (hs : S512x896.Slices ![0, o] ⟨2, ![512, B]⟩) :
    Row r (extractStridedSlice ⟨2, ![512, B]⟩ ![0, o] (k0_pay58 i x0 x1 x2 x3 x4 x5 x6 x7 x8) hs) (ropeAt x pos g w n (e + o)) :=
  (slice_row hs (turned_row R)).congr fun l hl => by
    rw [he l hl, ho, ropeAt_add]

theorem out9_row : Row r (out0_9 i x0 x1 x2 x3 x4 x5 x6 x7 x8) (qS x pos g w n) := by
  have h : out0_9 i x0 x1 x2 x3 x4 x5 x6 x7 x8 = spread8 (mulf (extractStridedSlice S512x512 ![0, 0] (k0_pay58 i x0 x1 x2 x3 x4 x5 x6 x7 x8) slices_S512x896_o0_0_S512x512)
      (broadcast S512x512 (Scalar.ofBits .f32 0x3E38AA3B#32))) (Scalar.ofBits .f32 0x00000000#32) := View.canon_cons_unit_lit _ _ _ (by decide)
  rw [h]
  exact spread8_row _ fun j => congrArg (· * lit 0x3E38AA3B#32) (heads_row R 0 0 0 rfl (fun l hl => if_pos (by omega)) slices_S512x896_o0_0_S512x512 j)

theorem out10_row : Row r (out0_10 i x0 x1 x2 x3 x4 x5 x6 x7 x8) (kcS x pos g w n) := by
  have h : out0_10 i x0 x1 x2 x3 x4 x5 x6 x7 x8 = extractStridedSlice S512x128 ![0, 512] (k0_pay58 i x0 x1 x2 x3 x4 x5 x6 x7 x8) slices_S512x896_o0_512_S512x128 :=
    View.canon_cons_unit_lit _ _ _ (by decide)
  rw [h]
  exact heads_row R 512 8 0 rfl (fun l hl => if_pos (by omega)) slices_S512x896_o0_512_S512x128

theorem out12_row : Row r (out0_12 i x0 x1 x2 x3 x4 x5 x6 x7 x8) (kwnS x pos g w n) := by
  have h : out0_12 i x0 x1 x2 x3 x4 x5 x6 x7 x8 = spread (extractStridedSlice S512x128 ![0, 768] (k0_pay58 i x0 x1 x2 x3 x4 x5 x6 x7 x8) slices_S512x896_o0_768_S512x128)
      (Scalar.ofBits .f32 0x00000000#32) := View.canon_cons_unit_lit _ _ _ (by decide)
  rw [h]
  exact spread_row _ (heads_row R 768 12 256 rfl (fun l hl => (if_neg (by omega)).trans (if_neg (by omega))) slices_S512x896_o0_768_S512x128)

/-! ## The mark of the block -/

end

/-- The lane of each row's mark. -/
def markAt (a : BitVec 32) : IVec S512x1 32 :=
  addi (broadcast S512x1 64#32) (andi (shrsi (addi (broadcast S512x1 (Scalar.muli a 512#32)) (iota .tc S512x1 32 [0] iota_S512x1_d0_w32)) (broadcast S512x1 6#32)) (broadcast S512x1 15#32))

theorem mark_word : ∀ (q : Fin 512) (s : Fin 64), IntOp.addi 64#32 (IntOp.andi (IntOp.shrsi .vector (BitVec.ofNat 32 (q.val * 64 + s.val)) 6#32) 15#32)
    = BitVec.ofNat 32 (64 + q.val % 16) := by decide +kernel

theorem markAt_apply (a : ℕ) (ha : a < 64) : markAt (BitVec.ofNat 32 a) (ix2 r 0) = BitVec.ofNat 32 (64 + (a * 512 + r.val) / 64 % 16) := by
  have hr := r.isLt
  have e : BitVec.ofNat 32 a * BitVec.ofNat 32 512 + BitVec.ofNat 32 (0 * 512 + r.val) = BitVec.ofNat 32 ((a * 512 + r.val) / 64 * 64 + (a * 512 + r.val) % 64) := by
    rw [← BitVec.ofNat_mul, ← BitVec.ofNat_add, Nat.div_add_mod', Nat.zero_mul, Nat.zero_add]
  refine Eq.trans ?_ (mark_word ⟨(a * 512 + r.val) / 64, by omega⟩ ⟨(a * 512 + r.val) % 64, Nat.mod_lt _ (by decide)⟩)
  exact congrArg (fun y => IntOp.addi 64#32 (IntOp.andi (IntOp.shrsi .vector y 6#32) 15#32)) e

theorem lane_word : ∀ j : Fin 256, IntOp.andi (BitVec.ofNat 32 (0 * 256 + j.val)) 127#32 = BitVec.ofNat 32 (j.val % 128) := by decide +kernel

theorem eq_bit (a b : ℕ) (ha : a < 256) (hb : b < 256) : IntOp.cmpi .eq (BitVec.ofNat 32 a) (BitVec.ofNat 32 b) = 1#1 ↔ a = b := by
  have h : ∀ c : Bool, BitVec.ofBool c = 1#1 ↔ c = true := by decide
  refine (h _).trans (beq_iff_eq.trans ⟨fun e => ?_, fun e => congrArg _ e⟩)
  have e' := congrArg BitVec.toNat e
  rw [BitVec.toNat_ofNat, BitVec.toNat_ofNat] at e'
  omega

/-- The marks of a block of rows. -/
def marksK (a : BitVec 32) : FVec Ideal S512x256 .f32 :=
  select (cmpi .eq (broadcastTo S512x256 (andi (iota .tc S1x256 32 [1] iota_S1x256_d1_w32) (broadcast S1x256 127#32)) broadcasts_S1x256_S512x256)
    (broadcastTo S512x256 (markAt a) broadcasts_S512x1_S512x256)) (broadcast S512x256 (Scalar.ofBits .f32 0xF149F2CA#32)) (broadcast S512x256 (Scalar.ofBits .f32 0x00000000#32))

theorem marksK_apply (a : ℕ) (ha : a < 64) (hn : n = a * 512 + r.val) (j : Fin 256) :
    marksK (BitVec.ofNat 32 a) (ix2 r j) = if j.val % 128 = 64 + n / 64 % 16 then lit 0xF149F2CA#32 else lit 0x00000000#32 := by
  have e1 := broadcastTo_1b_ab_apply (andi (iota .tc S1x256 32 [1] iota_S1x256_d1_w32) (broadcast S1x256 127#32)) broadcasts_S1x256_S512x256 r j
  have e2 := broadcastTo_apply (markAt (BitVec.ofNat 32 a)) broadcasts_S512x1_S512x256 (ix2 r j) (ix2 r 0) (fun a => by fin_cases a <;> rfl)
  show Scalar.select (IntOp.cmpi .eq (broadcastTo S512x256 _ broadcasts_S1x256_S512x256 (ix2 r j)) (broadcastTo S512x256 _ broadcasts_S512x1_S512x256 (ix2 r j))) _ _ = _
  rw [e1, e2, markAt_apply a ha, show andi (iota .tc S1x256 32 [1] iota_S1x256_d1_w32) (broadcast S1x256 127#32) (ix2 0 j) = BitVec.ofNat 32 (j.val % 128) from lane_word j, ← hn]
  exact sel_of (eq_bit _ _ (by omega) (by omega)) _ _

theorem out11_row (R : Reads x pos g w r n x0 x1 x2 x3 x4 x5 x6 x7 x8) (hn : n = (i 0).val * 512 + r.val) :
    Row r (out0_11 i x0 x1 x2 x3 x4 x5 x6 x7 x8) (kslS x pos g w n) := fun j => by
  have h : out0_11 i x0 x1 x2 x3 x4 x5 x6 x7 x8 = addf (spread (extractStridedSlice S512x128 ![0, 640] (k0_pay58 i x0 x1 x2 x3 x4 x5 x6 x7 x8) slices_S512x896_o0_640_S512x128)
      (Scalar.ofBits .f32 0x00000000#32)) (marksK (BitVec.ofNat 32 (i 0).val)) := View.canon_cons_unit_lit _ _ _ (by decide)
  have hv := spread_row (Scalar.ofBits .f32 0x00000000#32) (heads_row (i := i) R 640 10 128 rfl (fun l hl => (if_neg (by omega)).trans (if_pos (by omega))) slices_S512x896_o0_640_S512x128) j
  have ha : (i 0).val < 64 := (i 0).isLt
  rw [h]
  refine (congrArg₂ (· + ·) hv (marksK_apply (i 0).val ha hn j)).trans ?_
  rw [kslS]
  have z : lit 0x00000000#32 = 0 := Ideal.ofBits_zero_f32
  show beside _ (fun _ => lit 0x00000000#32) j.val + _ = _
  unfold beside own
  by_cases hj : j.val % 128 < 64
  · rw [if_pos hj, if_pos hj, if_neg (by omega), z, add_zero]
  · rw [if_neg hj, if_neg hj, z, zero_add]
    exact if_congr (by omega) rfl rfl

/-! ## The other products -/

section
include R

theorem plain_row {B : ℕ} (W : FVec Ideal ⟨2, ![1024, B]⟩ .bf16) (hc : (⟨2, ![1024, B]⟩ : Shape).ShapeCasts ⟨2, ![1024, B]⟩) (col : ℕ → ℕ) (hW : IsCols w W col) :
    Row r (matmul (DotDims.plain 512 1024 B) none (k0_pay45 i x0 x1 x2 x3 x4 x5 x6 x7 x8) (shapeCast ⟨2, ![1024, B]⟩ W hc)
      (constant (F := Ideal) ⟨2, ![512, B]⟩ .f32 0x00000000#32)) (fun j => P x g w n (col j)) := by
  have e : shapeCast ⟨2, ![1024, B]⟩ W hc = W := shapeCast_self _ _
  rw [e, h_eq]
  exact mm_row x g w n x0 x1 R.h0 R.h1 W col hW

theorem pay36_row : Row r (k0_pay36 (k0_pay45 i x0 x1 x2 x3 x4 x5 x6 x7 x8) (View.ld x5 r0_5)) (fun j => P x g w n (640 + j / 128 * 128 + j)) := by
  have e : View.ld x5 r0_5 = x5 := View.ld_unit_lit _ x5 (by decide)
  rw [e]
  exact plain_row R x5 _ _ R.h5

/-- 128 of those columns. -/
theorem third_row (o c : ℕ) (ho : ∀ l < 128, 640 + (o + l) / 128 * 128 + (o + l) = c + l) (hs : S512x384.Slices ![0, o] S512x128) :
    Row r (extractStridedSlice S512x128 ![0, o] (k0_pay36 (k0_pay45 i x0 x1 x2 x3 x4 x5 x6 x7 x8) (View.ld x5 r0_5)) hs) (fun j => P x g w n (c + j)) :=
  (slice_row hs (pay36_row R)).congr fun l hl => by rw [ho l hl]

theorem out13_row : Row r (out0_13 i x0 x1 x2 x3 x4 x5 x6 x7 x8) (vcS x g w n) := by
  have h : out0_13 i x0 x1 x2 x3 x4 x5 x6 x7 x8 = extractStridedSlice S512x128 ![0, 0] (k0_pay36 (k0_pay45 i x0 x1 x2 x3 x4 x5 x6 x7 x8) (View.ld x5 r0_5)) slices_S512x384_o0_0_S512x128 :=
    View.canon_cons_unit_lit _ _ _ (by decide)
  rw [h]
  exact third_row R 0 640 (by omega) _

theorem out14_row : Row r (out0_14 i x0 x1 x2 x3 x4 x5 x6 x7 x8) (vslS x g w n) := by
  have h : out0_14 i x0 x1 x2 x3 x4 x5 x6 x7 x8 = spread (extractStridedSlice S512x128 ![0, 128] (k0_pay36 (k0_pay45 i x0 x1 x2 x3 x4 x5 x6 x7 x8) (View.ld x5 r0_5)) slices_S512x384_o0_128_S512x128)
      (Scalar.ofBits .f32 0x3F800000#32) := View.canon_cons_unit_lit _ _ _ (by decide)
  rw [h]
  exact spread_row _ (third_row R 128 896 (by omega) _)

theorem out15_row : Row r (out0_15 i x0 x1 x2 x3 x4 x5 x6 x7 x8) (vwnS x g w n) := by
  have h : out0_15 i x0 x1 x2 x3 x4 x5 x6 x7 x8 = spread (extractStridedSlice S512x128 ![0, 256] (k0_pay36 (k0_pay45 i x0 x1 x2 x3 x4 x5 x6 x7 x8) (View.ld x5 r0_5)) slices_S512x384_o0_256_S512x128)
      (Scalar.ofBits .f32 0x3F800000#32) := View.canon_cons_unit_lit _ _ _ (by decide)
  rw [h]
  exact spread_row _ (third_row R 256 1152 (by omega) _)

theorem out16_row : Row r (out0_16 i x0 x1 x2 x3 x4 x5 x6 x7 x8) (ngS x g w n) := fun j => by
  have e : View.ld x6 r0_6 = x6 := View.ld_unit_lit _ x6 (by decide)
  have e6 : shapeCast S1024x128 x6 shapeCasts_S1024x128_S1024x128 = x6 := shapeCast_self _ _
  have h : out0_16 i x0 x1 x2 x3 x4 x5 x6 x7 x8 = k0_pay40 (k0_pay45 i x0 x1 x2 x3 x4 x5 x6 x7 x8) (View.ld x6 r0_6) := View.canon_cons_unit_lit _ _ _ (by decide)
  rw [h, e, h_eq]
  unfold k0_pay40
  rw [e6]
  refine (Ideal.matmul_plain_apply (M := 512) (K := 1024) (N := 128) none (k0_pay1 x0 x1) x6 _ r j).trans ?_
  show Ideal.ofBits .f32 0x00000000#32 + _ = ngS x g w n j.val
  rw [Ideal.ofBits_zero_f32, zero_add, ngS, P]
  by_cases hj : j.val < 24
  · rw [if_pos hj]
    exact Finset.sum_congr rfl fun k _ => congrArg₂ (· * ·) (pay1_row x g n x0 x1 R.h0 R.h1 k) ((R.h6 k j).trans (if_pos hj))
  · rw [if_neg hj]
    exact Finset.sum_eq_zero fun k _ => by rw [R.h6 k j, if_neg hj, mul_zero]

theorem out17_row : Row r (out0_17 i x0 x1 x2 x3 x4 x5 x6 x7 x8) (prwS x g w n) := by
  have e : View.ld x7 r0_7 = x7 := View.ld_unit_lit _ x7 (by decide)
  have h : out0_17 i x0 x1 x2 x3 x4 x5 x6 x7 x8 = k0_pay41 (k0_pay45 i x0 x1 x2 x3 x4 x5 x6 x7 x8) (View.ld x7 r0_7) := View.canon_cons_unit_lit _ _ _ (by decide)
  rw [h, e]
  exact plain_row R x7 _ _ R.h7

theorem pay42_row : Row r (k0_pay42 (k0_pay45 i x0 x1 x2 x3 x4 x5 x6 x7 x8) (View.ld x8 r0_9)) (fun j => P x g w n (3096 + j)) := by
  have e : View.ld x8 r0_9 = x8 := View.ld_unit_lit _ x8 (by decide)
  rw [e]
  exact plain_row R x8 _ _ R.h8

theorem out18_row : Row r (out0_18 i x0 x1 x2 x3 x4 x5 x6 x7 x8) (gaS x g w n) := by
  have h : out0_18 i x0 x1 x2 x3 x4 x5 x6 x7 x8 = extractStridedSlice S512x1024 ![0, 0] (k0_pay42 (k0_pay45 i x0 x1 x2 x3 x4 x5 x6 x7 x8) (View.ld x8 r0_9)) slices_S512x2048_o0_0_S512x1024 :=
    View.canon_cons_unit_lit _ _ _ (by decide)
  rw [h]
  exact (slice_row _ (pay42_row R)).congr fun l _ => by rw [gaS, Nat.zero_add]

theorem out19_row : Row r (out0_19 i x0 x1 x2 x3 x4 x5 x6 x7 x8) (gbS x g w n) := by
  have h : out0_19 i x0 x1 x2 x3 x4 x5 x6 x7 x8 = extractStridedSlice S512x1024 ![0, 1024] (k0_pay42 (k0_pay45 i x0 x1 x2 x3 x4 x5 x6 x7 x8) (View.ld x8 r0_9)) slices_S512x2048_o0_1024_S512x1024 :=
    View.canon_cons_unit_lit _ _ _ (by decide)
  rw [h]
  exact (slice_row _ (pay42_row R)).congr fun l _ => by rw [gbS, ← Nat.add_assoc]

end

end Cert.Proof.Inproj.Blk

end
-- ==== Proof.InprojHost.lean ====
/- The arrays that the projection kernel is given: the positions' cosines and signed sines by lane, and the weights' columns regrouped. -/
module

public import proofs.«01_k».proof.Proof.InprojOuts
public import Idealize.ShloMosaic.Lib.Claim

@[expose] public section

set_option maxRecDepth 16384

noncomputable section

namespace Cert.Proof.Inproj.Blk

open Idealize.ShloMosaic hiding ix1 eq_ix1 ix2 eq_ix2 ix3 eq_ix3 ix4 eq_ix4 ix5 eq_ix5
open Idealize.ShloMosaic.ValueIdx Idealize.ShloMosaic.TcCoe
open Cert.Kernel2Ideal Cert.Kernel2Ideal.Gen
open Cert.Proof.Inproj

variable (x : FVec Ideal S4x8192x1024 .f32) (pos : IVec S4x8192 32) (g : FVec Ideal S1024 .f32) (w : FVec Ideal S1024x5144 .f32)

/-! ## Rows and positions -/

theorem rows_apply (n : Fin 32768) (k : Fin 1024) : shapeCast S32768x1024 x shapeCasts_S4x8192x1024_S32768x1024 (ix2 n k) = x (ix3 (rb n.val) (rt n.val) k) := by
  refine shapeCast_apply _ _ _ _ ((Shape.rowMajor_val_three _).trans (Eq.trans ?_ (Shape.rowMajor_val_two _).symm))
  show (n.val / 8192 % 4 * 8192 + n.val % 8192) * 1024 + k.val = n.val * 1024 + k.val
  omega

theorem gain_apply (k : Fin 1024) : shapeCast S1x1024 g shapeCasts_S1024_S1x1024 (ix2 0 k) = g (ix1 k) := by
  refine shapeCast_apply _ _ _ _ ((Shape.rowMajor_val_one _).trans (Eq.trans ?_ (Shape.rowMajor_val_two _).symm))
  show k.val = 0 * 1024 + k.val
  omega

def turnK : FVec Ideal S32768x32 .f32 :=
  mulf (broadcastInDim S32768x32 ![0, 1] bcast_S32768x1_S32768x32_0_1 (shapeCast S32768x1 (sitofp .f32 pos) shapeCasts_S4x8192_S32768x1))
    (broadcastInDim S32768x32 ![0, 1] bcast_S1x32_S32768x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem turnK_apply (n : Fin 32768) (f : Fin 32) : turnK pos (ix2 n f) = angle pos n.val f.val := by
  refine congrArg₂ (· * ·) ?_ ?_
  · refine (broadcastInDim_apply _ _ _ (ix2 n f) (ix2 n 0) (fun a => by fin_cases a <;> rfl)).trans ?_
    refine shapeCast_apply _ _ _ _ ((Shape.rowMajor_val_two _).trans (Eq.trans ?_ (Shape.rowMajor_val_two _).symm))
    show n.val / 8192 % 4 * 8192 + n.val % 8192 = n.val * 1 + 0
    omega
  · refine (broadcastInDim_apply _ _ _ (ix2 n f) (ix2 0 f) (fun a => by fin_cases a <;> rfl)).trans ?_
    refine (broadcastInDim_apply _ _ _ (ix2 0 f) (ix1 f) (fun a => by fin_cases a <;> rfl)).trans ?_
    have hf : (⟨f.val % 32, Nat.mod_lt _ (by decide)⟩ : Fin 32) = f := Fin.ext (Nat.mod_eq_of_lt f.isLt)
    unfold freq
    rw [hf]
    rfl

/-- Every lane of a row of `W` lanes, `K` times over. -/
theorem lanes_apply {K W : ℕ} (v : FVec Ideal ⟨2, ![32768, W]⟩ .f32) (h1 : (⟨2, ![32768, W]⟩ : Shape).ShapeCasts ⟨4, ![1, 32768, 1, W]⟩)
    (hb : (⟨4, ![1, 32768, 1, W]⟩ : Shape).BroadcastsInDim ⟨4, ![1, 32768, K, W]⟩ (![0, 1, 2, 3] : Fin 4 → Fin 4))
    (h2 : (⟨4, ![1, 32768, K, W]⟩ : Shape).ShapeCasts ⟨2, ![32768, 128]⟩) (hK : K * W = 128) (n : Fin 32768) (l : Fin 128) (f : Fin W) (hf : f.val = l.val % W) :
    shapeCast ⟨2, ![32768, 128]⟩ (broadcastInDim ⟨4, ![1, 32768, K, W]⟩ ![0, 1, 2, 3] hb (shapeCast ⟨4, ![1, 32768, 1, W]⟩ v h1)) h2 (ix2 n l) = v (ix2 n f) := by
  have hl : l.val / W < K := Nat.div_lt_of_lt_mul (by rw [Nat.mul_comm, hK]; exact l.isLt)
  refine (shapeCast_apply _ h2 (ix2 n l) (ix4 0 n ⟨l.val / W, hl⟩ f) ?_).trans ?_
  · refine (Shape.rowMajor_val_four _).trans (Eq.trans ?_ (Shape.rowMajor_val_two _).symm)
    show ((0 * 32768 + n.val) * K + l.val / W) * W + f.val = n.val * 128 + l.val
    rw [hf, Nat.zero_mul, Nat.zero_add, Nat.add_mul, Nat.mul_assoc, hK, Nat.add_assoc, Nat.div_add_mod']
  · refine (broadcastInDim_apply _ _ _ (ix4 0 n ⟨l.val / W, hl⟩ f) (ix4 0 n 0 f) (fun a => ?_)).trans ?_
    · fin_cases a
      · rfl
      · rfl
      · rfl
      · show f.val = if W = 1 then 0 else f.val
        have := f.isLt
        split <;> omega
    · refine shapeCast_apply _ h1 (ix4 0 n 0 f) (ix2 n f) ((Shape.rowMajor_val_two _).trans (Eq.trans ?_ (Shape.rowMajor_val_four _).symm))
      show n.val * W + f.val = ((0 * 32768 + n.val) * 1 + 0) * W + f.val
      rw [Nat.zero_mul, Nat.zero_add, Nat.mul_one, Nat.add_zero]

def cosA : FVec Ideal S32768x128 .f32 :=
  shapeCast S32768x128 (broadcastInDim S1x32768x4x32 ![0, 1, 2, 3] bcast_S1x32768x1x32_S1x32768x4x32_0_1_2_3
    (shapeCast S1x32768x1x32 (Host.cos (turnK pos)) shapeCasts_S32768x32_S1x32768x1x32)) shapeCasts_S1x32768x4x32_S32768x128

theorem cosA_apply (n : Fin 32768) (l : Fin 128) : cosA pos (ix2 n l) = csRow pos n.val l.val :=
  (lanes_apply (K := 4) (W := 32) _ _ _ _ rfl n l ⟨l.val % 32, Nat.mod_lt _ (by decide)⟩ rfl).trans
    (congrArg Ideal.cos (turnK_apply pos n _))

def sinP : FVec Ideal S32768x64 .f32 :=
  concatenate S32768x64 1 [⟨S32768x32, (Host.negf (Host.sin (turnK pos)) : FVec Ideal S32768x32 .f32)⟩, ⟨S32768x32, (Host.sin (turnK pos) : FVec Ideal S32768x32 .f32)⟩]
    concatenates_S32768x32_S32768x32_S32768x64_d1

theorem sinP_apply (n : Fin 32768) (e : Fin 64) : sinP pos (ix2 n e) = if e.val < 32 then -S pos n.val e.val else S pos n.val (e.val - 32) := by
  by_cases he : e.val < 32
  · rw [if_pos he]
    refine (concatenate_pair_apply_left (s₁ := S32768x32) (s₂ := S32768x32) 1 (Host.negf (Host.sin (turnK pos)) : FVec Ideal S32768x32 .f32) (Host.sin (turnK pos) : FVec Ideal S32768x32 .f32)
      concatenates_S32768x32_S32768x32_S32768x64_d1 (ix2 n e) rfl (ix2 n ⟨e.val, he⟩) ?_).trans (congrArg (fun s => -Ideal.sin s) (turnK_apply pos n ⟨e.val, he⟩))
    intro b; fin_cases b <;> rfl
  · rw [if_neg he]
    have h32 : e.val - 32 < 32 := by omega
    refine (concatenate_pair_apply_right (s₁ := S32768x32) (s₂ := S32768x32) 1 (Host.negf (Host.sin (turnK pos)) : FVec Ideal S32768x32 .f32) (Host.sin (turnK pos) : FVec Ideal S32768x32 .f32)
      concatenates_S32768x32_S32768x32_S32768x64_d1 (ix2 n e) rfl rfl (ix2 n ⟨e.val - 32, h32⟩) ?_ ?_).trans (congrArg Ideal.sin (turnK_apply pos n ⟨e.val - 32, h32⟩))
    · intro b hb; fin_cases b <;> first | rfl | exact absurd rfl hb
    · show e.val - 32 + 32 = e.val
      omega

def sinA : FVec Ideal S32768x128 .f32 :=
  shapeCast S32768x128 (broadcastInDim S1x32768x2x64 ![0, 1, 2, 3] bcast_S1x32768x1x64_S1x32768x2x64_0_1_2_3
    (shapeCast S1x32768x1x64 (sinP pos) shapeCasts_S32768x64_S1x32768x1x64)) shapeCasts_S1x32768x2x64_S32768x128

theorem sinA_apply (n : Fin 32768) (l : Fin 128) : sinA pos (ix2 n l) = snRow pos n.val l.val := by
  refine (lanes_apply (K := 2) (W := 64) _ _ _ _ rfl n l ⟨l.val % 64, Nat.mod_lt _ (by decide)⟩ rfl).trans ((sinP_apply pos n _).trans ?_)
  show (if l.val % 64 < 32 then -S pos n.val (l.val % 64) else S pos n.val (l.val % 64 - 32)) = snRow pos n.val l.val
  unfold snRow
  by_cases h : l.val % 64 < 32
  · rw [if_pos h, if_pos h, show l.val % 32 = l.val % 64 by omega]
  · rw [if_neg h, if_neg h, show l.val % 32 = l.val % 64 - 32 by omega]

/-! ## The weights -/

theorem cols_apply {B o : ℕ} (hs : S1024x5144.Slices ![0, o] ⟨2, ![1024, B]⟩) (k : Fin 1024) (j : Fin B) :
    extractStridedSlice ⟨2, ![1024, B]⟩ ![0, o] w hs (ix2 k j) = w (ix2 k ⟨(o + j.val) % 5144, Nat.mod_lt _ (by decide)⟩) := by
  have ho : o + B ≤ 5144 := hs.2 (1 : Fin 2)
  refine extractStridedSlice_apply _ _ hs _ _ fun a => ?_
  fin_cases a
  · exact (Nat.zero_add _).symm
  · exact Nat.mod_eq_of_lt (by have := j.isLt; omega)

/-- A piece of columns put side by side with others. -/
theorem piece_cols {T : ℕ} (xs : List ((s : Shape) × (s.Idx → EReal))) (h : Shape.Concatenates (xs.map (·.1)) ⟨2, ![1024, T]⟩ 1) (k : Fin 1024) (j : Fin T)
    (p : ℕ) (hp : p < xs.length) (B o : ℕ) (hs : S1024x5144.Slices ![0, o] ⟨2, ![1024, B]⟩)
    (hx : xs[p] = ⟨⟨2, ![1024, B]⟩, extractStridedSlice ⟨2, ![1024, B]⟩ ![0, o] w hs⟩) (pre : ℕ)
    (hpre : (((xs.take p).map (·.1)).map fun s => if h : s.rank = (⟨2, ![1024, T]⟩ : Shape).rank then s.size ((1 : Fin 2).cast h.symm) else 0).sum = pre)
    (h1 : pre ≤ j.val) (h2 : j.val < pre + B) (col : ℕ) (hc : o + (j.val - pre) = col) :
    concatenate ⟨2, ![1024, T]⟩ 1 xs h (ix2 k j) = w (ix2 k ⟨col % 5144, Nat.mod_lt _ (by decide)⟩) := by
  subst hc
  refine (concatenate_apply_piece (t := ⟨2, ![1024, T]⟩) 1 xs h (ix2 k j) p hp _ _ hx rfl pre hpre (ix2 k ⟨j.val - pre, by omega⟩)
    (fun b hb => by fin_cases b <;> first | rfl | exact absurd rfl hb) ?_).trans (cols_apply w hs k _)
  show pre + (j.val - pre) = j.val
  omega

def w4 : FVec Ideal S1024x896 .bf16 :=
  truncf .bf16 (concatenate S1024x896 1 [⟨S1024x512, extractStridedSlice S1024x512 ![0, 0] w slices_S1024x5144_S1024x512_0_0⟩,
    ⟨S1024x128, extractStridedSlice S1024x128 ![0, 512] w slices_S1024x5144_S1024x128_0_512⟩, ⟨S1024x128, extractStridedSlice S1024x128 ![0, 768] w slices_S1024x5144_S1024x128_0_768⟩,
    ⟨S1024x128, extractStridedSlice S1024x128 ![0, 1024] w slices_S1024x5144_S1024x128_0_1024⟩] concatenates_S1024x512_S1024x128_S1024x128_S1024x128_S1024x896_d1) bitsLt_bf16_f32

theorem w4_cols : IsCols w (w4 w) (fun j => off j + j) := fun k j => by
  have hj := j.isLt
  have at_ (p B o) := piece_cols w [⟨S1024x512, extractStridedSlice S1024x512 ![0, 0] w slices_S1024x5144_S1024x512_0_0⟩,
    ⟨S1024x128, extractStridedSlice S1024x128 ![0, 512] w slices_S1024x5144_S1024x128_0_512⟩, ⟨S1024x128, extractStridedSlice S1024x128 ![0, 768] w slices_S1024x5144_S1024x128_0_768⟩,
    ⟨S1024x128, extractStridedSlice S1024x128 ![0, 1024] w slices_S1024x5144_S1024x128_0_1024⟩] concatenates_S1024x512_S1024x128_S1024x128_S1024x128_S1024x896_d1 k j p (B := B) (o := o)
  show _ = w (ix2 k ⟨(off j.val + j.val) % 5144, _⟩)
  unfold off
  by_cases a : j.val < 512
  · exact at_ 0 512 0 (by exact (by decide : 0 < 4)) slices_S1024x5144_S1024x512_0_0 rfl 0 rfl (by omega) (by omega) _ (by rw [if_pos (by omega)]; omega)
  by_cases b : j.val < 640
  · exact at_ 1 128 512 (by exact (by decide : 1 < 4)) slices_S1024x5144_S1024x128_0_512 rfl 512 rfl (by omega) (by omega) _ (by rw [if_pos (by omega)]; omega)
  by_cases c : j.val < 768
  · exact at_ 2 128 768 (by exact (by decide : 2 < 4)) slices_S1024x5144_S1024x128_0_768 rfl 640 rfl (by omega) (by omega) _ (by rw [if_neg (by omega), if_pos (by omega)]; omega)
  · exact at_ 3 128 1024 (by exact (by decide : 3 < 4)) slices_S1024x5144_S1024x128_0_1024 rfl 768 rfl (by omega) (by omega) _ (by rw [if_neg (by omega), if_neg (by omega)]; omega)

def w5 : FVec Ideal S1024x384 .bf16 :=
  truncf .bf16 (concatenate S1024x384 1 [⟨S1024x128, extractStridedSlice S1024x128 ![0, 640] w slices_S1024x5144_S1024x128_0_640⟩,
    ⟨S1024x128, extractStridedSlice S1024x128 ![0, 896] w slices_S1024x5144_S1024x128_0_896⟩, ⟨S1024x128, extractStridedSlice S1024x128 ![0, 1152] w slices_S1024x5144_S1024x128_0_1152⟩]
    concatenates_S1024x128_S1024x128_S1024x128_S1024x384_d1) bitsLt_bf16_f32

theorem w5_cols : IsCols w (w5 w) (fun j => 640 + j / 128 * 128 + j) := fun k j => by
  have hj := j.isLt
  have at_ (p o) := piece_cols w [⟨S1024x128, extractStridedSlice S1024x128 ![0, 640] w slices_S1024x5144_S1024x128_0_640⟩,
    ⟨S1024x128, extractStridedSlice S1024x128 ![0, 896] w slices_S1024x5144_S1024x128_0_896⟩, ⟨S1024x128, extractStridedSlice S1024x128 ![0, 1152] w slices_S1024x5144_S1024x128_0_1152⟩]
    concatenates_S1024x128_S1024x128_S1024x128_S1024x384_d1 k j p (B := 128) (o := o)
  by_cases a : j.val < 128
  · exact at_ 0 640 (by exact (by decide : 0 < 3)) slices_S1024x5144_S1024x128_0_640 rfl 0 rfl (by omega) (by omega) _ (by show _ = 640 + j.val / 128 * 128 + j.val; omega)
  by_cases b : j.val < 256
  · exact at_ 1 896 (by exact (by decide : 1 < 3)) slices_S1024x5144_S1024x128_0_896 rfl 128 rfl (by omega) (by omega) _ (by show _ = 640 + j.val / 128 * 128 + j.val; omega)
  · exact at_ 2 1152 (by exact (by decide : 2 < 3)) slices_S1024x5144_S1024x128_0_1152 rfl 256 rfl (by omega) (by omega) _ (by show _ = 640 + j.val / 128 * 128 + j.val; omega)

def w6 : FVec Ideal S1024x128 .bf16 :=
  truncf .bf16 (pad S1024x128 ![0, 0] ![0, 104] ![0, 0] (extractStridedSlice S1024x24 ![0, 1280] w slices_S1024x5144_S1024x24_0_1280) (sitofp .f32 (constantI S_ 32 0#32) : FVec Ideal S_ .f32)
    pads_S1024x24_S1024x128_000_01040 h_S_) bitsLt_bf16_f32

theorem w6_apply (k : Fin 1024) (j : Fin 128) : w6 w (ix2 k j) = if j.val < 24 then w (ix2 k ⟨(1280 + j.val) % 5144, Nat.mod_lt _ (by decide)⟩) else 0 := by
  refine (pad24_apply (extractStridedSlice S1024x24 ![0, 1280] w slices_S1024x5144_S1024x24_0_1280) pads_S1024x24_S1024x128_000_01040 h_S_ k j).trans ?_
  by_cases hj : j.val < 24
  · rw [dif_pos hj, if_pos hj]
    exact cols_apply w _ k _
  · rw [dif_neg hj, if_neg hj]

def w7 : FVec Ideal S1024x1792 .bf16 := truncf .bf16 (extractStridedSlice S1024x1792 ![0, 1304] w slices_S1024x5144_S1024x1792_0_1304) bitsLt_bf16_f32

theorem w7_cols : IsCols w (w7 w) (fun j => 1304 + j) := fun k j => cols_apply w slices_S1024x5144_S1024x1792_0_1304 k j

def w8 : FVec Ideal S1024x2048 .bf16 :=
  truncf .bf16 (concatenate S1024x2048 1 [⟨S1024x1024, extractStridedSlice S1024x1024 ![0, 3096] w slices_S1024x5144_S1024x1024_0_3096⟩,
    ⟨S1024x1024, extractStridedSlice S1024x1024 ![0, 4120] w slices_S1024x5144_S1024x1024_0_4120⟩] concatenates_S1024x1024_S1024x1024_S1024x2048_d1) bitsLt_bf16_f32

theorem w8_cols : IsCols w (w8 w) (fun j => 3096 + j) := fun k j => by
  have hj := j.isLt
  have at_ (p o) := piece_cols w [⟨S1024x1024, extractStridedSlice S1024x1024 ![0, 3096] w slices_S1024x5144_S1024x1024_0_3096⟩,
    ⟨S1024x1024, extractStridedSlice S1024x1024 ![0, 4120] w slices_S1024x5144_S1024x1024_0_4120⟩] concatenates_S1024x1024_S1024x1024_S1024x2048_d1 k j p (B := 1024) (o := o)
  by_cases a : j.val < 1024
  · exact at_ 0 3096 (by exact (by decide : 0 < 2)) slices_S1024x5144_S1024x1024_0_3096 rfl 0 rfl (by omega) (by omega) _ (by show _ = 3096 + j.val; omega)
  · exact at_ 1 4120 (by exact (by decide : 1 < 2)) slices_S1024x5144_S1024x1024_0_4120 rfl 1024 rfl (by omega) (by omega) _ (by show _ = 3096 + j.val; omega)

/-! ## At the call -/

section Entry

variable (m : (ℓ : Loc nD τ sig) → Buf (Elt Ideal) ℓ) (c : Dev nD)

abbrev kx : FVec Ideal S4x8192x1024 .f32 := m ((c : Thread nD τ).loc main_arg0)
abbrev kp : IVec S4x8192 32 := m ((c : Thread nD τ).loc main_arg1)
abbrev kg : FVec Ideal S1024 .f32 := m ((c : Thread nD τ).loc main_arg2)
abbrev kw : FVec Ideal S1024x5144 .f32 := m ((c : Thread nD τ).loc main_arg3)

theorem entry0 : V m c main_v0 = shapeCast S32768x1024 (kx m c) shapeCasts_S4x8192x1024_S32768x1024 := by entry_read; rfl
theorem entry1 : V m c main_v44 = shapeCast S1x1024 (kg m c) shapeCasts_S1024_S1x1024 := by entry_read; rfl
theorem entry2 : V m c main_v16 = cosA (kp m c) := by entry_read; rfl
theorem entry3 : V m c main_v23 = sinA (kp m c) := by entry_read; rfl
theorem entry4 : V m c main_v39 = w4 (kw m c) := by entry_read; rfl
theorem entry5 : V m c main_v40 = w5 (kw m c) := by entry_read; rfl
theorem entry6 : V m c main_v41 = w6 (kw m c) := by entry_read; rfl
theorem entry7 : V m c main_v42 = w7 (kw m c) := by entry_read; rfl
theorem entry8 : V m c main_v43 = w8 (kw m c) := by entry_read; rfl

end Entry

end Cert.Proof.Inproj.Blk

end
-- ==== Proof.InprojValue.lean ====
/- The arrays that the projection kernel leaves, each the specification's function of the arguments. -/
module

public import proofs.«01_k».proof.Proof.InprojHost
public import proofs.«01_k».proof.Proof.Gen.Kernel2Ideal.Value
public import Idealize.ShloMosaic.Lib.Pipeline.ValueKit.Geometry

@[expose] public section

set_option maxRecDepth 16384

noncomputable section

namespace Cert.Proof.Inproj.Blk

open Idealize.ShloMosaic hiding ix1 eq_ix1 ix2 eq_ix2 ix3 eq_ix3 ix4 eq_ix4 ix5 eq_ix5
open Idealize.ShloMosaic.ValueIdx Idealize.ShloMosaic.TcCoe
open Cert.Kernel2Ideal Cert.Kernel2Ideal.Gen
open Cert.Proof.Inproj

/-! ## Blocks of rows -/

/-- The block of point `t` is 512 whole rows. -/
def RowsAt {B : ℕ} (t : ℕ) (e : (⟨2, ![512, B]⟩ : Shape).Idx → (⟨2, ![32768, B]⟩ : Shape).Idx) : Prop :=
  ∀ z, (e z 0).val = t * 512 + (z 0).val ∧ (e z 1).val = (z 1).val

theorem rowsAt_of {B t i₀ i₁ : ℕ} {e : (⟨2, ![512, B]⟩ : Shape).Idx → (⟨2, ![32768, B]⟩ : Shape).Idx} (h : i₀ = t ∧ i₁ = 0)
    (he : ∀ z, (e z 0).val = i₀ * 512 + 1 * (z 0).val ∧ (e z 1).val = i₁ * B + 1 * (z 1).val) : RowsAt t e := fun z => by
  obtain ⟨a, b⟩ := he z
  rw [a, b, h.1, h.2, Nat.one_mul, Nat.one_mul, Nat.zero_mul, Nat.zero_add]
  exact ⟨rfl, rfl⟩

theorem RowsAt.at {B t : ℕ} {e : (⟨2, ![512, B]⟩ : Shape).Idx → (⟨2, ![32768, B]⟩ : Shape).Idx} (h : RowsAt t e) (r : Fin 512) (j : Fin B) (hn : t * 512 + r.val < 32768) :
    e (ix2 r j) = ix2 ⟨t * 512 + r.val, hn⟩ j :=
  funext fun a => Fin.ext (by
    match a with
    | ⟨0, _⟩ => exact (h (ix2 r j)).1
    | ⟨1, _⟩ => exact (h (ix2 r j)).2)

theorem RowsAt.block {B t : ℕ} {e : (⟨2, ![512, B]⟩ : Shape).Idx → (⟨2, ![32768, B]⟩ : Shape).Idx} (h : RowsAt t e) {o : (⟨2, ![512, B]⟩ : Shape).Idx → EReal}
    {f : ℕ → ℕ → EReal} (ho : ∀ r : Fin 512, Row r o (f (t * 512 + r.val))) : o = fun z => arr f (e z) := ext2 fun r j => by
  show o (ix2 r j) = f (e (ix2 r j) 0).val (e (ix2 r j) 1).val
  rw [(h (ix2 r j)).1, (h (ix2 r j)).2]
  exact ho r j

/-- The block that is the array. -/
theorem whole_of {A B i₀ i₁ : ℕ} {e : (⟨2, ![A, B]⟩ : Shape).Idx → (⟨2, ![A, B]⟩ : Shape).Idx} (h : i₀ = 0 ∧ i₁ = 0)
    (he : ∀ z, (e z 0).val = i₀ * A + 1 * (z 0).val ∧ (e z 1).val = i₁ * B + 1 * (z 1).val) (z : (⟨2, ![A, B]⟩ : Shape).Idx) : e z = z := by
  obtain ⟨a, b⟩ := he z
  rw [h.1, Nat.zero_mul, Nat.zero_add, Nat.one_mul] at a
  rw [h.2, Nat.zero_mul, Nat.zero_add, Nat.one_mul] at b
  exact funext fun k => Fin.ext (by
    match k with
    | ⟨0, _⟩ => exact a
    | ⟨1, _⟩ => exact b)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem idx15 : ∀ t : Fin cfg0.N, win0_15.index t (0 : Fin 2) = t.val ∧ win0_15.index t (1 : Fin 2) = 0 := (by decide +kernel : ∀ t : Fin grid0.N, _)
theorem idx16 : ∀ t : Fin cfg0.N, win0_16.index t (0 : Fin 2) = t.val ∧ win0_16.index t (1 : Fin 2) = 0 := (by decide +kernel : ∀ t : Fin grid0.N, _)
theorem idx17 : ∀ t : Fin cfg0.N, win0_17.index t (0 : Fin 2) = t.val ∧ win0_17.index t (1 : Fin 2) = 0 := (by decide +kernel : ∀ t : Fin grid0.N, _)
theorem idx18 : ∀ t : Fin cfg0.N, win0_18.index t (0 : Fin 2) = t.val ∧ win0_18.index t (1 : Fin 2) = 0 := (by decide +kernel : ∀ t : Fin grid0.N, _)
theorem idx19 : ∀ t : Fin cfg0.N, win0_19.index t (0 : Fin 2) = t.val ∧ win0_19.index t (1 : Fin 2) = 0 := (by decide +kernel : ∀ t : Fin grid0.N, _)
theorem point : ∀ t : Fin cfg0.N, (grid0.coords t 0).val = t.val := (by decide +kernel : ∀ t : Fin grid0.N, _)

section Run

variable (m : (ℓ : Loc nD τ sig) → Buf (Elt Ideal) ℓ) (c : Dev nD)

variable (t : Fin cfg0.N) (r : Fin 512)

theorem token_lt : t.val * 512 + r.val < 32768 := by
  have hN : t.val < 64 := lt_of_lt_of_eq t.isLt (by decide : cfg0.N = 64)
  omega

/-- Reading an array through a block: where the block lies, then what the array is. -/
theorem read_at {S S' : Shape} {V v : S.Idx → EReal} (h : V = v) {e : S'.Idx → S.Idx} {z : S'.Idx} {y : S.Idx} (he : e z = y) {x : EReal} (hx : v y = x) : V (e z) = x := by
  rw [h, he, hx]

theorem read0 (k : Fin 1024) : iblk m c 0 t (ix2 r k) = kx m c (ix3 (rb (t.val * 512 + r.val)) (rt (t.val * 512 + r.val)) k) :=
  read_at (e := ((cfg0.win 0).blk t).view.emb) (entry0 m c) (RowsAt.at (rowsAt_of (idx0 t) fun z => ⟨rfl, rfl⟩) r k (token_lt t r)) (rows_apply (kx m c) ⟨t.val * 512 + r.val, token_lt t r⟩ k)
theorem read2 (k : Fin 128) : iblk m c 2 t (ix2 r k) = csRow (kp m c) (t.val * 512 + r.val) k.val :=
  read_at (e := ((cfg0.win 2).blk t).view.emb) (entry2 m c) (RowsAt.at (rowsAt_of (idx2 t) fun z => ⟨rfl, rfl⟩) r k (token_lt t r)) (cosA_apply (kp m c) ⟨t.val * 512 + r.val, token_lt t r⟩ k)
theorem read3 (k : Fin 128) : iblk m c 3 t (ix2 r k) = snRow (kp m c) (t.val * 512 + r.val) k.val :=
  read_at (e := ((cfg0.win 3).blk t).view.emb) (entry3 m c) (RowsAt.at (rowsAt_of (idx3 t) fun z => ⟨rfl, rfl⟩) r k (token_lt t r)) (sinA_apply (kp m c) ⟨t.val * 512 + r.val, token_lt t r⟩ k)
theorem read1 : iblk m c 1 t = shapeCast S1x1024 (kg m c) shapeCasts_S1024_S1x1024 :=
  funext fun z => read_at (e := ((cfg0.win 1).blk t).view.emb) (entry1 m c) (whole_of (idx1 t) (fun z => ⟨rfl, rfl⟩) z) rfl
theorem read4 : iblk m c 4 t = w4 (kw m c) :=
  funext fun z => read_at (e := ((cfg0.win 4).blk t).view.emb) (entry4 m c) (whole_of (idx4 t) (fun z => ⟨rfl, rfl⟩) z) rfl
theorem read5 : iblk m c 5 t = w5 (kw m c) :=
  funext fun z => read_at (e := ((cfg0.win 5).blk t).view.emb) (entry5 m c) (whole_of (idx5 t) (fun z => ⟨rfl, rfl⟩) z) rfl
theorem read6 : iblk m c 6 t = w6 (kw m c) :=
  funext fun z => read_at (e := ((cfg0.win 6).blk t).view.emb) (entry6 m c) (whole_of (idx6 t) (fun z => ⟨rfl, rfl⟩) z) rfl
theorem read7 : iblk m c 7 t = w7 (kw m c) :=
  funext fun z => read_at (e := ((cfg0.win 7).blk t).view.emb) (entry7 m c) (whole_of (idx7 t) (fun z => ⟨rfl, rfl⟩) z) rfl
theorem read8 : iblk m c 8 t = w8 (kw m c) :=
  funext fun z => read_at (e := ((cfg0.win 8).blk t).view.emb) (entry8 m c) (whole_of (idx8 t) (fun z => ⟨rfl, rfl⟩) z) rfl

/-- What the kernel reads at row `r` of point `t`: token `512 t + r`. -/
theorem reads : Reads (kx m c) (kp m c) (kg m c) (kw m c) r (t.val * 512 + r.val) (iblk m c 0 t) (iblk m c 1 t) (iblk m c 2 t) (iblk m c 3 t)
    (iblk m c 4 t) (iblk m c 5 t) (iblk m c 6 t) (iblk m c 7 t) (iblk m c 8 t) := by
  rw [read1, read4, read5, read6, read7, read8]
  exact ⟨read0 m c t r, gain_apply (kg m c), read2 m c t r, read3 m c t r, w4_cols (kw m c), w5_cols (kw m c), w6_apply (kw m c), w7_cols (kw m c), w8_cols (kw m c)⟩

theorem final9 : (dats m 0 c).arrAt 9 cfg0.N = arr (qS (kx m c) (kp m c) (kg m c) (kw m c)) :=
  (dats m 0 c).arrAt_eq_of_cover 9 (arr (qS (kx m c) (kp m c) (kg m c) (kw m c))) (fun t _ => (Cert.Kernel2Ideal.Value.flushed9 m c t).trans
    (RowsAt.block (e := ((cfg0.win 9).blk t).view.emb) (rowsAt_of (idx9 t) fun z => ⟨rfl, rfl⟩) fun r => out9_row (reads m c t r)))
    ((by decide +kernel : (cfg0.win 9).Covers).cover _ (Memref.isWhole_whole _))
theorem final10 : (dats m 0 c).arrAt 10 cfg0.N = arr (kcS (kx m c) (kp m c) (kg m c) (kw m c)) :=
  (dats m 0 c).arrAt_eq_of_cover 10 (arr (kcS (kx m c) (kp m c) (kg m c) (kw m c))) (fun t _ => (Cert.Kernel2Ideal.Value.flushed10 m c t).trans
    (RowsAt.block (e := ((cfg0.win 10).blk t).view.emb) (rowsAt_of (idx10 t) fun z => ⟨rfl, rfl⟩) fun r => out10_row (reads m c t r)))
    ((by decide +kernel : (cfg0.win 10).Covers).cover _ (Memref.isWhole_whole _))
theorem final11 : (dats m 0 c).arrAt 11 cfg0.N = arr (kslS (kx m c) (kp m c) (kg m c) (kw m c)) :=
  (dats m 0 c).arrAt_eq_of_cover 11 (arr (kslS (kx m c) (kp m c) (kg m c) (kw m c))) (fun t _ => (Cert.Kernel2Ideal.Value.flushed11 m c t).trans
    (RowsAt.block (e := ((cfg0.win 11).blk t).view.emb) (rowsAt_of (idx11 t) fun z => ⟨rfl, rfl⟩) fun r => out11_row (reads m c t r) (by rw [point])))
    ((by decide +kernel : (cfg0.win 11).Covers).cover _ (Memref.isWhole_whole _))
theorem final12 : (dats m 0 c).arrAt 12 cfg0.N = arr (kwnS (kx m c) (kp m c) (kg m c) (kw m c)) :=
  (dats m 0 c).arrAt_eq_of_cover 12 (arr (kwnS (kx m c) (kp m c) (kg m c) (kw m c))) (fun t _ => (Cert.Kernel2Ideal.Value.flushed12 m c t).trans
    (RowsAt.block (e := ((cfg0.win 12).blk t).view.emb) (rowsAt_of (idx12 t) fun z => ⟨rfl, rfl⟩) fun r => out12_row (reads m c t r)))
    ((by decide +kernel : (cfg0.win 12).Covers).cover _ (Memref.isWhole_whole _))
theorem final13 : (dats m 0 c).arrAt 13 cfg0.N = arr (vcS (kx m c) (kg m c) (kw m c)) :=
  (dats m 0 c).arrAt_eq_of_cover 13 (arr (vcS (kx m c) (kg m c) (kw m c))) (fun t _ => (Cert.Kernel2Ideal.Value.flushed13 m c t).trans
    (RowsAt.block (e := ((cfg0.win 13).blk t).view.emb) (rowsAt_of (idx13 t) fun z => ⟨rfl, rfl⟩) fun r => out13_row (reads m c t r)))
    ((by decide +kernel : (cfg0.win 13).Covers).cover _ (Memref.isWhole_whole _))
theorem final14 : (dats m 0 c).arrAt 14 cfg0.N = arr (vslS (kx m c) (kg m c) (kw m c)) :=
  (dats m 0 c).arrAt_eq_of_cover 14 (arr (vslS (kx m c) (kg m c) (kw m c))) (fun t _ => (Cert.Kernel2Ideal.Value.flushed14 m c t).trans
    (RowsAt.block (e := ((cfg0.win 14).blk t).view.emb) (rowsAt_of (idx14 t) fun z => ⟨rfl, rfl⟩) fun r => out14_row (reads m c t r)))
    ((by decide +kernel : (cfg0.win 14).Covers).cover _ (Memref.isWhole_whole _))
theorem final15 : (dats m 0 c).arrAt 15 cfg0.N = arr (vwnS (kx m c) (kg m c) (kw m c)) :=
  (dats m 0 c).arrAt_eq_of_cover 15 (arr (vwnS (kx m c) (kg m c) (kw m c))) (fun t _ => (Cert.Kernel2Ideal.Value.flushed15 m c t).trans
    (RowsAt.block (e := ((cfg0.win 15).blk t).view.emb) (rowsAt_of (idx15 t) fun z => ⟨rfl, rfl⟩) fun r => out15_row (reads m c t r)))
    ((by decide +kernel : (cfg0.win 15).Covers).cover _ (Memref.isWhole_whole _))
theorem final16 : (dats m 0 c).arrAt 16 cfg0.N = arr (ngS (kx m c) (kg m c) (kw m c)) :=
  (dats m 0 c).arrAt_eq_of_cover 16 (arr (ngS (kx m c) (kg m c) (kw m c))) (fun t _ => (Cert.Kernel2Ideal.Value.flushed16 m c t).trans
    (RowsAt.block (e := ((cfg0.win 16).blk t).view.emb) (rowsAt_of (idx16 t) fun z => ⟨rfl, rfl⟩) fun r => out16_row (reads m c t r)))
    ((by decide +kernel : (cfg0.win 16).Covers).cover _ (Memref.isWhole_whole _))
theorem final17 : (dats m 0 c).arrAt 17 cfg0.N = arr (prwS (kx m c) (kg m c) (kw m c)) :=
  (dats m 0 c).arrAt_eq_of_cover 17 (arr (prwS (kx m c) (kg m c) (kw m c))) (fun t _ => (Cert.Kernel2Ideal.Value.flushed17 m c t).trans
    (RowsAt.block (e := ((cfg0.win 17).blk t).view.emb) (rowsAt_of (idx17 t) fun z => ⟨rfl, rfl⟩) fun r => out17_row (reads m c t r)))
    ((by decide +kernel : (cfg0.win 17).Covers).cover _ (Memref.isWhole_whole _))
theorem final18 : (dats m 0 c).arrAt 18 cfg0.N = arr (gaS (kx m c) (kg m c) (kw m c)) :=
  (dats m 0 c).arrAt_eq_of_cover 18 (arr (gaS (kx m c) (kg m c) (kw m c))) (fun t _ => (Cert.Kernel2Ideal.Value.flushed18 m c t).trans
    (RowsAt.block (e := ((cfg0.win 18).blk t).view.emb) (rowsAt_of (idx18 t) fun z => ⟨rfl, rfl⟩) fun r => out18_row (reads m c t r)))
    ((by decide +kernel : (cfg0.win 18).Covers).cover _ (Memref.isWhole_whole _))
theorem final19 : (dats m 0 c).arrAt 19 cfg0.N = arr (gbS (kx m c) (kg m c) (kw m c)) :=
  (dats m 0 c).arrAt_eq_of_cover 19 (arr (gbS (kx m c) (kg m c) (kw m c))) (fun t _ => (Cert.Kernel2Ideal.Value.flushed19 m c t).trans
    (RowsAt.block (e := ((cfg0.win 19).blk t).view.emb) (rowsAt_of (idx19 t) fun z => ⟨rfl, rfl⟩) fun r => out19_row (reads m c t r)))
    ((by decide +kernel : (cfg0.win 19).Covers).cover _ (Memref.isWhole_whole _))

end Run

end Cert.Proof.Inproj.Blk

end
-- ==== Proof.MergeSpec.lean ====
/- The merge of a layer's two attentions into its stream, token by token: the recurrence's output scaled, the two projections under
   their gates, the product added to the stream, and the normed row. Both programs' arrays are stated by these functions. -/
module

public import proofs.«01_k».proof.Proof.InprojSpec

@[expose] public section

set_option maxRecDepth 16384

noncomputable section

namespace Cert.Proof.Merge

open Idealize.ShloMosaic hiding ix1 eq_ix1 ix2 eq_ix2 ix3 eq_ix3 ix4 eq_ix4 ix5 eq_ix5
open Idealize.ShloMosaic.ValueIdx
open Cert.Proof.Inproj

/-! ## Rows -/

/-- The recurrence's output, scaled and shifted, with the bonus, under its gate. -/
def obR (yn lw lb bo g : Fin 512 → EReal) (i : Fin 512) : EReal := (yn i * lw i + lb i + bo i) * g i

/-- The two projections under their gates. -/
def mgR (oa ob : Fin 512 → EReal) (ga gb : Fin 1024 → EReal) (wa wb : Fin 512 → Fin 1024 → EReal) (k : Fin 1024) : EReal :=
  Ideal.logistic (ga k) * (∑ i, oa i * wa i k) + Ideal.logistic (gb k) * (∑ i, ob i * wb i k)

/-- The stream with the product of the merged row added. -/
def x1R (x mg : Fin 1024 → EReal) (wo : Fin 1024 → Fin 1024 → EReal) (k : Fin 1024) : EReal := x k + ∑ i, mg i * wo i k

/-- The arrays that the merge reads. -/
structure Args where
  x : FVec Ideal ⟨3, ![4, 8192, 1024]⟩ .f32
  oa : FVec Ideal ⟨3, ![4, 8192, 512]⟩ .bf16
  yn : FVec Ideal ⟨3, ![4, 8192, 512]⟩ .f32
  bo : FVec Ideal ⟨2, ![32768, 512]⟩ .f32
  g : FVec Ideal ⟨2, ![32768, 512]⟩ .f32
  ga : FVec Ideal ⟨2, ![32768, 1024]⟩ .f32
  gb : FVec Ideal ⟨2, ![32768, 1024]⟩ .f32
  lw : FVec Ideal ⟨1, ![512]⟩ .f32
  lb : FVec Ideal ⟨1, ![512]⟩ .f32
  wa : FVec Ideal ⟨2, ![512, 1024]⟩ .f32
  wb : FVec Ideal ⟨2, ![512, 1024]⟩ .f32
  wo : FVec Ideal ⟨2, ![1024, 1024]⟩ .f32
  gf : FVec Ideal ⟨1, ![1024]⟩ .f32

variable (A : Args) (n : Fin 32768)

def obS (i : Fin 512) : EReal :=
  obR (fun i => A.yn (ix3 (rb n.val) (rt n.val) i)) (fun i => A.lw (ix1 i)) (fun i => A.lb (ix1 i)) (fun i => A.bo (ix2 n i)) (fun i => A.g (ix2 n i)) i

def mgS (k : Fin 1024) : EReal :=
  mgR (fun i => A.oa (ix3 (rb n.val) (rt n.val) i)) (obS A n) (fun k => A.ga (ix2 n k)) (fun k => A.gb (ix2 n k))
    (fun i k => A.wa (ix2 i k)) (fun i k => A.wb (ix2 i k)) k

/-- The stream after the attentions, at token `n`. -/
def x1S (k : Fin 1024) : EReal := x1R (fun k => A.x (ix3 (rb n.val) (rt n.val) k)) (mgS A n) (fun i k => A.wo (ix2 i k)) k

/-- Its normed row. -/
def h2S (k : Fin 1024) : EReal := hrow (x1S A n) (fun k => A.gf (ix1 k)) k

/-- The arrays: the stream by token, and the normed rows in tiles of eight tokens by 128 lanes. -/
def x1A : (⟨2, ![32768, 1024]⟩ : Shape).Idx → EReal := fun z => x1S A (z 0) (z 1)
def h2A : (⟨4, ![4096, 8, 8, 128]⟩ : Shape).Idx → EReal := fun z =>
  h2S A ⟨(z 0).val * 8 + (z 2).val, by
    have h0 : (z 0).val < 4096 := (z 0).isLt
    have h2 : (z 2).val < 8 := (z 2).isLt
    omega⟩ ⟨(z 1).val * 128 + (z 3).val, by
    have h1 : (z 1).val < 8 := (z 1).isLt
    have h3 : (z 3).val < 128 := (z 3).isLt
    omega⟩

end Cert.Proof.Merge

end
-- ==== Proof.MergeRef.lean ====
/- The reference's arrays of the merge, entry by entry. -/
module

public import proofs.«01_k».proof.Proof.MergeSpec
public import proofs.«01_k».proof.Proof.InprojRef
public import proofs.«01_k».proof.Proof.Gen.Reference3Ideal.Run
public import Idealize.ShloMosaic.Lib.IdealHost

@[expose] public section

set_option maxRecDepth 16384

noncomputable section

namespace Cert.Proof.Merge.Ref

open Idealize.ShloMosaic hiding ix1 eq_ix1 ix2 eq_ix2 ix3 eq_ix3 ix4 eq_ix4 ix5 eq_ix5
open Idealize.ShloMosaic.ValueIdx Idealize.ShloMosaic.TcCoe
open Cert.Reference3Ideal Cert.Reference3Ideal.Gen Cert.Reference3Ideal.Value
open Cert.Proof.Inproj Cert.Proof.Merge

variable (A : Args)

/-- A row over every token. -/
theorem over_apply {N : ℕ} (v : FVec Ideal ⟨1, ![N]⟩ .f32) (h1 : (⟨1, ![N]⟩ : Shape).BroadcastsInDim ⟨2, ![1, N]⟩ (![1] : Fin 1 → Fin 2))
    (h2 : (⟨2, ![1, N]⟩ : Shape).BroadcastsInDim ⟨2, ![32768, N]⟩ (![0, 1] : Fin 2 → Fin 2)) (hN : N ≠ 1) (n : Fin 32768) (k : Fin N) :
    broadcastInDim ⟨2, ![32768, N]⟩ ![0, 1] h2 (broadcastInDim ⟨2, ![1, N]⟩ ![1] h1 v) (ix2 n k) = v (ix1 k) := by
  refine (broadcastInDim_apply _ _ _ (ix2 n k) (ix2 0 k) (fun a => ?_)).trans (broadcastInDim_apply _ _ _ (ix2 0 k) (ix1 k) (fun a => ?_))
  · fin_cases a
    · rfl
    · exact (if_neg hN).symm
  · fin_cases a
    exact (if_neg hN).symm

/-- A product of two arrays. -/
theorem dot512_apply (l : FVec Ideal S32768x512 .f32) (r : FVec Ideal S512x1024 .f32) (n : Fin 32768) (k : Fin 1024) :
    Host.dotGeneral dot_S32768x512_S512x1024_S32768x1024_1_0_0_1_n_n none l r (ix2 n k) = ∑ i : Fin 512, l (ix2 n i) * r (ix2 i k) := by
  show FloatOps.dotGeneral (F := Ideal) (φ₁ := .f32) (φ₂ := .f32) _ none _ l r (ix2 n k) = _
  rw [Ideal.dotGeneral_apply, DotDims.sum_contr₁ _ (a := (1 : Fin 2)) rfl (K := 512) rfl]
  exact Finset.sum_congr rfl fun i _ => congrArg₂ (· * ·) (congrArg l (funext fun a => by fin_cases a <;> rfl)) (congrArg r (funext fun a => by fin_cases a <;> rfl))

theorem dot1024_apply (l : FVec Ideal S32768x1024 .f32) (r : FVec Ideal S1024x1024 .f32) (n : Fin 32768) (k : Fin 1024) :
    Host.dotGeneral dot_S32768x1024_S1024x1024_S32768x1024_1_0_0_1_n_n none l r (ix2 n k) = ∑ i : Fin 1024, l (ix2 n i) * r (ix2 i k) := by
  show FloatOps.dotGeneral (F := Ideal) (φ₁ := .f32) (φ₂ := .f32) _ none _ l r (ix2 n k) = _
  rw [Ideal.dotGeneral_apply, DotDims.sum_contr₁ _ (a := (1 : Fin 2)) rfl (K := 1024) rfl]
  exact Finset.sum_congr rfl fun i _ => congrArg₂ (· * ·) (congrArg l (funext fun a => by fin_cases a <;> rfl)) (congrArg r (funext fun a => by fin_cases a <;> rfl))

def obT : FVec Ideal S32768x512 .f32 :=
  mulf (addf (addf (mulf (shapeCast S32768x512 A.yn shapeCasts_S4x8192x512_S32768x512)
    (broadcastInDim S32768x512 ![0, 1] bcast_S1x512_S32768x512_0_1 (broadcastInDim S1x512 ![1] bcast_S512_S1x512_1 A.lw)))
    (broadcastInDim S32768x512 ![0, 1] bcast_S1x512_S32768x512_0_1 (broadcastInDim S1x512 ![1] bcast_S512_S1x512_1 A.lb))) A.bo) A.g

theorem obT_apply (n : Fin 32768) (i : Fin 512) : obT A (ix2 n i) = obS A n i :=
  congrArg (· * A.g (ix2 n i)) (congrArg (· + A.bo (ix2 n i)) (congrArg₂ (· + ·)
    (congrArg₂ (· * ·) (Inproj.Ref.rows_apply (N := 512) A.yn shapeCasts_S4x8192x512_S32768x512 n i) (over_apply (N := 512) A.lw _ _ (by decide) n i))
    (over_apply (N := 512) A.lb _ _ (by decide) n i)))

/-- A gate. -/
def gateT (v : FVec Ideal S32768x1024 .f32) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32)) (Host.exp (Host.negf v)))

theorem gateT_apply (v : FVec Ideal S32768x1024 .f32) (z : S32768x1024.Idx) : gateT v z = Ideal.logistic (v z) := by
  show Ideal.div (Ideal.ofBits .f32 0x3F800000#32) (Ideal.ofBits .f32 0x3F800000#32 + Ideal.exp (-(v z))) = _
  rw [Ideal.ofBits_one_f32]
  rfl

def mgT : FVec Ideal S32768x1024 .f32 :=
  addf (mulf (gateT A.ga) (Host.dotGeneral dot_S32768x512_S512x1024_S32768x1024_1_0_0_1_n_n none (extf .f32 (shapeCast S32768x512 A.oa shapeCasts_S4x8192x512_S32768x512) bitsLt_bf16_f32) A.wa))
    (mulf (gateT A.gb) (Host.dotGeneral dot_S32768x512_S512x1024_S32768x1024_1_0_0_1_n_n none (obT A) A.wb))

theorem mgT_apply (n : Fin 32768) (k : Fin 1024) : mgT A (ix2 n k) = mgS A n k := by
  refine congrArg₂ (· + ·) (congrArg₂ (· * ·) (gateT_apply A.ga _) ((dot512_apply _ _ n k).trans ?_)) (congrArg₂ (· * ·) (gateT_apply A.gb _) ((dot512_apply _ _ n k).trans ?_))
  · exact Finset.sum_congr rfl fun i _ => congrArg (· * A.wa (ix2 i k)) (Inproj.Ref.rows_apply (N := 512) A.oa shapeCasts_S4x8192x512_S32768x512 n i)
  · exact Finset.sum_congr rfl fun i _ => congrArg (· * A.wb (ix2 i k)) (obT_apply A n i)

def x1T : FVec Ideal S32768x1024 .f32 :=
  addf (shapeCast S32768x1024 A.x shapeCasts_S4x8192x1024_S32768x1024) (Host.dotGeneral dot_S32768x1024_S1024x1024_S32768x1024_1_0_0_1_n_n none (mgT A) A.wo)

theorem x1T_apply (n : Fin 32768) (k : Fin 1024) : x1T A (ix2 n k) = x1S A n k :=
  congrArg₂ (· + ·) (Inproj.Ref.rows_apply (N := 1024) A.x shapeCasts_S4x8192x1024_S32768x1024 n k)
    ((dot1024_apply _ _ n k).trans (Finset.sum_congr rfl fun i _ => congrArg (· * A.wo (ix2 i k)) (mgT_apply A n i)))

theorem x1T_eq : x1T A = x1A A := ext2 fun n k => x1T_apply A n k

def nrT : FVec Ideal S32768x1024 .f32 :=
  mulf (mulf (x1T A) (broadcastInDim S32768x1024 ![0, 1] bcast_S32768x1_S32768x1024_0_1 (Host.rsqrt (addf (Host.divf
    (broadcastInDim S32768x1 ![0] bcast_S32768_S32768x1_0 (Host.reduceAdd (mulf (x1T A) (x1T A)) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 A.gf))

theorem nrT_apply (n : Fin 32768) (k : Fin 1024) : nrT A (ix2 n k) = h2S A n k := by
  have e : ∀ k, x1T A (ix2 n k) = x1S A n k := x1T_apply A n
  have e' : (fun k => x1T A (ix2 n k)) = x1S A n := funext e
  unfold h2S
  rw [← e']
  refine congrArg₂ (· * ·) (congrArg (x1T A (ix2 n k) * ·) ?_) (over_apply (N := 1024) A.gf _ _ (by decide) n k)
  refine (broadcastInDim_apply _ _ _ (ix2 n k) (ix2 n 0) (fun a => by fin_cases a <;> rfl)).trans ?_
  refine congrArg (fun s => Ideal.rsqrt (Ideal.div s (lit 0x44800000#32) + lit 0x358637BD#32)) ?_
  refine (broadcastInDim_apply _ _ _ (ix2 n 0) (ix1 n) (fun a => by fin_cases a; rfl)).trans ?_
  refine (Ideal.hostReduceAdd_r2_a1 _ _ _ _).trans ?_
  show Ideal.ofBits .f32 0x00000000#32 + _ = _
  rw [Ideal.ofBits_zero_f32, zero_add]
  rfl

theorem h2T_eq : transpose S4096x8x8x128 [0, 2, 1, 3] (shapeCast S4096x8x8x128 (nrT A) shapeCasts_S32768x1024_S4096x8x8x128) transposes_S4096x8x8x128_S4096x8x8x128_0_2_1_3 = h2A A := by
  funext z
  obtain ⟨p, q, s, l, rfl⟩ : ∃ p q s l, z = ix4 p q s l := ⟨_, _, _, _, eq_ix4 z⟩
  refine (transpose_apply _ _ _ (ix4 p q s l) (ix4 p s q l) (fun b => by fin_cases b <;> rfl)).trans ?_
  have hn : p.val * 8 + s.val < 32768 := by omega
  have hk : q.val * 128 + l.val < 1024 := by omega
  refine (shapeCast_apply _ _ (ix4 p s q l) (ix2 ⟨p.val * 8 + s.val, hn⟩ ⟨q.val * 128 + l.val, hk⟩) ?_).trans (nrT_apply A _ _)
  refine (Shape.rowMajor_val_two _).trans (Eq.trans ?_ (Shape.rowMajor_val_four _).symm)
  show (p.val * 8 + s.val) * 1024 + (q.val * 128 + l.val) = ((p.val * 8 + s.val) * 8 + q.val) * 128 + l.val
  omega

variable (m : (ℓ : Loc nD τ sig) → Buf (Elt Ideal) ℓ) (c : Dev nD)

/-- The arguments. -/
def argsR : Args where
  x := m ((c.tc : Thread nD τ).loc main_arg0)
  oa := m ((c.tc : Thread nD τ).loc main_arg1)
  yn := m ((c.tc : Thread nD τ).loc main_arg2)
  bo := m ((c.tc : Thread nD τ).loc main_arg3)
  g := m ((c.tc : Thread nD τ).loc main_arg4)
  ga := m ((c.tc : Thread nD τ).loc main_arg5)
  gb := m ((c.tc : Thread nD τ).loc main_arg6)
  lw := m ((c.tc : Thread nD τ).loc main_arg7)
  lb := m ((c.tc : Thread nD τ).loc main_arg8)
  wa := m ((c.tc : Thread nD τ).loc main_arg9)
  wb := m ((c.tc : Thread nD τ).loc main_arg10)
  wo := m ((c.tc : Thread nD τ).loc main_arg11)
  gf := m ((c.tc : Thread nD τ).loc main_arg12)

theorem res1 : res_main_v45 m c = h2A (argsR m c) := by
  unfold res_main_v45
  exact h2T_eq (argsR m c)

end Cert.Proof.Merge.Ref

end
-- ==== Proof.MergeBlock.lean ====
/- What the merge kernel computes of 256 rows: the stream and the normed rows, each row the specification's function of its inputs. -/
module

public import proofs.«01_k».proof.Proof.MergeSpec
public import proofs.«01_k».proof.Proof.Gen.Kernel3Ideal.Skeleton
public import Idealize.ShloMosaic.Lib.MatmulPlain
public import Idealize.ShloMosaic.Lib.ValueLayout

@[expose] public section

set_option maxRecDepth 16384

noncomputable section

namespace Cert.Proof.Merge.Blk

open Idealize.ShloMosaic hiding ix1 eq_ix1 ix2 eq_ix2 ix3 eq_ix3 ix4 eq_ix4 ix5 eq_ix5
open Idealize.ShloMosaic.ValueIdx Idealize.ShloMosaic.TcCoe
open Cert.Kernel3Ideal Cert.Kernel3Ideal.Gen
open Cert.Proof.Inproj Cert.Proof.Merge

section Half

variable (x ga gb : FVec Ideal S256x1024 .f32) (oa : FVec Ideal S256x512 .bf16) (yn bo g : FVec Ideal S256x512 .f32) (lw lb : FVec Ideal S1x512 .f32)
  (wa wb : FVec Ideal S512x1024 .bf16) (wo : FVec Ideal S1024x1024 .bf16) (gf : FVec Ideal S1x1024 .f32)

/-- The stream of 256 rows. -/
def x1h : FVec Ideal S256x1024 .f32 := k0_pay13 (k0_pay8 (k0_pay6 yn lw lb bo g) oa wa wb ga gb) x wo
/-- The normed rows. -/
def h2h : FVec Ideal S256x1024 .f32 := k0_pay15 (k0_pay8 (k0_pay6 yn lw lb bo g) oa wa wb ga gb) x wo gf

theorem mul_apply {K N : ℕ} (u : FVec Ideal ⟨2, ![256, K]⟩ .bf16) (w : FVec Ideal ⟨2, ![K, N]⟩ .bf16) (a : Fin 256) (k : Fin N) (U : Fin K → EReal) (hU : ∀ i, u (ix2 a i) = U i) :
    matmul (DotDims.plain 256 K N) none u w (constant (F := Ideal) ⟨2, ![256, N]⟩ .f32 0x00000000#32) (ix2 a k) = ∑ i, U i * w (ix2 i k) := by
  refine (Ideal.matmul_plain_apply (M := 256) (K := K) (N := N) none u w _ a k).trans ?_
  show Ideal.ofBits .f32 0x00000000#32 + _ = _
  rw [Ideal.ofBits_zero_f32, zero_add]
  exact Finset.sum_congr rfl fun i _ => congrArg (· * _) (hU i)

theorem ob_apply (a : Fin 256) (i : Fin 512) : k0_pay6 (F := Ideal) yn lw lb bo g (ix2 a i)
    = obR (fun i => yn (ix2 a i)) (fun i => lw (ix2 0 i)) (fun i => lb (ix2 0 i)) (fun i => bo (ix2 a i)) (fun i => g (ix2 a i)) i := by
  unfold k0_pay6
  rw [shapeCast_self yn, shapeCast_self lw, shapeCast_self lb]
  refine congrArg (· * g (ix2 a i)) (congrArg (· + bo (ix2 a i)) (congrArg₂ (· + ·) (congrArg (yn (ix2 a i) * ·) ?_) ?_))
  · exact broadcastTo_1b_ab_apply _ broadcasts_S1x512_S256x512 a i
  · exact broadcastTo_1b_ab_apply _ broadcasts_S1x512_S256x512 a i

theorem mg_apply (ob : FVec Ideal S256x512 .f32) (a : Fin 256) (O : Fin 512 → EReal) (hO : ∀ i, ob (ix2 a i) = O i) (k : Fin 1024) : k0_pay8 (F := Ideal) ob oa wa wb ga gb (ix2 a k)
    = mgR (fun i => oa (ix2 a i)) O (fun k => ga (ix2 a k)) (fun k => gb (ix2 a k)) (fun i k => wa (ix2 i k)) (fun i k => wb (ix2 i k)) k := by
  unfold k0_pay8
  rw [shapeCast_self oa, shapeCast_self wa, shapeCast_self wb]
  exact congrArg₂ (· + ·) (congrArg (Ideal.logistic (ga (ix2 a k)) * ·) (mul_apply oa wa a k _ fun _ => rfl))
    (congrArg (Ideal.logistic (gb (ix2 a k)) * ·) (mul_apply (truncf .bf16 ob bitsLt_bf16_f32) wb a k O hO))

theorem x1h_apply (a : Fin 256) (k : Fin 1024) : x1h x ga gb oa yn bo g lw lb wa wb wo (ix2 a k)
    = x1R (fun k => x (ix2 a k)) (mgR (fun i => oa (ix2 a i)) (obR (fun i => yn (ix2 a i)) (fun i => lw (ix2 0 i)) (fun i => lb (ix2 0 i))
      (fun i => bo (ix2 a i)) (fun i => g (ix2 a i))) (fun k => ga (ix2 a k)) (fun k => gb (ix2 a k)) (fun i k => wa (ix2 i k)) (fun i k => wb (ix2 i k)))
      (fun i k => wo (ix2 i k)) k := by
  unfold x1h k0_pay13
  rw [shapeCast_self x, shapeCast_self wo]
  exact congrArg (x (ix2 a k) + ·) (mul_apply (truncf .bf16 _ bitsLt_bf16_f32) wo a k _ fun i => mg_apply ga gb oa wa wb _ a _ (ob_apply yn bo g lw lb a) i)

theorem h2h_apply (a : Fin 256) (k : Fin 1024) : h2h x ga gb oa yn bo g lw lb wa wb wo gf (ix2 a k)
    = hrow (fun k => x1h x ga gb oa yn bo g lw lb wa wb wo (ix2 a k)) (fun k => gf (ix2 0 k)) k := by
  unfold h2h k0_pay15
  rw [shapeCast_self gf]
  change _ = hrow (fun k => k0_pay13 (F := Ideal) (k0_pay8 (k0_pay6 yn lw lb bo g) oa wa wb ga gb) x wo (ix2 a k)) _ k
  generalize k0_pay13 (F := Ideal) (k0_pay8 (k0_pay6 yn lw lb bo g) oa wa wb ga gb) x wo = v
  refine congrArg₂ (· * ·) (congrArg (v (ix2 a k) * ·) ?_) (broadcastTo_1b_ab_apply _ broadcasts_S1x1024_S256x1024 a k)
  refine (broadcastTo_apply _ broadcasts_S256x1_S256x1024 (ix2 a k) (ix2 a 0) (fun b => by fin_cases b <;> rfl)).trans ?_
  refine congrArg (fun s => Ideal.rsqrt (Ideal.div s (lit 0x44800000#32) + lit 0x358637BD#32)) ?_
  refine (shapeCast_apply _ _ (ix2 a 0) (ix1 a) ?_).trans ?_
  · refine (Shape.rowMajor_val_one _).trans (Eq.trans ?_ (Shape.rowMajor_val_two _).symm)
    show a.val = a.val * 1 + 0
    omega
  · refine (Ideal.multiReduction_add_single _ _ _ _ _ _).trans (Finset.sum_congr rfl fun k _ => ?_)
    have e : reduces_S256x1024_S256.lift (ix1 a) k = ix2 a k := funext fun b => by fin_cases b <;> rfl
    exact congrArg (fun i => v i * v i) e

/-- The first half's order of the same operations. -/
theorem x1h_first : k0_pay12 (k0_pay9 x) (k0_pay10 wo) (k0_pay11 (k0_pay5 yn lw lb bo g) (k0_pay7 oa) wa wb ga gb) = x1h x ga gb oa yn bo g lw lb wa wb wo := rfl
theorem h2h_first : k0_pay14 (k0_pay9 x) (k0_pay10 wo) (k0_pay11 (k0_pay5 yn lw lb bo g) (k0_pay7 oa) wa wb ga gb) gf = h2h x ga gb oa yn bo g lw lb wa wb wo gf := rfl

end Half

/-- Lanes of 256 rows in tiles of eight rows. -/
theorem tile_apply (o : ℕ) (v : FVec Ideal S256x1024 .f32) (hs : S256x1024.Slices ![0, o] S256x128) (p : Fin 32) (u : Fin 1) (s : Fin 8) (l : Fin 128) :
    shapeCast S32x1x8x128 (shapeCast S32x8x128 (extractStridedSlice S256x128 ![0, o] v hs) shapeCasts_S256x128_S32x8x128) shapeCasts_S32x8x128_S32x1x8x128 (ix4 p u s l)
      = v (ix2 ⟨p.val * 8 + s.val, by omega⟩ ⟨o + l.val, by have h : o + 128 ≤ 1024 := hs.2 (1 : Fin 2); omega⟩) := by
  have ho : o + 128 ≤ 1024 := hs.2 (1 : Fin 2)
  refine (shapeCast_apply _ _ (ix4 p u s l) (ix3 p s l) ?_).trans ((shapeCast_apply _ _ (ix3 p s l) (ix2 ⟨p.val * 8 + s.val, by omega⟩ l) ?_).trans ?_)
  · refine (Shape.rowMajor_val_three _).trans (Eq.trans ?_ (Shape.rowMajor_val_four _).symm)
    show (p.val * 8 + s.val) * 128 + l.val = ((p.val * 1 + u.val) * 8 + s.val) * 128 + l.val
    omega
  · refine (Shape.rowMajor_val_two _).trans (Eq.trans ?_ (Shape.rowMajor_val_three _).symm)
    rfl
  · exact extractStridedSlice_apply _ _ hs _ _ fun a => by
      fin_cases a
      · exact (Nat.zero_add _).symm
      · rfl

end Cert.Proof.Merge.Blk

end
-- ==== Proof.MergeOuts.lean ====
/- The stream and the normed rows that the merge kernel stores at one grid point, from the blocks it reads: in both cases of the
   grid point, two halves of 256 rows, the normed rows in tiles of eight rows by 128 lanes. -/
module

public import proofs.«01_k».proof.Proof.MergeBlock
public import proofs.«01_k».proof.Proof.Gen.Kernel3Ideal.Frame
public import Idealize.ShloMosaic.Lib.Pipeline.ValueKit.Tiles

@[expose] public section

set_option maxRecDepth 16384

noncomputable section

namespace Cert.Proof.Merge.Blk

open Idealize.ShloMosaic hiding ix1 eq_ix1 ix2 eq_ix2 ix3 eq_ix3 ix4 eq_ix4 ix5 eq_ix5
open Idealize.ShloMosaic.ValueIdx Idealize.ShloMosaic.TcCoe
open Cert.Kernel3Ideal Cert.Kernel3Ideal.Gen
open Cert.Proof.Inproj Cert.Proof.Merge

/-! ## Loads -/

section Loads

variable {A B : ℕ} {e : EltTy}

/-- 256 rows of a block, from row `o`. -/
def half (arg : Memref sig .tc .vmem ⟨2, ![512, B]⟩ e) (h : arg.IsWhole) (X : Vec Ideal ⟨2, ![512, B]⟩ e) (o : ℕ)
    (inb : ∀ a, (![o, 0] : Fin 2 → ℕ) a + (⟨2, ![256, B]⟩ : Shape).size a ≤ (⟨2, ![512, B]⟩ : Shape).size a) : Vec Ideal ⟨2, ![256, B]⟩ e :=
  arg.view.readAt (Elt Ideal) (Rect.unit (s := ⟨2, ![512, B]⟩) ![o, 0] (⟨2, ![256, B]⟩ : Shape).size inb).toLoadRect (h.unread X)

theorem half_apply (arg : Memref sig .tc .vmem ⟨2, ![512, B]⟩ e) (h : arg.IsWhole) (X : Vec Ideal ⟨2, ![512, B]⟩ e) (o : ℕ)
    (inb : ∀ a, (![o, 0] : Fin 2 → ℕ) a + (⟨2, ![256, B]⟩ : Shape).size a ≤ (⟨2, ![512, B]⟩ : Shape).size a) (a : Fin 256) (k : Fin B) :
    half arg h X o inb (ix2 a k) = X (ix2 ⟨o + a.val, by have := inb 0; simp at this; omega⟩ k) := by
  unfold half
  rw [View.readAt_apply, h.read_unread]
  refine congrArg X (funext fun b => Fin.ext ?_)
  match b with
  | ⟨0, _⟩ => show o + 1 * a.val = o + a.val; omega
  | ⟨1, _⟩ => show 0 + 1 * k.val = k.val; omega

/-- A block. -/
def all (arg : Memref sig .tc .vmem ⟨2, ![A, B]⟩ e) (h : arg.IsWhole) (X : Vec Ideal ⟨2, ![A, B]⟩ e)
    (inb : ∀ a, (![0, 0] : Fin 2 → ℕ) a + (⟨2, ![A, B]⟩ : Shape).size a ≤ (⟨2, ![A, B]⟩ : Shape).size a) : Vec Ideal ⟨2, ![A, B]⟩ e :=
  arg.view.readAt (Elt Ideal) (Rect.unit (s := ⟨2, ![A, B]⟩) ![0, 0] (⟨2, ![A, B]⟩ : Shape).size inb).toLoadRect (h.unread X)

theorem all_apply (arg : Memref sig .tc .vmem ⟨2, ![A, B]⟩ e) (h : arg.IsWhole) (X : Vec Ideal ⟨2, ![A, B]⟩ e)
    (inb : ∀ a, (![0, 0] : Fin 2 → ℕ) a + (⟨2, ![A, B]⟩ : Shape).size a ≤ (⟨2, ![A, B]⟩ : Shape).size a) (i : Fin A) (k : Fin B) : all arg h X inb (ix2 i k) = X (ix2 i k) := by
  unfold all
  rw [View.readAt_apply, h.read_unread]
  refine congrArg X (funext fun b => Fin.ext ?_)
  match b with
  | ⟨0, _⟩ => show 0 + 1 * i.val = i.val; omega
  | ⟨1, _⟩ => show 0 + 1 * k.val = k.val; omega

end Loads

/-! ## Stores -/

/-- Two halves of a block. -/
def L15 (v0 v1 : FVec Ideal S256x1024 .f32) : List (View.Piece (Elt Ideal) S512x1024 .f32) :=
  [⟨Rect.unit (s := S512x1024) ![256, 0] S256x1024.size inb_S512x1024_S256x1024_256_0, v1⟩, ⟨Rect.unit (s := S512x1024) ![0, 0] S256x1024.size inb_S512x1024_S256x1024_0_0, v0⟩]

theorem pieces15 {H : Fin 512 → Fin 1024 → EReal} {v0 v1 : FVec Ideal S256x1024 .f32} (h0 : ∀ (a : Fin 256) k, v0 (ix2 a k) = H ⟨0 + a.val, by omega⟩ k)
    (h1 : ∀ (a : Fin 256) k, v1 (ix2 a k) = H ⟨256 + a.val, by omega⟩ k) : ∀ p ∈ L15 v0 v1, ∀ z, p.2 z = (fun y : S512x1024.Idx => H (y 0) (y 1)) (p.1.emb z) := by
  have key (o : ℕ) (inb : ∀ a, (![o, 0] : Fin 2 → ℕ) a + S256x1024.size a ≤ S512x1024.size a) (v : FVec Ideal S256x1024 .f32)
      (h : ∀ (a : Fin 256) k, v (ix2 a k) = H ⟨o + a.val, by have := inb 0; simp [S256x1024, S512x1024] at this; omega⟩ k) (z : S256x1024.Idx) :
      v z = (fun y : S512x1024.Idx => H (y 0) (y 1)) ((Rect.unit (s := S512x1024) ![o, 0] S256x1024.size inb).emb z) := by
    obtain ⟨a, k, rfl⟩ : ∃ a k, z = ix2 a k := ⟨_, _, eq_ix2 z⟩
    refine (h a k).trans (congrArg₂ H (Fin.ext ?_) (Fin.ext ?_))
    · show o + a.val = o + 1 * a.val; omega
    · show k.val = 0 + 1 * k.val; omega
  intro p hp z
  simp only [L15, List.mem_cons, List.mem_nil_iff, or_false] at hp
  rcases hp with rfl | rfl
  · exact key 256 inb_S512x1024_S256x1024_256_0 v1 h1 z
  · exact key 0 inb_S512x1024_S256x1024_0_0 v0 h0 z

theorem inbq (q : Fin 8) : ∀ a, (![0, q.val, 0, 0] : Fin 4 → ℕ) a + S32x1x8x128.size a ≤ S32x8x8x128.size a := by
  revert q; decide

theorem slq (q : Fin 8) : S256x1024.Slices ![0, 128 * q.val] S256x128 := by
  revert q; decide

/-- Lanes `128 q` and on of 256 rows, stored as tiles from tile `o`. -/
def tile (o : ℕ) (inb : ∀ a, (![o, 0, 0, 0] : Fin 4 → ℕ) a + S32x8x8x128.size a ≤ S64x8x8x128.size a) (v : FVec Ideal S256x1024 .f32) (q : Fin 8) :
    View.Piece (Elt Ideal) S64x8x8x128 .f32 :=
  ⟨(Rect.unit (s := S64x8x8x128) ![o, 0, 0, 0] S32x8x8x128.size inb).within (Rect.unit (s := S32x8x8x128) ![0, q.val, 0, 0] S32x1x8x128.size (inbq q)) (fun _ => rfl),
    shapeCast S32x1x8x128 (shapeCast S32x8x128 (extractStridedSlice S256x128 ![0, 128 * q.val] v (slq q)) shapeCasts_S256x128_S32x8x128) shapeCasts_S32x8x128_S32x1x8x128⟩

/-- Two halves of a block in tiles. -/
def L16 (v0 v1 : FVec Ideal S256x1024 .f32) : List (View.Piece (Elt Ideal) S64x8x8x128 .f32) :=
  List.map (tile 32 inb_S64x8x8x128_S32x8x8x128_32_0_0_0 v1) [7, 6, 5, 4, 3, 2, 1, 0] ++ List.map (tile 0 inb_S64x8x8x128_S32x8x8x128_0_0_0_0 v0) [7, 6, 5, 4, 3, 2, 1, 0]

/-- The tiles of rows `H`. -/
def G16 (H : Fin 512 → Fin 1024 → EReal) : S64x8x8x128.Idx → EReal := fun y =>
  H ⟨(y 0).val * 8 + (y 2).val, by
    have h0 : (y 0).val < 64 := (y 0).isLt
    have h2 : (y 2).val < 8 := (y 2).isLt
    omega⟩ ⟨(y 1).val * 128 + (y 3).val, by
    have h1 : (y 1).val < 8 := (y 1).isLt
    have h3 : (y 3).val < 128 := (y 3).isLt
    omega⟩

theorem tile_at {H : Fin 512 → Fin 1024 → EReal} (o : ℕ) (inb : ∀ a, (![o, 0, 0, 0] : Fin 4 → ℕ) a + S32x8x8x128.size a ≤ S64x8x8x128.size a) (ho : o + 32 ≤ 64)
    (v : FVec Ideal S256x1024 .f32) (h : ∀ (a : Fin 256) k, v (ix2 a k) = H ⟨o * 8 + a.val, by omega⟩ k) (q : Fin 8) :
    ∀ z, (tile o inb v q).2 z = G16 H ((tile o inb v q).1.emb z) := by
  intro z
  change S32x1x8x128.Idx at z
  obtain ⟨p, u, s, l, rfl⟩ : ∃ p u s l, z = ix4 p u s l := ⟨_, _, _, _, eq_ix4 z⟩
  refine (tile_apply (128 * q.val) v (slq q) p u s l).trans ((h _ _).trans (congrArg₂ H (Fin.ext ?_) (Fin.ext ?_)))
  · show o * 8 + (p.val * 8 + s.val) = (o + 0 + 1 * p.val) * 8 + (0 + 0 + 1 * s.val)
    omega
  · show 128 * q.val + l.val = (0 + q.val + 1 * u.val) * 128 + (0 + 0 + 1 * l.val)
    omega

theorem pieces16 {H : Fin 512 → Fin 1024 → EReal} {v0 v1 : FVec Ideal S256x1024 .f32} (h0 : ∀ (a : Fin 256) k, v0 (ix2 a k) = H ⟨0 + a.val, by omega⟩ k)
    (h1 : ∀ (a : Fin 256) k, v1 (ix2 a k) = H ⟨256 + a.val, by omega⟩ k) : ∀ p ∈ L16 v0 v1, ∀ z, p.2 z = G16 H (p.1.emb z) := by
  intro p hp
  rcases List.mem_append.mp hp with hp | hp
  · obtain ⟨q, -, rfl⟩ := List.mem_map.mp hp
    exact tile_at 32 _ (by decide) v1 h1 q
  · obtain ⟨q, -, rfl⟩ := List.mem_map.mp hp
    exact tile_at 0 _ (by decide) v0 h0 q

/-! ## The two outputs -/

section Point

variable (x0 : Vec Ideal S512x1024 .f32) (x1 : Vec Ideal S512x512 .bf16) (x2 x3 x4 : Vec Ideal S512x512 .f32) (x5 x6 : Vec Ideal S512x1024 .f32)
  (x7 x8 : Vec Ideal S1x512 .f32) (x9 x10 : Vec Ideal S512x1024 .bf16) (x11 : Vec Ideal S1024x1024 .bf16) (x12 : Vec Ideal S1x1024 .f32)

/-- The stream at row `r` of a block. -/
def x1B (r : Fin 512) (k : Fin 1024) : EReal :=
  x1R (fun k => x0 (ix2 r k)) (mgR (fun i => x1 (ix2 r i)) (obR (fun i => x2 (ix2 r i)) (fun i => x7 (ix2 0 i)) (fun i => x8 (ix2 0 i))
    (fun i => x3 (ix2 r i)) (fun i => x4 (ix2 r i))) (fun k => x5 (ix2 r k)) (fun k => x6 (ix2 r k)) (fun i k => x9 (ix2 i k)) (fun i k => x10 (ix2 i k)))
    (fun i k => x11 (ix2 i k)) k
/-- Its normed row. -/
def h2B (r : Fin 512) (k : Fin 1024) : EReal := hrow (x1B x0 x1 x2 x3 x4 x5 x6 x7 x8 x9 x10 x11 r) (fun k => x12 (ix2 0 k)) k

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S3072x128 .bf16) (harg14 : arg14.IsWhole) (arg15 : Memref sig .tc .vmem S1x128 .f32) (harg15 : arg15.IsWhole) (arg16 : Memref sig .tc .vmem S512x1024 .f32) (harg16 : arg16.IsWhole) (arg17 : Memref sig .tc .vmem S64x8x8x128 .f32) (harg17 : arg17.IsWhole) (arg18 : Memref sig .tc .vmem S512x128 .f32) (harg18 : arg18.IsWhole) (arg19 : Memref sig .tc .vmem S1x128 .f32) (harg19 : arg19.IsWhole) (arg20 : Memref sig .tc .vmem S1x128 .f32) (harg20 : arg20.IsWhole)

/-- The stream of the 256 rows from row `o`, from what is loaded. -/
def x1L (o : ℕ) (i0 : ∀ a, (![o, 0] : Fin 2 → ℕ) a + S256x1024.size a ≤ S512x1024.size a) (i1 : ∀ a, (![o, 0] : Fin 2 → ℕ) a + S256x512.size a ≤ S512x512.size a) :
    FVec Ideal S256x1024 .f32 :=
  x1h (half arg1 harg1 x0 o i0) (half arg6 harg6 x5 o i0) (half arg7 harg7 x6 o i0) (half arg2 harg2 x1 o i1) (half arg3 harg3 x2 o i1) (half arg4 harg4 x3 o i1)
    (half arg5 harg5 x4 o i1) (all arg8 harg8 x7 inb_S1x512_S1x512_0_0) (all arg9 harg9 x8 inb_S1x512_S1x512_0_0) (all arg10 harg10 x9 inb_S512x1024_S512x1024_0_0)
    (all arg11 harg11 x10 inb_S512x1024_S512x1024_0_0) (all arg12 harg12 x11 inb_S1024x1024_S1024x1024_0_0)
def h2L (o : ℕ) (i0 : ∀ a, (![o, 0] : Fin 2 → ℕ) a + S256x1024.size a ≤ S512x1024.size a) (i1 : ∀ a, (![o, 0] : Fin 2 → ℕ) a + S256x512.size a ≤ S512x512.size a) :
    FVec Ideal S256x1024 .f32 :=
  h2h (half arg1 harg1 x0 o i0) (half arg6 harg6 x5 o i0) (half arg7 harg7 x6 o i0) (half arg2 harg2 x1 o i1) (half arg3 harg3 x2 o i1) (half arg4 harg4 x3 o i1)
    (half arg5 harg5 x4 o i1) (all arg8 harg8 x7 inb_S1x512_S1x512_0_0) (all arg9 harg9 x8 inb_S1x512_S1x512_0_0) (all arg10 harg10 x9 inb_S512x1024_S512x1024_0_0)
    (all arg11 harg11 x10 inb_S512x1024_S512x1024_0_0) (all arg12 harg12 x11 inb_S1024x1024_S1024x1024_0_0) (all arg13 harg13 x12 inb_S1x1024_S1x1024_0_0)

theorem x1L_apply (o : ℕ) (i0) (i1) (a : Fin 256) (k : Fin 1024) (ho : o + a.val < 512) :
    x1L x0 x1 x2 x3 x4 x5 x6 x7 x8 x9 x10 x11 arg1 harg1 arg2 harg2 arg3 harg3 arg4 harg4 arg5 harg5 arg6 harg6 arg7 harg7 arg8 harg8 arg9 harg9 arg10 harg10
      arg11 harg11 arg12 harg12 o i0 i1 (ix2 a k) = x1B x0 x1 x2 x3 x4 x5 x6 x7 x8 x9 x10 x11 ⟨o + a.val, ho⟩ k := by
  unfold x1L x1B
  rw [x1h_apply]
  simp only [half_apply, all_apply]

theorem h2L_apply (o : ℕ) (i0) (i1) (a : Fin 256) (k : Fin 1024) (ho : o + a.val < 512) :
    h2L x0 x1 x2 x3 x4 x5 x6 x7 x8 x9 x10 x11 x12 arg1 harg1 arg2 harg2 arg3 harg3 arg4 harg4 arg5 harg5 arg6 harg6 arg7 harg7 arg8 harg8 arg9 harg9 arg10 harg10
      arg11 harg11 arg12 harg12 arg13 harg13 o i0 i1 (ix2 a k) = h2B x0 x1 x2 x3 x4 x5 x6 x7 x8 x9 x10 x11 x12 ⟨o + a.val, ho⟩ k := by
  unfold h2L h2B
  rw [h2h_apply]
  have e := fun k => x1L_apply x0 x1 x2 x3 x4 x5 x6 x7 x8 x9 x10 x11 arg1 harg1 arg2 harg2 arg3 harg3 arg4 harg4 arg5 harg5 arg6 harg6 arg7 harg7 arg8 harg8
    arg9 harg9 arg10 harg10 arg11 harg11 arg12 harg12 o i0 i1 a k ho
  unfold x1L at e
  simp only [e, all_apply]

variable (x13 : Vec Ideal S3072x128 .bf16) (x14 : Vec Ideal S1x128 .f32)

theorem run15_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1 = L15 (x1L x0 x1 x2 x3 x4 x5 x6 x7 x8 x9 x10 x11 arg1 harg1 arg2 harg2 arg3 harg3 arg4 harg4 arg5 harg5 arg6 harg6 arg7 harg7 arg8 harg8 arg9 harg9 arg10 harg10 arg11 harg11 arg12 harg12 0 inb_S512x1024_S256x1024_0_0 inb_S512x512_S256x512_0_0) (x1L x0 x1 x2 x3 x4 x5 x6 x7 x8 x9 x10 x11 arg1 harg1 arg2 harg2 arg3 harg3 arg4 harg4 arg5 harg5 arg6 harg6 arg7 harg7 arg8 harg8 arg9 harg9 arg10 harg10 arg11 harg11 arg12 harg12 256 inb_S512x1024_S256x1024_256_0 inb_S512x512_S256x512_256_0) := rfl

theorem out15_A (hc0 : cond0_0 i) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = fun y => x1B x0 x1 x2 x3 x4 x5 x6 x7 x8 x9 x10 x11 (y 0) (y 1) := by
  funext y
  refine View.read_writes_apply_of_pieces (v := VO0_15) (f := VO0_15.junk) (fun y => x1B x0 x1 x2 x3 x4 x5 x6 x7 x8 x9 x10 x11 (y 0) (y 1)) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 y)
  rw [run15_A]
  exact pieces15 (fun a k => x1L_apply (o := 0) (ho := by omega) ..) (fun a k => x1L_apply (o := 256) (ho := by omega) ..)

theorem run16_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1 = L16 (h2L x0 x1 x2 x3 x4 x5 x6 x7 x8 x9 x10 x11 x12 arg1 harg1 arg2 harg2 arg3 harg3 arg4 harg4 arg5 harg5 arg6 harg6 arg7 harg7 arg8 harg8 arg9 harg9 arg10 harg10 arg11 harg11 arg12 harg12 arg13 harg13 0 inb_S512x1024_S256x1024_0_0 inb_S512x512_S256x512_0_0) (h2L x0 x1 x2 x3 x4 x5 x6 x7 x8 x9 x10 x11 x12 arg1 harg1 arg2 harg2 arg3 harg3 arg4 harg4 arg5 harg5 arg6 harg6 arg7 harg7 arg8 harg8 arg9 harg9 arg10 harg10 arg11 harg11 arg12 harg12 arg13 harg13 256 inb_S512x1024_S256x1024_256_0 inb_S512x512_S256x512_256_0) := rfl

theorem out16_A (hc0 : cond0_0 i) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = G16 (h2B x0 x1 x2 x3 x4 x5 x6 x7 x8 x9 x10 x11 x12) := by
  funext y
  refine View.read_writes_apply_of_pieces (v := VO0_16) (f := VO0_16.junk) (G16 (h2B x0 x1 x2 x3 x4 x5 x6 x7 x8 x9 x10 x11 x12)) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 y)
  rw [run16_A]
  exact pieces16 (fun a k => h2L_apply (o := 0) (ho := by omega) ..) (fun a k => h2L_apply (o := 256) (ho := by omega) ..)

theorem run15_B (hc0 : ¬cond0_0 i) (xs0 : Vec Ideal S1x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0).1 = L15 (x1L x0 x1 x2 x3 x4 x5 x6 x7 x8 x9 x10 x11 arg1 harg1 arg2 harg2 arg3 harg3 arg4 harg4 arg5 harg5 arg6 harg6 arg7 harg7 arg8 harg8 arg9 harg9 arg10 harg10 arg11 harg11 arg12 harg12 0 inb_S512x1024_S256x1024_0_0 inb_S512x512_S256x512_0_0) (x1L x0 x1 x2 x3 x4 x5 x6 x7 x8 x9 x10 x11 arg1 harg1 arg2 harg2 arg3 harg3 arg4 harg4 arg5 harg5 arg6 harg6 arg7 harg7 arg8 harg8 arg9 harg9 arg10 harg10 arg11 harg11 arg12 harg12 256 inb_S512x1024_S256x1024_256_0 inb_S512x512_S256x512_256_0) := rfl

theorem out15_B (hc0 : ¬cond0_0 i) (xs0 : Vec Ideal S1x128 .f32) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 = fun y => x1B x0 x1 x2 x3 x4 x5 x6 x7 x8 x9 x10 x11 (y 0) (y 1) := by
  funext y
  refine View.read_writes_apply_of_pieces (v := VO0_15) (f := VO0_15.junk) (fun y => x1B x0 x1 x2 x3 x4 x5 x6 x7 x8 x9 x10 x11 (y 0) (y 1)) _ ?_ y (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 y)
  rw [run15_B]
  exact pieces15 (fun a k => x1L_apply (o := 0) (ho := by omega) ..) (fun a k => x1L_apply (o := 256) (ho := by omega) ..)

theorem run16_B (hc0 : ¬cond0_0 i) (xs0 : Vec Ideal S1x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0).2.1 = L16 (h2L x0 x1 x2 x3 x4 x5 x6 x7 x8 x9 x10 x11 x12 arg1 harg1 arg2 harg2 arg3 harg3 arg4 harg4 arg5 harg5 arg6 harg6 arg7 harg7 arg8 harg8 arg9 harg9 arg10 harg10 arg11 harg11 arg12 harg12 arg13 harg13 0 inb_S512x1024_S256x1024_0_0 inb_S512x512_S256x512_0_0) (h2L x0 x1 x2 x3 x4 x5 x6 x7 x8 x9 x10 x11 x12 arg1 harg1 arg2 harg2 arg3 harg3 arg4 harg4 arg5 harg5 arg6 harg6 arg7 harg7 arg8 harg8 arg9 harg9 arg10 harg10 arg11 harg11 arg12 harg12 arg13 harg13 256 inb_S512x1024_S256x1024_256_0 inb_S512x512_S256x512_256_0) := rfl

theorem out16_B (hc0 : ¬cond0_0 i) (xs0 : Vec Ideal S1x128 .f32) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 = G16 (h2B x0 x1 x2 x3 x4 x5 x6 x7 x8 x9 x10 x11 x12) := by
  funext y
  refine View.read_writes_apply_of_pieces (v := VO0_16) (f := VO0_16.junk) (G16 (h2B x0 x1 x2 x3 x4 x5 x6 x7 x8 x9 x10 x11 x12)) _ ?_ y (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xs0 y)
  rw [run16_B]
  exact pieces16 (fun a k => h2L_apply (o := 0) (ho := by omega) ..) (fun a k => h2L_apply (o := 256) (ho := by omega) ..)

end Point

end Cert.Proof.Merge.Blk

end
-- ==== Proof.MergeValue.lean ====
/- The arrays that the merge kernel leaves, each the specification's function of the arguments. -/
module

public import proofs.«01_k».proof.Proof.MergeOuts
public import proofs.«01_k».proof.Proof.InprojValue
public import proofs.«01_k».proof.Proof.InprojRef
public import proofs.«01_k».proof.Proof.Gen.Kernel3Ideal.Value

@[expose] public section

set_option maxRecDepth 16384

noncomputable section

namespace Cert.Proof.Merge.Blk

open Idealize.ShloMosaic hiding ix1 eq_ix1 ix2 eq_ix2 ix3 eq_ix3 ix4 eq_ix4 ix5 eq_ix5
open Idealize.ShloMosaic.ValueIdx Idealize.ShloMosaic.TcCoe
open Cert.Kernel3Ideal Cert.Kernel3Ideal.Gen
open Cert.Proof.Inproj Cert.Proof.Merge
open Cert.Proof.Inproj.Blk (RowsAt rowsAt_of whole_of read_at)

/-! ## A block's rows -/

section Rows

variable {x0 : Vec Ideal S512x1024 .f32} {x1 : Vec Ideal S512x512 .bf16} {x2 x3 x4 : Vec Ideal S512x512 .f32} {x5 x6 : Vec Ideal S512x1024 .f32}
  {x7 x8 : Vec Ideal S1x512 .f32} {x9 x10 : Vec Ideal S512x1024 .bf16} {x11 : Vec Ideal S1024x1024 .bf16} {x12 : Vec Ideal S1x1024 .f32}

theorem x1B_eq {A : Args} {n : Fin 32768} {r : Fin 512} (h0 : ∀ k, x0 (ix2 r k) = A.x (ix3 (rb n.val) (rt n.val) k)) (h1 : ∀ k, x1 (ix2 r k) = A.oa (ix3 (rb n.val) (rt n.val) k))
    (h2 : ∀ k, x2 (ix2 r k) = A.yn (ix3 (rb n.val) (rt n.val) k)) (h3 : ∀ k, x3 (ix2 r k) = A.bo (ix2 n k)) (h4 : ∀ k, x4 (ix2 r k) = A.g (ix2 n k))
    (h5 : ∀ k, x5 (ix2 r k) = A.ga (ix2 n k)) (h6 : ∀ k, x6 (ix2 r k) = A.gb (ix2 n k)) (h7 : ∀ k, x7 (ix2 0 k) = A.lw (ix1 k)) (h8 : ∀ k, x8 (ix2 0 k) = A.lb (ix1 k))
    (h9 : ∀ i k, x9 (ix2 i k) = A.wa (ix2 i k)) (h10 : ∀ i k, x10 (ix2 i k) = A.wb (ix2 i k)) (h11 : ∀ i k, x11 (ix2 i k) = A.wo (ix2 i k)) :
    x1B x0 x1 x2 x3 x4 x5 x6 x7 x8 x9 x10 x11 r = x1S A n := by
  funext k
  unfold x1B
  simp only [h0, h1, h2, h3, h4, h5, h6, h7, h8, h9, h10, h11]
  rfl

end Rows

/-- A vector as one row. -/
theorem row_apply {N : ℕ} (v : FVec Ideal ⟨1, ![N]⟩ .f32) (h : (⟨1, ![N]⟩ : Shape).ShapeCasts ⟨2, ![1, N]⟩) (k : Fin N) : shapeCast ⟨2, ![1, N]⟩ v h (ix2 0 k) = v (ix1 k) := by
  refine shapeCast_apply _ _ _ _ ((Shape.rowMajor_val_one _).trans (Eq.trans ?_ (Shape.rowMajor_val_two _).symm))
  show k.val = 0 * N + k.val
  omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx15 : ∀ t : Fin cfg0.N, win0_15.index t (0 : Fin 2) = t.val ∧ win0_15.index t (1 : Fin 2) = 0 := (by decide +kernel : ∀ t : Fin grid0.N, _)
theorem idx16 : ∀ t : Fin cfg0.N, win0_16.index t (0 : Fin 4) = t.val ∧ win0_16.index t (1 : Fin 4) = 0 ∧ win0_16.index t (2 : Fin 4) = 0 ∧ win0_16.index t (3 : Fin 4) = 0 :=
  (by decide +kernel : ∀ t : Fin grid0.N, _)

section Run

variable (m : (ℓ : Loc nD τ sig) → Buf (Elt Ideal) ℓ) (c : Dev nD)

/-- The arguments. -/
def argsK : Args where
  x := m ((c : Thread nD τ).loc main_arg0)
  oa := m ((c : Thread nD τ).loc main_arg1)
  yn := m ((c : Thread nD τ).loc main_arg2)
  bo := m ((c : Thread nD τ).loc main_arg3)
  g := m ((c : Thread nD τ).loc main_arg4)
  ga := m ((c : Thread nD τ).loc main_arg5)
  gb := m ((c : Thread nD τ).loc main_arg6)
  lw := m ((c : Thread nD τ).loc main_arg7)
  lb := m ((c : Thread nD τ).loc main_arg8)
  wa := m ((c : Thread nD τ).loc main_arg9)
  wb := m ((c : Thread nD τ).loc main_arg10)
  wo := m ((c : Thread nD τ).loc main_arg11)
  gf := m ((c : Thread nD τ).loc main_arg12)

theorem entry0 : V m c main_v0 = shapeCast S32768x1024 (argsK m c).x shapeCasts_S4x8192x1024_S32768x1024 := by entry_read; rfl
theorem entry1 : V m c main_v1 = shapeCast S32768x512 (argsK m c).oa shapeCasts_S4x8192x512_S32768x512 := by entry_read; rfl
theorem entry2 : V m c main_v2 = shapeCast S32768x512 (argsK m c).yn shapeCasts_S4x8192x512_S32768x512 := by entry_read; rfl
theorem entry3 : V m c main_arg3 = (argsK m c).bo := by entry_read; rfl
theorem entry4 : V m c main_arg4 = (argsK m c).g := by entry_read; rfl
theorem entry5 : V m c main_arg5 = (argsK m c).ga := by entry_read; rfl
theorem entry6 : V m c main_arg6 = (argsK m c).gb := by entry_read; rfl
theorem entry7 : V m c main_v16 = shapeCast S1x512 (argsK m c).lw shapeCasts_S512_S1x512 := by entry_read; rfl
theorem entry8 : V m c main_v17 = shapeCast S1x512 (argsK m c).lb shapeCasts_S512_S1x512 := by entry_read; rfl
theorem entry9 : V m c main_v13 = (argsK m c).wa := by entry_read; rfl
theorem entry10 : V m c main_v14 = (argsK m c).wb := by entry_read; rfl
theorem entry11 : V m c main_v15 = (argsK m c).wo := by entry_read; rfl
theorem entry12 : V m c main_v18 = shapeCast S1x1024 (argsK m c).gf shapeCasts_S1024_S1x1024 := by entry_read; rfl

variable (t : Fin cfg0.N) (r : Fin 512)

theorem token_lt : t.val * 512 + r.val < 32768 := by
  have hN : t.val < 64 := lt_of_lt_of_eq t.isLt (by decide : cfg0.N = 64)
  omega

/-- Row `r` of point `t`: token `512 t + r`. -/
def tok : Fin 32768 := ⟨t.val * 512 + r.val, token_lt t r⟩

theorem read0 (k : Fin 1024) : iblk m c 0 t (ix2 r k) = (argsK m c).x (ix3 (rb (tok t r).val) (rt (tok t r).val) k) :=
  read_at (e := ((cfg0.win 0).blk t).view.emb) (entry0 m c) ((rowsAt_of (idx0 t) fun z => ⟨rfl, rfl⟩).at r k (token_lt t r)) (Inproj.Ref.rows_apply (N := 1024) (argsK m c).x _ (tok t r) k)
theorem read1 (k : Fin 512) : iblk m c 1 t (ix2 r k) = (argsK m c).oa (ix3 (rb (tok t r).val) (rt (tok t r).val) k) :=
  read_at (e := ((cfg0.win 1).blk t).view.emb) (entry1 m c) ((rowsAt_of (idx1 t) fun z => ⟨rfl, rfl⟩).at r k (token_lt t r)) (Inproj.Ref.rows_apply (N := 512) (argsK m c).oa _ (tok t r) k)
theorem read2 (k : Fin 512) : iblk m c 2 t (ix2 r k) = (argsK m c).yn (ix3 (rb (tok t r).val) (rt (tok t r).val) k) :=
  read_at (e := ((cfg0.win 2).blk t).view.emb) (entry2 m c) ((rowsAt_of (idx2 t) fun z => ⟨rfl, rfl⟩).at r k (token_lt t r)) (Inproj.Ref.rows_apply (N := 512) (argsK m c).yn _ (tok t r) k)
theorem read3 (k : Fin 512) : iblk m c 3 t (ix2 r k) = (argsK m c).bo (ix2 (tok t r) k) :=
  read_at (e := ((cfg0.win 3).blk t).view.emb) (entry3 m c) ((rowsAt_of (idx3 t) fun z => ⟨rfl, rfl⟩).at r k (token_lt t r)) rfl
theorem read4 (k : Fin 512) : iblk m c 4 t (ix2 r k) = (argsK m c).g (ix2 (tok t r) k) :=
  read_at (e := ((cfg0.win 4).blk t).view.emb) (entry4 m c) ((rowsAt_of (idx4 t) fun z => ⟨rfl, rfl⟩).at r k (token_lt t r)) rfl
theorem read5 (k : Fin 1024) : iblk m c 5 t (ix2 r k) = (argsK m c).ga (ix2 (tok t r) k) :=
  read_at (e := ((cfg0.win 5).blk t).view.emb) (entry5 m c) ((rowsAt_of (idx5 t) fun z => ⟨rfl, rfl⟩).at r k (token_lt t r)) rfl
theorem read6 (k : Fin 1024) : iblk m c 6 t (ix2 r k) = (argsK m c).gb (ix2 (tok t r) k) :=
  read_at (e := ((cfg0.win 6).blk t).view.emb) (entry6 m c) ((rowsAt_of (idx6 t) fun z => ⟨rfl, rfl⟩).at r k (token_lt t r)) rfl
theorem read7 (k : Fin 512) : iblk m c 7 t (ix2 0 k) = (argsK m c).lw (ix1 k) :=
  read_at (e := ((cfg0.win 7).blk t).view.emb) (entry7 m c) (whole_of (idx7 t) (fun z => ⟨rfl, rfl⟩) (ix2 0 k)) (row_apply (N := 512) (argsK m c).lw _ k)
theorem read8 (k : Fin 512) : iblk m c 8 t (ix2 0 k) = (argsK m c).lb (ix1 k) :=
  read_at (e := ((cfg0.win 8).blk t).view.emb) (entry8 m c) (whole_of (idx8 t) (fun z => ⟨rfl, rfl⟩) (ix2 0 k)) (row_apply (N := 512) (argsK m c).lb _ k)
theorem read9 (i : Fin 512) (k : Fin 1024) : iblk m c 9 t (ix2 i k) = (argsK m c).wa (ix2 i k) :=
  read_at (e := ((cfg0.win 9).blk t).view.emb) (entry9 m c) (whole_of (idx9 t) (fun z => ⟨rfl, rfl⟩) (ix2 i k)) rfl
theorem read10 (i : Fin 512) (k : Fin 1024) : iblk m c 10 t (ix2 i k) = (argsK m c).wb (ix2 i k) :=
  read_at (e := ((cfg0.win 10).blk t).view.emb) (entry10 m c) (whole_of (idx10 t) (fun z => ⟨rfl, rfl⟩) (ix2 i k)) rfl
theorem read11 (i : Fin 1024) (k : Fin 1024) : iblk m c 11 t (ix2 i k) = (argsK m c).wo (ix2 i k) :=
  read_at (e := ((cfg0.win 11).blk t).view.emb) (entry11 m c) (whole_of (idx11 t) (fun z => ⟨rfl, rfl⟩) (ix2 i k)) rfl
theorem read12 (k : Fin 1024) : iblk m c 12 t (ix2 0 k) = (argsK m c).gf (ix1 k) :=
  read_at (e := ((cfg0.win 12).blk t).view.emb) (entry12 m c) (whole_of (idx12 t) (fun z => ⟨rfl, rfl⟩) (ix2 0 k)) (row_apply (N := 1024) (argsK m c).gf _ k)

/-- The stream at row `r` of point `t`. -/
theorem x1_row : x1B (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) r = x1S (argsK m c) (tok t r) :=
  x1B_eq (read0 m c t r) (read1 m c t r) (read2 m c t r) (read3 m c t r) (read4 m c t r) (read5 m c t r) (read6 m c t r) (read7 m c t) (read8 m c t)
    (read9 m c t) (read10 m c t) (read11 m c t)

theorem h2_row : h2B (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) r = h2S (argsK m c) (tok t r) := by
  funext k
  exact congrArg₂ (fun a b => hrow a b k) (x1_row m c t r) (funext (read12 m c t))

/-- What point `t` writes of the stream. -/
theorem flush15 : (dats m 0 c).flushed 15 t = fun z => x1A (argsK m c) (((cfg0.win 15).blk t).view.emb z) := by
  have key : (fun y : S512x1024.Idx => x1B (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (y 0) (y 1)) = fun z => x1A (argsK m c) (((cfg0.win 15).blk t).view.emb z) := by
    refine ext2 fun r k => (congrFun (x1_row m c t r) k).trans ?_
    have e := (rowsAt_of (e := ((cfg0.win 15).blk t).view.emb) (idx15 t) fun z => ⟨rfl, rfl⟩).at r k (token_lt t r)
    exact (congrArg (x1A (argsK m c)) e).symm
  by_cases h0 : t.val % 64 = 0
  · refine (Cert.Kernel3Ideal.Value.flushed15_A m c t h0).trans (Eq.trans ?_ key)
    exact congrArg ((cfg0.win 15).cut (grid0.coords t)) (out15_A ..)
  · refine (Cert.Kernel3Ideal.Value.flushed15_B m c t h0).trans (Eq.trans ?_ key)
    exact congrArg ((cfg0.win 15).cut (grid0.coords t)) (out15_B ..)

theorem h2A_at (A : Args) (y : (⟨4, ![4096, 8, 8, 128]⟩ : Shape).Idx) (n : Fin 32768) (k : Fin 1024) (hn : (y 0).val * 8 + (y 2).val = n.val) (hk : (y 1).val * 128 + (y 3).val = k.val) :
    h2A A y = h2S A n k := congrArg₂ (h2S A) (Fin.ext hn) (Fin.ext hk)

/-- What it writes of the normed rows. -/
theorem flush16 : (dats m 0 c).flushed 16 t = fun z => h2A (argsK m c) (((cfg0.win 16).blk t).view.emb z) := by
  have key : G16 (h2B (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t)) = fun z => h2A (argsK m c) (((cfg0.win 16).blk t).view.emb z) := by
    funext z
    obtain ⟨i0, i1, i2, i3⟩ := idx16 t
    have e0 : (((cfg0.win 16).blk t).view.emb z (0 : Fin 4)).val = win0_16.index t (0 : Fin 4) * 64 + 1 * (z 0).val := rfl
    have e1 : (((cfg0.win 16).blk t).view.emb z (1 : Fin 4)).val = win0_16.index t (1 : Fin 4) * 8 + 1 * (z 1).val := rfl
    have e2 : (((cfg0.win 16).blk t).view.emb z (2 : Fin 4)).val = win0_16.index t (2 : Fin 4) * 8 + 1 * (z 2).val := rfl
    have e3 : (((cfg0.win 16).blk t).view.emb z (3 : Fin 4)).val = win0_16.index t (3 : Fin 4) * 128 + 1 * (z 3).val := rfl
    rw [i0] at e0
    rw [i1] at e1
    rw [i2] at e2
    rw [i3] at e3
    refine (congrFun (h2_row m c t _) _).trans (h2A_at (argsK m c) _ _ _ ?_ ?_).symm
    · refine (congrArg₂ (fun a b => a * 8 + b) e0 e2).trans ?_
      show (t.val * 64 + 1 * (z 0).val) * 8 + (0 * 8 + 1 * (z 2).val) = t.val * 512 + ((z 0).val * 8 + (z 2).val)
      omega
    · refine (congrArg₂ (fun a b => a * 128 + b) e1 e3).trans ?_
      show (0 * 8 + 1 * (z 1).val) * 128 + (0 * 128 + 1 * (z 3).val) = (z 1).val * 128 + (z 3).val
      omega
  by_cases h0 : t.val % 64 = 0
  · refine (Cert.Kernel3Ideal.Value.flushed16_A m c t h0).trans (Eq.trans ?_ key)
    exact congrArg ((cfg0.win 16).cut (grid0.coords t)) (out16_A ..)
  · refine (Cert.Kernel3Ideal.Value.flushed16_B m c t h0).trans (Eq.trans ?_ key)
    exact congrArg ((cfg0.win 16).cut (grid0.coords t)) (out16_B ..)

theorem final15 : (dats m 0 c).arrAt 15 cfg0.N = x1A (argsK m c) :=
  (dats m 0 c).arrAt_eq_of_cover 15 (x1A (argsK m c)) (fun t _ => flush15 m c t) ((by decide +kernel : (cfg0.win 15).Covers).cover _ (Memref.isWhole_whole _))
theorem final16 : (dats m 0 c).arrAt 16 cfg0.N = h2A (argsK m c) :=
  (dats m 0 c).arrAt_eq_of_cover 16 (h2A (argsK m c)) (fun t _ => flush16 m c t) ((by decide +kernel : (cfg0.win 16).Covers).cover _ (Memref.isWhole_whole _))

end Run

end Cert.Proof.Merge.Blk

end
-- ==== Proof.MoeSpec.lean ====
/- The experts of the mixture, row by row: each block of 256 rows meets the weights of the expert that the table names for it, a gated
   product through 256 hidden lanes. Both programs' arrays are stated by these functions. -/
module

public import proofs.«01_k».proof.Proof.InprojSpec

@[expose] public section

set_option maxRecDepth 16384

noncomputable section

namespace Cert.Proof.Moe

open Idealize.ShloMosaic hiding ix1 eq_ix1 ix2 eq_ix2 ix3 eq_ix3 ix4 eq_ix4 ix5 eq_ix5
open Idealize.ShloMosaic.ValueIdx
open Cert.Proof.Inproj

/-! ## Rows -/

/-- The hidden lanes of a row: its product with the first weights, times its own logistic, times the product with the second. -/
def hidR (x : Fin 1024 → EReal) (w1 w3 : Fin 1024 → Fin 256 → EReal) (j : Fin 256) : EReal :=
  (∑ i, x i * w1 i j) * Ideal.logistic (∑ i, x i * w1 i j) * ∑ i, x i * w3 i j

/-- The row that leaves an expert. -/
def yR (x : Fin 1024 → EReal) (w1 w3 : Fin 1024 → Fin 256 → EReal) (w2 : Fin 256 → Fin 1024 → EReal) (k : Fin 1024) : EReal :=
  ∑ j, hidR x w1 w3 j * w2 j k

/-- The arrays that the experts read: the table of experts by block, the rows in tiles, the weights. -/
structure Args where
  be : IVec ⟨1, ![288]⟩ 32
  x : FVec Ideal ⟨4, ![9216, 8, 8, 128]⟩ .f32
  w1 : FVec Ideal ⟨3, ![32, 1024, 256]⟩ .f32
  w3 : FVec Ideal ⟨3, ![32, 1024, 256]⟩ .f32
  w2 : FVec Ideal ⟨3, ![32, 256, 1024]⟩ .f32

/-- The table names an expert for every block. -/
def Named (be : IVec ⟨1, ![288]⟩ 32) : Prop := ∀ t : Fin 288, (be (ix1 t)).toNat < 32

variable (A : Args)

/-- The expert of block `t`. -/
def ex (t : Fin 288) : Fin 32 := ⟨(A.be (ix1 t)).toNat % 32, Nat.mod_lt _ (by decide)⟩

/-- Entry `k` of row `a` of block `t`. -/
def xS (t : Fin 288) (a : Fin 256) (k : Fin 1024) : EReal :=
  A.x (ix4 ⟨t.val * 32 + a.val / 8, by omega⟩ ⟨k.val / 128, by omega⟩ ⟨a.val % 8, by omega⟩ ⟨k.val % 128, by omega⟩)

/-- What the expert of block `t` makes of row `a`. -/
def yS (t : Fin 288) (a : Fin 256) (k : Fin 1024) : EReal :=
  yR (xS A t a) (fun i j => A.w1 (ix3 (ex A t) i j)) (fun i j => A.w3 (ix3 (ex A t) i j)) (fun j k => A.w2 (ix3 (ex A t) j k)) k

/-- The array, in tiles of eight rows by 128 lanes. -/
def yA : (⟨4, ![9216, 8, 8, 128]⟩ : Shape).Idx → EReal := fun z =>
  yS A ⟨(z 0).val / 32, by
    have h0 : (z 0).val < 9216 := (z 0).isLt
    omega⟩ ⟨(z 0).val % 32 * 8 + (z 2).val, by
    have h2 : (z 2).val < 8 := (z 2).isLt
    omega⟩ ⟨(z 1).val * 128 + (z 3).val, by
    have h1 : (z 1).val < 8 := (z 1).isLt
    have h3 : (z 3).val < 128 := (z 3).isLt
    omega⟩

theorem yA_at (y : (⟨4, ![9216, 8, 8, 128]⟩ : Shape).Idx) (t : Fin 288) (a : Fin 256) (k : Fin 1024) (ht : (y 0).val / 32 = t.val)
    (ha : (y 0).val % 32 * 8 + (y 2).val = a.val) (hk : (y 1).val * 128 + (y 3).val = k.val) : yA A y = yS A t a k := by
  have e1 : (⟨(y 0).val / 32, ht ▸ t.isLt⟩ : Fin 288) = t := Fin.ext ht
  have e2 : (⟨(y 0).val % 32 * 8 + (y 2).val, ha ▸ a.isLt⟩ : Fin 256) = a := Fin.ext ha
  have e3 : (⟨(y 1).val * 128 + (y 3).val, hk ▸ k.isLt⟩ : Fin 1024) = k := Fin.ext hk
  exact (congrArg (fun t => yS A t _ _) e1).trans ((congrArg (fun a => yS A t a _) e2).trans (congrArg (yS A t a) e3))

end Cert.Proof.Moe

end
-- ==== Proof.MoeRef.lean ====
/- The reference's arrays of the experts, entry by entry. -/
module

public import proofs.«01_k».proof.Proof.MoeSpec
public import proofs.«01_k».proof.Proof.Gen.Reference4Ideal.Run
public import Idealize.ShloMosaic.Lib.IdealHost
public import Idealize.ShloMosaic.Lib.Routing.Ops

@[expose] public section

set_option maxRecDepth 16384

noncomputable section

namespace Cert.Proof.Moe.Ref

open Idealize.ShloMosaic hiding ix1 eq_ix1 ix2 eq_ix2 ix3 eq_ix3 ix4 eq_ix4 ix5 eq_ix5
open Idealize.ShloMosaic.ValueIdx Idealize.ShloMosaic.TcCoe
open Cert.Reference4Ideal Cert.Reference4Ideal.Gen Cert.Reference4Ideal.Value
open Cert.Proof.Inproj Cert.Proof.Moe

variable (A : Args)

/-- The products of the blocks. -/
theorem dotIn_apply (l : FVec Ideal S288x256x1024 .f32) (r : FVec Ideal S288x1024x256 .f32) (t : Fin 288) (a j : Fin 256) :
    Host.dotGeneral dot_S288x256x1024_S288x1024x256_S288x256x256_2_1_1_2_0_0 none l r (ix3 t a j) = ∑ i : Fin 1024, l (ix3 t a i) * r (ix3 t i j) := by
  show FloatOps.dotGeneral (F := Ideal) (φ₁ := .f32) (φ₂ := .f32) _ none _ l r (ix3 t a j) = _
  rw [Ideal.dotGeneral_apply, DotDims.sum_contr₁ _ (a := (2 : Fin 3)) rfl (K := 1024) rfl]
  exact Finset.sum_congr rfl fun i _ => congrArg₂ (· * ·) (congrArg l (funext fun a => by fin_cases a <;> rfl)) (congrArg r (funext fun a => by fin_cases a <;> rfl))

theorem dotOut_apply (l : FVec Ideal S288x256x256 .f32) (r : FVec Ideal S288x256x1024 .f32) (t : Fin 288) (a : Fin 256) (k : Fin 1024) :
    Host.dotGeneral dot_S288x256x256_S288x256x1024_S288x256x1024_2_1_1_2_0_0 none l r (ix3 t a k) = ∑ j : Fin 256, l (ix3 t a j) * r (ix3 t j k) := by
  show FloatOps.dotGeneral (F := Ideal) (φ₁ := .f32) (φ₂ := .f32) _ none _ l r (ix3 t a k) = _
  rw [Ideal.dotGeneral_apply, DotDims.sum_contr₁ _ (a := (2 : Fin 3)) rfl (K := 256) rfl]
  exact Finset.sum_congr rfl fun i _ => congrArg₂ (· * ·) (congrArg l (funext fun a => by fin_cases a <;> rfl)) (congrArg r (funext fun a => by fin_cases a <;> rfl))

/-- The rows by block. -/
def xT : FVec Ideal S288x256x1024 .f32 :=
  shapeCast _ (transpose S9216x8x8x128 [0, 2, 1, 3] A.x transposes_S9216x8x8x128_S9216x8x8x128_0_2_1_3) shapeCasts_S9216x8x8x128_S288x256x1024

theorem xT_apply (t : Fin 288) (a : Fin 256) (k : Fin 1024) : xT A (ix3 t a k) = xS A t a k := by
  refine (shapeCast_apply _ _ (ix3 t a k) (ix4 ⟨t.val * 32 + a.val / 8, by omega⟩ ⟨a.val % 8, by omega⟩ ⟨k.val / 128, by omega⟩ ⟨k.val % 128, by omega⟩) ?_).trans
    (transpose_apply _ _ _ _ (ix4 ⟨t.val * 32 + a.val / 8, by omega⟩ ⟨k.val / 128, by omega⟩ ⟨a.val % 8, by omega⟩ ⟨k.val % 128, by omega⟩) (fun b => by fin_cases b <;> rfl))
  refine (Shape.rowMajor_val_four _).trans (Eq.trans ?_ (Shape.rowMajor_val_three _).symm)
  show (((t.val * 32 + a.val / 8) * 8 + a.val % 8) * 8 + k.val / 128) * 128 + k.val % 128 = (t.val * 256 + a.val) * 1024 + k.val
  omega

/-- The table as indices. -/
def idxT : IVec S288x1 32 :=
  broadcastInDim S288x1 ![0] bcast_S288_S288x1_0 (select (cmpi .slt A.be (broadcastInDim S288 ![] bcast_S_S288 (constantI S_ 32 0#32)))
    (addi A.be (broadcastInDim S288 ![] bcast_S_S288 (constantI S_ 32 32#32))) A.be)

theorem word_select (w : BitVec 32) (h : w.toNat < 32) : (if IntOp.cmpi .slt w 0#32 = 1#1 then w + 32#32 else w) = BitVec.ofNat 32 (w.toNat % 32) := by
  have hn : ¬ IntOp.cmpi .slt w 0#32 = 1#1 := by
    have ofBool_eq_one (p : Bool) : BitVec.ofBool p = 1#1 ↔ p = true := by cases p <;> decide
    simp only [ofBool_eq_one, IntOp.cmpi, BitVec.slt, decide_eq_true_eq, BitVec.toInt, BitVec.toNat_ofNat]
    omega
  rw [if_neg hn, Nat.mod_eq_of_lt h]
  exact (BitVec.ofNat_toNat ..).symm ▸ (BitVec.setWidth_eq w).symm

theorem idxT_apply (hN : Named A.be) (t : Fin 288) : idxT A (ix2 t (0 : Fin 1)) = BitVec.ofNat 32 (ex A t).val :=
  (broadcastInDim_apply _ _ _ (ix2 t 0) (ix1 t) (fun a => by fin_cases a; rfl)).trans (word_select (A.be (ix1 t)) (hN t))

/-- The weights of each block's expert. -/
theorem own_apply {K N : ℕ} (hK : K * N = 262144) (W : FVec Ideal ⟨3, ![32, K, N]⟩ .f32) (h1 : (⟨3, ![32, K, N]⟩ : Shape).ShapeCasts S32x262144)
    (h2 : S288x262144.ShapeCasts ⟨3, ![288, K, N]⟩) (hN : Named A.be) (t : Fin 288) (i : Fin K) (j : Fin N) :
    shapeCast ⟨3, ![288, K, N]⟩ (Host.gather gather_S32x262144_S288x1_S288x262144_1_0_n_n_0_1_1262144 (shapeCast S32x262144 W h1) (idxT A)) h2 (ix3 t i j) =
      W (ix3 (ex A t) i j) := by
  have hij : i.val * N + j.val < 262144 := by
    have hm : i.val * N + N ≤ K * N := (Nat.succ_mul i.val N).symm.trans_le (Nat.mul_le_mul_right N i.isLt)
    have hj := j.isLt
    omega
  have flat (u : ℕ) : (u * K + i.val) * N + j.val = u * 262144 + (i.val * N + j.val) := by
    rw [Nat.add_mul, Nat.mul_assoc, hK, Nat.add_assoc]
  refine (shapeCast_apply _ h2 (ix3 t i j) (ix2 t ⟨i.val * N + j.val, hij⟩) ?_).trans
    ((Routing.gather_row _ rfl rfl rfl rfl rfl _ _ t _ (ex A t) (idxT_apply A hN t) (by decide)).trans (shapeCast_apply _ h1 _ (ix3 (ex A t) i j) ?_))
  · refine (Shape.rowMajor_val_two _).trans (Eq.trans ?_ (Shape.rowMajor_val_three _).symm)
    exact (flat t.val).symm
  · refine (Shape.rowMajor_val_three _).trans (Eq.trans ?_ (Shape.rowMajor_val_two _).symm)
    exact flat (ex A t).val

/-- The products of the rows with the first or the second weights. -/
def inT (W : FVec Ideal S32x1024x256 .f32) : FVec Ideal S288x256x256 .f32 :=
  Host.dotGeneral dot_S288x256x1024_S288x1024x256_S288x256x256_2_1_1_2_0_0 none (xT A)
    (shapeCast _ (Host.gather gather_S32x262144_S288x1_S288x262144_1_0_n_n_0_1_1262144 (shapeCast _ W shapeCasts_S32x1024x256_S32x262144) (idxT A)) shapeCasts_S288x262144_S288x1024x256)

theorem inT_apply (hN : Named A.be) (W : FVec Ideal S32x1024x256 .f32) (t : Fin 288) (a j : Fin 256) :
    inT A W (ix3 t a j) = ∑ i, xS A t a i * W (ix3 (ex A t) i j) :=
  (dotIn_apply _ _ t a j).trans (Finset.sum_congr rfl fun i _ => congrArg₂ (· * ·) (xT_apply A t a i) (own_apply A (K := 1024) (N := 256) (by decide) W _ _ hN t i j))

def gateT (v : FVec Ideal S288x256x256 .f32) : FVec Ideal S288x256x256 .f32 :=
  Host.divf (broadcastInDim S288x256x256 ![] bcast_S_S288x256x256 (constant S_ .f32 0x3F800000#32))
    (addf (broadcastInDim S288x256x256 ![] bcast_S_S288x256x256 (constant S_ .f32 0x3F800000#32)) (Host.exp (Host.negf v)))

theorem gateT_apply (v : FVec Ideal S288x256x256 .f32) (z : S288x256x256.Idx) : gateT v z = Ideal.logistic (v z) := by
  show Ideal.div (Ideal.ofBits .f32 0x3F800000#32) (Ideal.ofBits .f32 0x3F800000#32 + Ideal.exp (-(v z))) = _
  rw [Ideal.ofBits_one_f32]
  rfl

def hidT : FVec Ideal S288x256x256 .f32 := mulf (mulf (inT A A.w1) (gateT (inT A A.w1))) (inT A A.w3)

theorem hidT_apply (hN : Named A.be) (t : Fin 288) (a j : Fin 256) :
    hidT A (ix3 t a j) = hidR (xS A t a) (fun i j => A.w1 (ix3 (ex A t) i j)) (fun i j => A.w3 (ix3 (ex A t) i j)) j :=
  congrArg₂ (· * ·) (congrArg₂ (· * ·) (inT_apply A hN A.w1 t a j) ((gateT_apply _ _).trans (congrArg Ideal.logistic (inT_apply A hN A.w1 t a j)))) (inT_apply A hN A.w3 t a j)

def yT : FVec Ideal S288x256x1024 .f32 :=
  Host.dotGeneral dot_S288x256x256_S288x256x1024_S288x256x1024_2_1_1_2_0_0 none (hidT A)
    (shapeCast _ (Host.gather gather_S32x262144_S288x1_S288x262144_1_0_n_n_0_1_1262144 (shapeCast _ A.w2 shapeCasts_S32x256x1024_S32x262144) (idxT A)) shapeCasts_S288x262144_S288x256x1024)

theorem yT_apply (hN : Named A.be) (t : Fin 288) (a : Fin 256) (k : Fin 1024) : yT A (ix3 t a k) = yS A t a k :=
  (dotOut_apply _ _ t a k).trans (Finset.sum_congr rfl fun j _ => congrArg₂ (· * ·) (hidT_apply A hN t a j) (own_apply A (K := 256) (N := 1024) (by decide) A.w2 _ _ hN t j k))

theorem out_eq (hN : Named A.be) : transpose S9216x8x8x128 [0, 2, 1, 3] (shapeCast S9216x8x8x128 (yT A) shapeCasts_S288x256x1024_S9216x8x8x128)
    transposes_S9216x8x8x128_S9216x8x8x128_0_2_1_3 = yA A := by
  funext z
  obtain ⟨p, q, s, l, rfl⟩ : ∃ p q s l, z = ix4 p q s l := ⟨_, _, _, _, eq_ix4 z⟩
  refine (transpose_apply _ _ _ (ix4 p q s l) (ix4 p s q l) (fun b => by fin_cases b <;> rfl)).trans ?_
  have ht : p.val / 32 < 288 := by omega
  have ha : p.val % 32 * 8 + s.val < 256 := by omega
  have hk : q.val * 128 + l.val < 1024 := by omega
  refine (shapeCast_apply _ _ (ix4 p s q l) (ix3 ⟨p.val / 32, ht⟩ ⟨p.val % 32 * 8 + s.val, ha⟩ ⟨q.val * 128 + l.val, hk⟩) ?_).trans (yT_apply A hN _ _ _)
  refine (Shape.rowMajor_val_three _).trans (Eq.trans ?_ (Shape.rowMajor_val_four _).symm)
  show (p.val / 32 * 256 + (p.val % 32 * 8 + s.val)) * 1024 + (q.val * 128 + l.val) = ((p.val * 8 + s.val) * 8 + q.val) * 128 + l.val
  omega

variable (m : (ℓ : Loc nD τ sig) → Buf (Elt Ideal) ℓ) (c : Dev nD)

/-- The arguments. -/
def argsR : Args where
  be := m ((c.tc : Thread nD τ).loc main_arg0)
  x := m ((c.tc : Thread nD τ).loc main_arg1)
  w1 := m ((c.tc : Thread nD τ).loc main_arg2)
  w3 := m ((c.tc : Thread nD τ).loc main_arg3)
  w2 := m ((c.tc : Thread nD τ).loc main_arg4)

/-- The run: the result is the experts' array, the arguments are kept. -/
theorem run_eq (ρ : Dev nD → PrngReg) (hN : ∀ c, Named (argsR m c).be) :
    θ_run defs (onTc (τ := τ) (main (F := Ideal))) ⟨m, fun _ => 0, ρ⟩ fun r => ∀ c : Dev nD,
      r.2.mem ((c.tc : Thread nD τ).loc main_v35) = yA (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out_eq (argsR m c) (hN c)), (h c).2⟩) (Cert.Reference4Ideal.Value.run (F := Ideal) m ρ)

end Cert.Proof.Moe.Ref

end
-- ==== Proof.MoeBlock.lean ====
/- What the experts' kernel stores at one grid point, from the blocks it reads: 256 rows through one expert, in tiles. -/
module

public import proofs.«01_k».proof.Proof.MoeSpec
public import proofs.«01_k».proof.Proof.MergeOuts
public import proofs.«01_k».proof.Proof.Gen.Kernel4Ideal.Frame

@[expose] public section

set_option maxRecDepth 16384

noncomputable section

namespace Cert.Proof.Moe.Blk

open Idealize.ShloMosaic hiding ix1 eq_ix1 ix2 eq_ix2 ix3 eq_ix3 ix4 eq_ix4 ix5 eq_ix5
open Idealize.ShloMosaic.ValueIdx Idealize.ShloMosaic.TcCoe
open Cert.Kernel4Ideal Cert.Kernel4Ideal.Gen
open Cert.Proof.Inproj Cert.Proof.Moe
open Cert.Proof.Merge.Blk (mul_apply tile_apply inbq slq)

/-! ## Rows -/

/-- One matrix of a stack of one. -/
theorem one_apply {A B : ℕ} (v : (⟨3, ![1, A, B]⟩ : Shape).Idx → EReal) (h : (⟨3, ![1, A, B]⟩ : Shape).ShapeCasts ⟨2, ![A, B]⟩) (i : Fin A) (k : Fin B) :
    shapeCast ⟨2, ![A, B]⟩ v h (ix2 i k) = v (ix3 0 i k) := by
  refine shapeCast_apply _ _ _ _ ((Shape.rowMajor_val_three _).trans (Eq.trans ?_ (Shape.rowMajor_val_two _).symm))
  show (0 * A + i.val) * B + k.val = i.val * B + k.val
  rw [Nat.zero_mul, Nat.zero_add]

/-- The rows that leave the expert. -/
theorem y_apply (v : FVec Ideal S256x1024 .f32) (u : FVec Ideal S1x1024x512 .bf16) (w : FVec Ideal S1x256x1024 .bf16) (a : Fin 256) (k : Fin 1024) :
    k0_pay6 (F := Ideal) v u w (ix2 a k) = yR (fun i => v (ix2 a i)) (fun i j => u (ix3 0 i ⟨0 + j.val, by omega⟩)) (fun i j => u (ix3 0 i ⟨256 + j.val, by omega⟩))
      (fun j k => w (ix3 0 j k)) k := by
  have mm (j : Fin 512) : matmul dot_S256x1024_S1024x512_S256x512_1_0_0_1_n_n none (truncf .bf16 v bitsLt_bf16_f32)
      (shapeCast S1024x512 u shapeCasts_S1x1024x512_S1024x512) (constant (F := Ideal) S256x512 .f32 0x00000000#32) (ix2 a j) = ∑ i, v (ix2 a i) * u (ix3 0 i j) :=
    (mul_apply (K := 1024) (N := 512) _ _ a j _ fun _ => rfl).trans (Finset.sum_congr rfl fun i _ => congrArg (v (ix2 a i) * ·) (one_apply (A := 1024) (B := 512) u shapeCasts_S1x1024x512_S1024x512 i j))
  have sl (o : ℕ) (hs : S256x512.Slices ![0, o] S256x256) (j : Fin 256) (ho : o + j.val < 512) :
      extractStridedSlice S256x256 ![0, o] (matmul dot_S256x1024_S1024x512_S256x512_1_0_0_1_n_n none (truncf .bf16 v bitsLt_bf16_f32)
        (shapeCast S1024x512 u shapeCasts_S1x1024x512_S1024x512) (constant (F := Ideal) S256x512 .f32 0x00000000#32)) hs (ix2 a j)
        = ∑ i, v (ix2 a i) * u (ix3 0 i ⟨o + j.val, ho⟩) :=
    (extractStridedSlice_apply _ _ hs (ix2 a j) (ix2 a ⟨o + j.val, ho⟩) (fun b => by
      fin_cases b
      · exact (Nat.zero_add _).symm
      · rfl)).trans (mm _)
  unfold k0_pay6
  refine (mul_apply (K := 256) (N := 1024) _ _ a k (hidR (fun i => v (ix2 a i)) (fun i j => u (ix3 0 i ⟨0 + j.val, by omega⟩)) (fun i j => u (ix3 0 i ⟨256 + j.val, by omega⟩)))
    fun j => ?_).trans ?_
  · exact congrArg₂ (fun p q => p * Ideal.logistic p * q) (sl 0 _ j (by omega)) (sl 256 _ j (by omega))
  · exact Finset.sum_congr rfl fun j _ => congrArg (_ * ·) (one_apply (A := 256) (B := 1024) w shapeCasts_S1x256x1024_S256x1024 j k)

/-! ## Loads -/

section Loads

variable (arg2 : Memref sig .tc .vmem S32x8x8x128 .f32) (harg2 : arg2.IsWhole) (X : Vec Ideal S32x8x8x128 .f32)

/-- Column `q` of the tiles. -/
def col (q : Fin 8) : Vec Ideal S32x1x8x128 .f32 :=
  arg2.view.readAt (Elt Ideal) (Rect.unit (s := S32x8x8x128) ![0, q.val, 0, 0] S32x1x8x128.size (inbq q)).toLoadRect (harg2.unread X)

theorem col_apply (q : Fin 8) (p : Fin 32) (s : Fin 8) (l : Fin 128) : col arg2 harg2 X q (ix4 p 0 s l) = X (ix4 p q s l) := by
  unfold col
  rw [View.readAt_apply, harg2.read_unread]
  refine congrArg X (funext fun b => Fin.ext ?_)
  match b with
  | ⟨0, _⟩ => show 0 + 1 * p.val = p.val; omega
  | ⟨1, _⟩ => show q.val + 1 * 0 = q.val; omega
  | ⟨2, _⟩ => show 0 + 1 * s.val = s.val; omega
  | ⟨3, _⟩ => show 0 + 1 * l.val = l.val; omega

/-- The rows of a block. -/
def rows : FVec Ideal S256x1024 .f32 :=
  k0_pay5 (F := Ideal) (col arg2 harg2 X 0) (col arg2 harg2 X 1) (col arg2 harg2 X 2) (col arg2 harg2 X 3) (col arg2 harg2 X 4) (col arg2 harg2 X 5) (col arg2 harg2 X 6)
    (col arg2 harg2 X 7)

theorem flat_apply (v : Vec Ideal S32x1x8x128 .f32) (a : Fin 256) (l : Fin 128) :
    shapeCast S256x128 (shapeCast S32x8x128 v shapeCasts_S32x1x8x128_S32x8x128) shapeCasts_S32x8x128_S256x128 (ix2 a l)
      = v (ix4 ⟨a.val / 8, by omega⟩ 0 ⟨a.val % 8, by omega⟩ l) := by
  refine (shapeCast_apply _ _ (ix2 a l) (ix3 ⟨a.val / 8, by omega⟩ ⟨a.val % 8, by omega⟩ l) ?_).trans (shapeCast_apply _ _ _ _ ?_)
  · refine (Shape.rowMajor_val_three _).trans (Eq.trans ?_ (Shape.rowMajor_val_two _).symm)
    show (a.val / 8 * 8 + a.val % 8) * 128 + l.val = a.val * 128 + l.val
    omega
  · refine (Shape.rowMajor_val_four _).trans (Eq.trans ?_ (Shape.rowMajor_val_three _).symm)
    show ((a.val / 8 * 1 + 0) * 8 + a.val % 8) * 128 + l.val = (a.val / 8 * 8 + a.val % 8) * 128 + l.val
    omega

theorem rows_apply (a : Fin 256) (k : Fin 1024) :
    rows arg2 harg2 X (ix2 a k) = X (ix4 ⟨a.val / 8, by omega⟩ ⟨k.val / 128, by omega⟩ ⟨a.val % 8, by omega⟩ ⟨k.val % 128, by omega⟩) := by
  refine (concatenate_ofFn_apply (s₁ := S256x128) (t := S256x1024) 1
    (fun q : Fin 8 => (shapeCast S256x128 (shapeCast S32x8x128 (col arg2 harg2 X q) shapeCasts_S32x1x8x128_S32x8x128) shapeCasts_S32x8x128_S256x128 : S256x128.Idx → EReal))
    concatenates_S256x128_S256x128_S256x128_S256x128_S256x128_S256x128_S256x128_S256x128_S256x1024_d1 rfl 128 rfl (ix2 a k) ⟨k.val / 128, by omega⟩ rfl
    (ix2 a ⟨k.val % 128, by omega⟩) rfl (fun b hb => by fin_cases b <;> first | rfl | exact absurd rfl hb)).trans ?_
  exact (flat_apply _ a _).trans (col_apply arg2 harg2 X _ _ _ _)

end Loads

/-- A block of weights. -/
def mat {A B : ℕ} {e : EltTy} (arg : Memref sig .tc .vmem ⟨3, ![1, A, B]⟩ e) (h : arg.IsWhole) (X : Vec Ideal ⟨3, ![1, A, B]⟩ e)
    (inb : ∀ a, (![0, 0, 0] : Fin 3 → ℕ) a + (⟨3, ![1, A, B]⟩ : Shape).size a ≤ (⟨3, ![1, A, B]⟩ : Shape).size a) : Vec Ideal ⟨3, ![1, A, B]⟩ e :=
  arg.view.readAt (Elt Ideal) (Rect.unit (s := ⟨3, ![1, A, B]⟩) ![0, 0, 0] (⟨3, ![1, A, B]⟩ : Shape).size inb).toLoadRect (h.unread X)

theorem mat_eq {A B : ℕ} {e : EltTy} (arg : Memref sig .tc .vmem ⟨3, ![1, A, B]⟩ e) (h : arg.IsWhole) (X : Vec Ideal ⟨3, ![1, A, B]⟩ e) (inb) : mat arg h X inb = X := by
  funext z
  unfold mat
  rw [View.readAt_apply, h.read_unread]
  refine congrArg X (funext fun b => Fin.ext ?_)
  match b with
  | ⟨0, _⟩ => show 0 + 1 * (z 0).val = (z 0).val; omega
  | ⟨1, _⟩ => show 0 + 1 * (z 1).val = (z 1).val; omega
  | ⟨2, _⟩ => show 0 + 1 * (z 2).val = (z 2).val; omega

/-! ## Stores -/

/-- Lanes `128 q` and on, stored as tiles. -/
def tile (v : FVec Ideal S256x1024 .f32) (q : Fin 8) : View.Piece (Elt Ideal) S32x8x8x128 .f32 :=
  ⟨Rect.unit (s := S32x8x8x128) ![0, q.val, 0, 0] S32x1x8x128.size (inbq q),
    shapeCast S32x1x8x128 (shapeCast S32x8x128 (extractStridedSlice S256x128 ![0, 128 * q.val] v (slq q)) shapeCasts_S256x128_S32x8x128) shapeCasts_S32x8x128_S32x1x8x128⟩

/-- The block in tiles. -/
def L3 (v : FVec Ideal S256x1024 .f32) : List (View.Piece (Elt Ideal) S32x8x8x128 .f32) := List.map (tile v) [7, 6, 5, 4, 3, 2, 1, 0]

/-- The tiles of rows `H`. -/
def G3 (H : Fin 256 → Fin 1024 → EReal) : S32x8x8x128.Idx → EReal := fun y =>
  H ⟨(y 0).val * 8 + (y 2).val, by
    have h0 : (y 0).val < 32 := (y 0).isLt
    have h2 : (y 2).val < 8 := (y 2).isLt
    omega⟩ ⟨(y 1).val * 128 + (y 3).val, by
    have h1 : (y 1).val < 8 := (y 1).isLt
    have h3 : (y 3).val < 128 := (y 3).isLt
    omega⟩

theorem pieces3 {H : Fin 256 → Fin 1024 → EReal} {v : FVec Ideal S256x1024 .f32} (h : ∀ a k, v (ix2 a k) = H a k) : ∀ p ∈ L3 v, ∀ z, p.2 z = G3 H (p.1.emb z) := by
  intro p hp
  obtain ⟨q, -, rfl⟩ := List.mem_map.mp hp
  intro z
  change S32x1x8x128.Idx at z
  obtain ⟨p, u, s, l, rfl⟩ : ∃ p u s l, z = ix4 p u s l := ⟨_, _, _, _, eq_ix4 z⟩
  refine (tile_apply (128 * q.val) v (slq q) p u s l).trans ((h _ _).trans (congrArg₂ H (Fin.ext ?_) (Fin.ext ?_)))
  · show p.val * 8 + s.val = (0 + 1 * p.val) * 8 + (0 + 1 * s.val)
    omega
  · show 128 * q.val + l.val = (q.val + 1 * u.val) * 128 + (0 + 1 * l.val)
    omega

section Point

variable (c : Dev nD) (i : grid0.Coords) (arg2 : Memref sig .tc .vmem S32x8x8x128 .f32) (harg2 : arg2.IsWhole) (arg3 : Memref sig .tc .vmem S1x1024x512 .bf16) (harg3 : arg3.IsWhole)
  (arg4 : Memref sig .tc .vmem S1x256x1024 .bf16) (harg4 : arg4.IsWhole) (arg5 : Memref sig .tc .vmem S32x8x8x128 .f32) (harg5 : arg5.IsWhole)
  (x0 : Vec Ideal S32x8x8x128 .f32) (x1 : Vec Ideal S1x1024x512 .bf16) (x2 : Vec Ideal S1x256x1024 .bf16) (xt0 : TbBuf0 (F := Ideal) c tbM0_0)

/-- Row `a` of a block through the expert. -/
def yB (a : Fin 256) (k : Fin 1024) : EReal :=
  yR (fun k => x0 (ix4 ⟨a.val / 8, by omega⟩ ⟨k.val / 128, by omega⟩ ⟨a.val % 8, by omega⟩ ⟨k.val % 128, by omega⟩)) (fun i j => x1 (ix3 0 i ⟨0 + j.val, by omega⟩))
    (fun i j => x1 (ix3 0 i ⟨256 + j.val, by omega⟩)) (fun j k => x2 (ix3 0 j k)) k

/-- The same from what is loaded. -/
def yL : FVec Ideal S256x1024 .f32 :=
  k0_pay6 (F := Ideal) (rows arg2 harg2 x0) (mat arg3 harg3 x1 inb_S1x1024x512_S1x1024x512_0_0_0) (mat arg4 harg4 x2 inb_S1x256x1024_S1x256x1024_0_0_0)

theorem yL_apply (a : Fin 256) (k : Fin 1024) : yL arg2 harg2 arg3 harg3 arg4 harg4 x0 x1 x2 (ix2 a k) = yB x0 x1 x2 a k := by
  unfold yL yB
  rw [mat_eq, mat_eq, y_apply]
  simp only [rows_apply]

theorem run3 : (kernelRun0_A c i arg2 harg2 arg3 harg3 arg4 harg4 arg5 harg5 x0 x1 x2 xt0).1 = L3 (yL arg2 harg2 arg3 harg3 arg4 harg4 x0 x1 x2) := rfl

theorem out3 : out0_A_3 c i arg2 harg2 arg3 harg3 arg4 harg4 arg5 harg5 x0 x1 x2 xt0 = G3 (yB x0 x1 x2) := by
  funext y
  refine View.read_writes_apply_of_pieces (v := VO0_3) (f := VO0_3.junk) (G3 (yB x0 x1 x2)) _ ?_ y (cover0_A_3 c i arg2 harg2 arg3 harg3 arg4 harg4 arg5 harg5 x0 x1 x2 xt0 y)
  rw [run3]
  exact pieces3 (yL_apply arg2 harg2 arg3 harg3 arg4 harg4 x0 x1 x2)

end Point

end Cert.Proof.Moe.Blk

end
-- ==== Proof.MoeTable.lean ====
/- The table of experts under its precondition: every word of it names an expert, and so a block of weights inside the arrays. -/
module

public import proofs.«01_k».proof.Proof.MoeSpec
public import proofs.«01_k».proof.Proof.Gen.Kernel4.Frame
public import proofs.«01_k».proof.Proof.Gen.Kernel4Ideal.Frame
public import proofs.«01_k».proof.Proof.Gen.Pre_experts

@[expose] public section

set_option maxRecDepth 16384

noncomputable section

namespace Cert.Proof.Moe

open Idealize.ShloMosaic hiding ix1 eq_ix1 ix2 eq_ix2 ix3 eq_ix3 ix4 eq_ix4 ix5 eq_ix5
open Idealize.ShloMosaic.ValueIdx Idealize.ShloMosaic.TcCoe
open Cert.Proof.Inproj

/-- The precondition, read. -/
theorem named_of_pre {F : FTy → Type} [FloatOps F] {be : IVec Cert.Pre_experts.S288 32} {x : FVec F Cert.Pre_experts.S9216x8x8x128 .f32}
    {w1 w3 : FVec F Cert.Pre_experts.S32x1024x256 .f32} {w2 : FVec F Cert.Pre_experts.S32x256x1024 .f32}
    (h : Cert.Pre_experts.fn (F := F) be x w1 w3 w2 = fun _ => 1#1) : Named be := fun t => by
  have andi_one (a b : BitVec 1) : IntOp.andi a b = 1#1 ↔ a = 1#1 ∧ b = 1#1 := by revert a b; decide
  have ofBool_eq_one (p : Bool) : BitVec.ofBool p = 1#1 ↔ p = true := by cases p <;> decide
  have pre := congrFun h (ix1 t)
  simp only [Cert.Pre_experts.fn, constantI, broadcastInDim, cmpi, andi, andi_one] at pre
  generalize be (ix1 t) = w at pre ⊢
  simp only [ofBool_eq_one, IntOp.cmpi, BitVec.sle, BitVec.slt, decide_eq_true_eq, BitVec.toInt, BitVec.toNat_ofNat] at pre
  have hw := w.isLt
  omega

/-- One word of the table. -/
theorem word_at (be : IVec ⟨1, ![288]⟩ 32) (n : Fin 288) (inb : ∀ a, (![(BitVec.ofNat 32 n.val).toNat] : Fin 1 → ℕ) a + (⟨1, ![1]⟩ : Shape).size a ≤ (⟨1, ![288]⟩ : Shape).size a)
    (z : (⟨1, ![1]⟩ : Shape).Idx) : be ((Rect.unit (s := ⟨1, ![288]⟩) ![(BitVec.ofNat 32 n.val).toNat] (⟨1, ![1]⟩ : Shape).size inb).emb z) = be (ix1 n) := by
  refine congrArg be (funext fun a => Fin.ext ?_)
  obtain rfl : a = 0 := Subsingleton.elim _ _
  have hz : (z 0).val < 1 := (z 0).isLt
  have hn := n.isLt
  show (BitVec.ofNat 32 n.val).toNat + 1 * (z 0).val = n.val
  rw [BitVec.toNat_ofNat]
  omega

/-- A block of weights that a word below 32 names lies inside the array, in whole words. -/
theorem fits {A B v : ℕ} (hv : v < 32) {ix : Fin 3 → ℕ} (hix : ix = ![v, 0, 0]) :
    ∃ h : ∀ a, (ix a + 1) * (⟨3, ![1, A, B]⟩ : Shape).size a ≤ (⟨3, ![32, A, B]⟩ : Shape).size a,
      EltTy.bits .bf16 = 32 ∨ (Rect.block (s := ⟨3, ![32, A, B]⟩) (⟨3, ![1, A, B]⟩ : Shape).size ix h).WholeWords (EltTy.packing .bf16) := by
  subst hix
  refine ⟨fun a => ?_, .inr (.inr ⟨Nat.le_succ 2, rfl, Nat.zero_mul _, rfl⟩)⟩
  match a with
  | ⟨0, _⟩ => show (v + 1) * 1 ≤ 32; omega
  | ⟨1, _⟩ => show (0 + 1) * A ≤ A; omega
  | ⟨2, _⟩ => show (0 + 1) * B ≤ B; omega

section Bits

open Cert.Kernel4 Cert.Kernel4.Gen

theorem ok_bits (m : (ℓ : Loc nD τ sig) → Buf (Elt Bits) ℓ) (h : Named (m (((0 : Dev nD) : Thread nD τ).loc main_arg0))) : Ok m := by
  have word (i : grid0.Coords) (z : S1.Idx) : tbl m 0 ((Rect.unit (s := S288) (k0_off1 i) S1.size (k0_off1_inb i)).emb z) = m (((0 : Dev nD) : Thread nD τ).loc main_arg0) (ix1 (i 0)) :=
    (congrFun (V_main_arg0 m 0) _).trans (word_at _ (i 0) _ z)
  exact ⟨fun i => fits (A := 1024) (B := 512) (h (i 0)) (congrArg (fun w : BitVec 32 => ![w.toNat, 0, 0]) (word i _)),
    fun i => fits (A := 256) (B := 1024) (h (i 0)) (congrArg (fun w : BitVec 32 => ![w.toNat, 0, 0]) (word i _))⟩

end Bits

section Values

open Cert.Kernel4Ideal Cert.Kernel4Ideal.Gen

variable (m : (ℓ : Loc nD τ sig) → Buf (Elt Ideal) ℓ)

theorem word_eq (i : grid0.Coords) (z : S1.Idx) :
    tbl m 0 ((Rect.unit (s := S288) (k0_off1 i) S1.size (k0_off1_inb i)).emb z) = m (((0 : Dev nD) : Thread nD τ).loc main_arg0) (ix1 (i 0)) :=
  (congrFun (V_main_arg0 m 0) _).trans (word_at _ (i 0) _ z)

/-- The blocks of weights that a grid point reads. -/
theorem index1 (i : grid0.Coords) : cc0_transform_1 k0_off1_inb numel1_S1 (tbl m) i = ![(m (((0 : Dev nD) : Thread nD τ).loc main_arg0) (ix1 (i 0))).toNat, 0, 0] :=
  congrArg (fun w : BitVec 32 => ![w.toNat, 0, 0]) (word_eq m i _)
theorem index2 (i : grid0.Coords) : cc0_transform_2 k0_off1_inb numel1_S1 (tbl m) i = ![(m (((0 : Dev nD) : Thread nD τ).loc main_arg0) (ix1 (i 0))).toNat, 0, 0] :=
  congrArg (fun w : BitVec 32 => ![w.toNat, 0, 0]) (word_eq m i _)

theorem ok_ideal (h : Named (m (((0 : Dev nD) : Thread nD τ).loc main_arg0))) : Ok m :=
  ⟨fun i => fits (A := 1024) (B := 512) (h (i 0)) (index1 m i), fun i => fits (A := 256) (B := 1024) (h (i 0)) (index2 m i)⟩

end Values

end Cert.Proof.Moe

end
-- ==== Proof.MoeValue.lean ====
/- The array that the experts' kernel leaves is the specification's function of the arguments. -/
module

public import proofs.«01_k».proof.Proof.MoeBlock
public import proofs.«01_k».proof.Proof.MoeTable
public import proofs.«01_k».proof.Proof.InprojValue
public import Idealize.ShloMosaic.Lib.Pipeline.Covers

@[expose] public section

set_option maxRecDepth 16384

noncomputable section

namespace Cert.Proof.Moe.Blk

open Idealize.ShloMosaic hiding ix1 eq_ix1 ix2 eq_ix2 ix3 eq_ix3 ix4 eq_ix4 ix5 eq_ix5
open Idealize.ShloMosaic.ValueIdx Idealize.ShloMosaic.TcCoe
open Cert.Kernel4Ideal Cert.Kernel4Ideal.Gen
open Cert.Proof.Inproj Cert.Proof.Moe
open Cert.Proof.Inproj.Blk (read_at)

/-- The two weights side by side. -/
theorem pair_left (w1 w3 : FVec Ideal S32x1024x256 .f32) (e : Fin 32) (i : Fin 1024) (j : Fin 256) :
    concatenate S32x1024x512 2 [⟨S32x1024x256, w1⟩, ⟨S32x1024x256, w3⟩] concatenates_S32x1024x256_S32x1024x256_S32x1024x512_d2 (ix3 e i ⟨0 + j.val, by omega⟩) = w1 (ix3 e i j) :=
  concatenate_pair_apply_left (t := S32x1024x512) (s₁ := S32x1024x256) (2 : Fin 3) w1 w3 _ (ix3 e i ⟨0 + j.val, by omega⟩) rfl (ix3 e i j) (fun b => by
    match b with
    | ⟨0, _⟩ => rfl
    | ⟨1, _⟩ => rfl
    | ⟨2, _⟩ => exact (Nat.zero_add j.val).symm)

theorem pair_right (w1 w3 : FVec Ideal S32x1024x256 .f32) (e : Fin 32) (i : Fin 1024) (j : Fin 256) :
    concatenate S32x1024x512 2 [⟨S32x1024x256, w1⟩, ⟨S32x1024x256, w3⟩] concatenates_S32x1024x256_S32x1024x256_S32x1024x512_d2 (ix3 e i ⟨256 + j.val, by omega⟩) = w3 (ix3 e i j) :=
  concatenate_pair_apply_right (t := S32x1024x512) (s₁ := S32x1024x256) (2 : Fin 3) w1 w3 _ (ix3 e i ⟨256 + j.val, by omega⟩) rfl rfl (ix3 e i j) (fun b hb => by
    match b with
    | ⟨0, _⟩ => rfl
    | ⟨1, _⟩ => rfl
    | ⟨2, _⟩ => exact absurd rfl hb) (Nat.add_comm j.val 256)

theorem index0 : ∀ t : Fin grid0.N, cc0_transform_0 (grid0.coords t) = ![t.val, 0, 0, 0] := by decide +kernel
theorem index3 : ∀ t : Fin grid0.N, cc0_transform_3 (grid0.coords t) = ![t.val, 0, 0, 0] := by decide +kernel
theorem coords0 : ∀ t : Fin grid0.N, (grid0.coords t (0 : Fin 1)).val = t.val := by decide +kernel

section Run

variable (m : (ℓ : Loc nD τ sig) → Buf (Elt Ideal) ℓ) (hO : Ok m) (c : Dev nD)

/-- The arguments. -/
def argsK : Args where
  be := m ((c : Thread nD τ).loc main_arg0)
  x := m ((c : Thread nD τ).loc main_arg1)
  w1 := m ((c : Thread nD τ).loc main_arg2)
  w3 := m ((c : Thread nD τ).loc main_arg3)
  w2 := m ((c : Thread nD τ).loc main_arg4)

theorem entry1 : V m c main_v1 = concatenate S32x1024x512 2 [⟨S32x1024x256, (argsK m c).w1⟩, ⟨S32x1024x256, (argsK m c).w3⟩]
    concatenates_S32x1024x256_S32x1024x256_S32x1024x512_d2 := by entry_read; rfl
theorem entry2 : V m c main_v2 = (argsK m c).w2 := by entry_read; rfl

variable (hN : Named (argsK m c).be) (t : Fin (cfgM m hO).N)

/-- The point as a block's number. -/
def tb : Fin 288 := ⟨t.val, t.isLt.trans_eq N_0⟩

theorem word_of : (m (((0 : Dev nD) : Thread nD τ).loc main_arg0) (ix1 (grid0.coords t 0))).toNat = ((argsK m c).be (ix1 (tb m hO t))).toNat := by
  obtain rfl : c = 0 := Subsingleton.elim _ _
  exact congrArg (fun n : Fin 288 => (m (((0 : Dev nD) : Thread nD τ).loc main_arg0) (ix1 n)).toNat) (Fin.ext (coords0 t))

include hN

theorem word_ex : (m (((0 : Dev nD) : Thread nD τ).loc main_arg0) (ix1 (grid0.coords t 0))).toNat = (ex (argsK m c) (tb m hO t)).val :=
  (word_of m hO c t).trans (Nat.mod_eq_of_lt (hN _)).symm

omit hN in
theorem read0 (p : Fin 32) (q s : Fin 8) (l : Fin 128) : iblk m hO c 0 t (ix4 p q s l) = (argsK m c).x (ix4 ⟨t.val * 32 + p.val, by
    have ht := t.isLt.trans_eq N_0
    omega⟩ q s l) := by
  have ht := t.isLt.trans_eq N_0
  refine read_at (e := (((cfgM m hO).win 0).blk t).view.emb) (V_main_arg1 m c) (y := ix4 ⟨t.val * 32 + p.val, by omega⟩ q s l) (funext fun a => Fin.ext ?_) rfl
  have hi := index0 t
  match a with
  | ⟨0, _⟩ =>
    show cc0_transform_0 (grid0.coords t) 0 * 32 + 1 * p.val = t.val * 32 + p.val
    rw [hi]; show t.val * 32 + 1 * p.val = _; omega
  | ⟨1, _⟩ =>
    show cc0_transform_0 (grid0.coords t) 1 * 8 + 1 * q.val = q.val
    rw [hi]; show 0 * 8 + 1 * q.val = _; omega
  | ⟨2, _⟩ =>
    show cc0_transform_0 (grid0.coords t) 2 * 8 + 1 * s.val = s.val
    rw [hi]; show 0 * 8 + 1 * s.val = _; omega
  | ⟨3, _⟩ =>
    show cc0_transform_0 (grid0.coords t) 3 * 128 + 1 * l.val = l.val
    rw [hi]; show 0 * 128 + 1 * l.val = _; omega

/-- The block of weights at a point lies in the expert's part of the array. -/
theorem emb1 (i : Fin 1024) (j : Fin 512) : (((cfgM m hO).win 1).blk t).view.emb (ix3 0 i j) = ix3 (ex (argsK m c) (tb m hO t)) i j := by
  have hi := (index1 m (grid0.coords t)).trans (congrArg (fun n : ℕ => ![n, 0, 0]) (word_ex m hO c hN t))
  refine funext fun a => Fin.ext ?_
  match a with
  | ⟨0, _⟩ =>
    show cc0_transform_1 k0_off1_inb numel1_S1 (tbl m) (grid0.coords t) 0 * 1 + 1 * 0 = (ex (argsK m c) (tb m hO t)).val
    rw [hi]; show (ex (argsK m c) (tb m hO t)).val * 1 + 1 * 0 = _; omega
  | ⟨1, _⟩ =>
    show cc0_transform_1 k0_off1_inb numel1_S1 (tbl m) (grid0.coords t) 1 * 1024 + 1 * i.val = i.val
    rw [hi]; show 0 * 1024 + 1 * i.val = _; omega
  | ⟨2, _⟩ =>
    show cc0_transform_1 k0_off1_inb numel1_S1 (tbl m) (grid0.coords t) 2 * 512 + 1 * j.val = j.val
    rw [hi]; show 0 * 512 + 1 * j.val = _; omega

theorem emb2 (j : Fin 256) (k : Fin 1024) : (((cfgM m hO).win 2).blk t).view.emb (ix3 0 j k) = ix3 (ex (argsK m c) (tb m hO t)) j k := by
  have hi := (index2 m (grid0.coords t)).trans (congrArg (fun n : ℕ => ![n, 0, 0]) (word_ex m hO c hN t))
  refine funext fun a => Fin.ext ?_
  match a with
  | ⟨0, _⟩ =>
    show cc0_transform_2 k0_off1_inb numel1_S1 (tbl m) (grid0.coords t) 0 * 1 + 1 * 0 = (ex (argsK m c) (tb m hO t)).val
    rw [hi]; show (ex (argsK m c) (tb m hO t)).val * 1 + 1 * 0 = _; omega
  | ⟨1, _⟩ =>
    show cc0_transform_2 k0_off1_inb numel1_S1 (tbl m) (grid0.coords t) 1 * 256 + 1 * j.val = j.val
    rw [hi]; show 0 * 256 + 1 * j.val = _; omega
  | ⟨2, _⟩ =>
    show cc0_transform_2 k0_off1_inb numel1_S1 (tbl m) (grid0.coords t) 2 * 1024 + 1 * k.val = k.val
    rw [hi]; show 0 * 1024 + 1 * k.val = _; omega

theorem read1_left (i : Fin 1024) (j : Fin 256) : iblk m hO c 1 t (ix3 0 i ⟨0 + j.val, by omega⟩) = (argsK m c).w1 (ix3 (ex (argsK m c) (tb m hO t)) i j) :=
  read_at (e := (((cfgM m hO).win 1).blk t).view.emb) (entry1 m c) (emb1 m hO c hN t i _) (pair_left _ _ _ i j)

theorem read1_right (i : Fin 1024) (j : Fin 256) : iblk m hO c 1 t (ix3 0 i ⟨256 + j.val, by omega⟩) = (argsK m c).w3 (ix3 (ex (argsK m c) (tb m hO t)) i j) :=
  read_at (e := (((cfgM m hO).win 1).blk t).view.emb) (entry1 m c) (emb1 m hO c hN t i _) (pair_right _ _ _ i j)

theorem read2 (j : Fin 256) (k : Fin 1024) : iblk m hO c 2 t (ix3 0 j k) = (argsK m c).w2 (ix3 (ex (argsK m c) (tb m hO t)) j k) :=
  read_at (e := (((cfgM m hO).win 2).blk t).view.emb) (entry2 m c) (emb2 m hO c hN t j k) rfl

theorem yB_eq (a : Fin 256) (k : Fin 1024) : yB (iblk m hO c 0 t) (iblk m hO c 1 t) (iblk m hO c 2 t) a k = yS (argsK m c) (tb m hO t) a k := by
  unfold yB yS
  simp only [read0 m hO c t, read1_left m hO c hN t, read1_right m hO c hN t, read2 m hO c hN t]
  rfl

theorem key3 : G3 (yB (iblk m hO c 0 t) (iblk m hO c 1 t) (iblk m hO c 2 t)) = fun z => yA (argsK m c) ((((cfgM m hO).win 3).blk t).view.emb z) := by
  funext z
  have hi := index3 t
  have e0 : ((((cfgM m hO).win 3).blk t).view.emb z (0 : Fin 4)).val = cc0_transform_3 (grid0.coords t) (0 : Fin 4) * 32 + 1 * (z 0).val := rfl
  have e1 : ((((cfgM m hO).win 3).blk t).view.emb z (1 : Fin 4)).val = cc0_transform_3 (grid0.coords t) (1 : Fin 4) * 8 + 1 * (z 1).val := rfl
  have e2 : ((((cfgM m hO).win 3).blk t).view.emb z (2 : Fin 4)).val = cc0_transform_3 (grid0.coords t) (2 : Fin 4) * 8 + 1 * (z 2).val := rfl
  have e3 : ((((cfgM m hO).win 3).blk t).view.emb z (3 : Fin 4)).val = cc0_transform_3 (grid0.coords t) (3 : Fin 4) * 128 + 1 * (z 3).val := rfl
  rw [hi] at e0 e1 e2 e3
  have h0 : (z 0).val < 32 := (z 0).isLt
  refine (yB_eq m hO c hN t _ _).trans (yA_at (argsK m c) _ _ _ _ ?_ ?_ ?_).symm
  · refine (congrArg (· / 32) e0).trans ?_
    show (t.val * 32 + 1 * (z 0).val) / 32 = t.val
    omega
  · refine (congrArg₂ (fun a b => a % 32 * 8 + b) e0 e2).trans ?_
    show (t.val * 32 + 1 * (z 0).val) % 32 * 8 + (0 * 8 + 1 * (z 2).val) = (z 0).val * 8 + (z 2).val
    omega
  · refine (congrArg₂ (fun a b => a * 128 + b) e1 e3).trans ?_
    show (0 * 8 + 1 * (z 1).val) * 128 + (0 * 128 + 1 * (z 3).val) = (z 1).val * 128 + (z 3).val
    omega

theorem flush3 : (dats m hO 0 c).flushed 3 t = fun z => yA (argsK m c) ((((cfgM m hO).win 3).blk t).view.emb z) := by
  refine Eq.trans ?_ (key3 m hO c hN t)
  exact congrArg (((cfgM m hO).win 3).cut (grid0.coords t)) ((after0_3 m hO c t).trans (out3 ..))

omit hN in
theorem covers3 : ((cfgM m hO).win 3).Covers := by
  refine Pipeline.Window.covers_of_indexMap_surj _ rfl (by decide : ∀ a : Fin 4, 0 < S32x8x8x128.size a) fun β => ?_
  have n0 : ((cfgM m hO).win 3).nblk (0 : Fin 4) = 288 := (by decide : (S9216x8x8x128.size 0 + S32x8x8x128.size 0 - 1) / S32x8x8x128.size 0 = 288)
  have n1 : ((cfgM m hO).win 3).nblk (1 : Fin 4) = 1 := (by decide : (S9216x8x8x128.size 1 + S32x8x8x128.size 1 - 1) / S32x8x8x128.size 1 = 1)
  have n2 : ((cfgM m hO).win 3).nblk (2 : Fin 4) = 1 := (by decide : (S9216x8x8x128.size 2 + S32x8x8x128.size 2 - 1) / S32x8x8x128.size 2 = 1)
  have n3 : ((cfgM m hO).win 3).nblk (3 : Fin 4) = 1 := (by decide : (S9216x8x8x128.size 3 + S32x8x8x128.size 3 - 1) / S32x8x8x128.size 3 = 1)
  have h0 : (β (0 : Fin 4)).val < 288 := (β (0 : Fin 4)).isLt.trans_eq n0
  refine ⟨fun a => ⟨(β (0 : Fin 4)).val, ?_⟩, fun a => ?_⟩
  · obtain rfl : a = (0 : Fin 1) := Subsingleton.elim (α := Fin 1) _ _
    exact h0
  · match a with
    | ⟨0, _⟩ =>
      show (BitVec.ofNat 32 (β (0 : Fin 4)).val).toNat = (β (0 : Fin 4)).val
      rw [BitVec.toNat_ofNat]
      omega
    | ⟨1, _⟩ => exact (Nat.lt_one_iff.mp ((β (1 : Fin 4)).isLt.trans_eq n1)).symm
    | ⟨2, _⟩ => exact (Nat.lt_one_iff.mp ((β (2 : Fin 4)).isLt.trans_eq n2)).symm
    | ⟨3, _⟩ => exact (Nat.lt_one_iff.mp ((β (3 : Fin 4)).isLt.trans_eq n3)).symm

omit t in
theorem final3 : (dats m hO 0 c).arrAt 3 (cfgM m hO).N = yA (argsK m c) :=
  (dats m hO 0 c).arrAt_eq_of_cover 3 (yA (argsK m c)) (fun t _ => flush3 m hO c hN t) ((covers3 m hO).cover _ (Memref.isWhole_whole _))

omit hN c hO in
/-- The run: the result is the experts' array, the arguments are kept. -/
theorem run_eq (ρ : Dev nD → PrngReg) (hN : ∀ c, Named (argsK m c).be) :
    θ_run defs (onTc (τ := τ) (main (F := Ideal))) ⟨m, fun _ => 0, ρ⟩ fun r => ∀ c : Dev nD,
      r.2.mem ((c.tc : Thread nD τ).loc main_v3) = yA (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have hO := ok_ideal m (hN 0)
  (θ_run defs _ _).mono (fun _ h c => ⟨((h c).1 3).trans (final3 m hO c (hN c)),
    ((h c).2 main_arg0 (by decide : main_arg0 ∈ Pipeline.restRefs sig spec0)).trans (V_main_arg0 m c),
    ((h c).1 0).trans (((dats m hO 0 c).arrAt_in 0 rfl _).trans ((A_eq m hO c 0).trans (V_main_arg1 m c))),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c)⟩) (run_main m ρ hO)

end Run

end Cert.Proof.Moe.Blk

end
-- ==== Proof.lean ====
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_experts
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Pre_finite
public import Idealize.ShloMosaic.Adequacy
public import proofs.«01_k».proof.Proof.RefValue
public import proofs.«01_k».proof.Proof.Finite
public import Idealize.ShloMosaic.Lib.Quiescent
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.InprojRef
public import proofs.«01_k».proof.Proof.InprojValue
public import proofs.«01_k».proof.Proof.MergeRef
public import proofs.«01_k».proof.Proof.MergeValue
public import proofs.«01_k».proof.Proof.MoeRef
public import proofs.«01_k».proof.Proof.MoeValue

@[expose] public section

noncomputable section

namespace Cert.Proof

open Idealize.ShloMosaic Idealize.SL.Sem

/-- The reference has no semaphore, so its counters read zero. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

open Cert.Proof.Chunk in
/-- From finite arguments the kernel and the reference leave the same array. -/
theorem algebraic_chunk : Cert.algebraic_KernelIdeal_ReferenceIdeal_pre_finite := by
  intro m g m' g' hp hm
  have hc (c : Dev Cert.KernelIdeal.nD) := finite_args _ _ _ _ _ _ (hp c)
  refine ⟨fun c => final (realOf (m (c.tc.loc Cert.KernelIdeal.main_arg0))) (realOf (m (c.tc.loc Cert.KernelIdeal.main_arg1)))
    (realOf (m (c.tc.loc Cert.KernelIdeal.main_arg2))) (realOf (m (c.tc.loc Cert.KernelIdeal.main_arg3)))
    (realOf (m (c.tc.loc Cert.KernelIdeal.main_arg4))) (realOf (m (c.tc.loc Cert.KernelIdeal.main_arg5))), ?_, ?_⟩
  · refine (θ_run Cert.KernelIdeal.defs _ _).mono (fun r h c => ⟨(h c).1.trans ?_, (h c).2⟩) (Cert.KernelIdeal.Value.run_blocks m g)
    obtain ⟨h0, h1, h2, h3, h4, h5⟩ := hc c
    exact final_eq m c _ _ _ _ _ _ h0 h1 h2 h3 h4 h5
  · refine (θ_run Cert.ReferenceIdeal.defs _ _).mono (fun r h c => ⟨(h c).1.trans ?_, (h c).2⟩) (Cert.ReferenceIdeal.Value.run m' g')
    obtain ⟨h0, h1, h2, h3, h4, h5⟩ := hc c
    obtain ⟨e0, e1, e2, e3, e4, e5⟩ := hm c
    exact Ref.out_eq_final m' c _ _ _ _ _ _ (e0.trans h0) (e1.trans h1) (e2.trans h2) (e3.trans h3) (e4.trans h4) (e5.trans h5)

/-- The projection's reference has no semaphore either. -/
theorem reference2_frame : Cert.quiescent_Reference2Ideal := fun m g _ =>
  (θ_run Cert.Reference2Ideal.defs _ _).mono
    (fun r h => ⟨fun c => (h c).2.2.2.2.2.2.2.2.2.2.2, sem_eq_zero_of_no_sems (by decide) r.2⟩) (Cert.Reference2Ideal.Value.run m g)

/-- One function of equal arguments. -/
theorem same {X P G W α : Type} (f : X → P → G → W → α) {x x' : X} {p p' : P} {g g' : G} {w w' : W} (hx : x' = x) (hp : p' = p) (hg : g' = g) (hw : w' = w) :
    f x' p' g' w' = f x p g w := by rw [hx, hp, hg, hw]

open Cert.Proof.Inproj Cert.Proof.Inproj.Blk in
/-- The projection kernel and its reference leave the same eleven arrays, whatever the arguments. -/
theorem algebraic_inproj : Cert.algebraic_Kernel2Ideal_Reference2Ideal := by
  intro m g m' g' _ hm
  refine ⟨fun c => arr (a := 32768) (b := 1024) (qS (kx m c) (kp m c) (kg m c) (kw m c)),
    fun c => arr (a := 32768) (b := 128) (kcS (kx m c) (kp m c) (kg m c) (kw m c)),
    fun c => arr (a := 32768) (b := 256) (kslS (kx m c) (kp m c) (kg m c) (kw m c)),
    fun c => arr (a := 32768) (b := 256) (kwnS (kx m c) (kp m c) (kg m c) (kw m c)),
    fun c => arr (a := 32768) (b := 128) (vcS (kx m c) (kg m c) (kw m c)),
    fun c => arr (a := 32768) (b := 256) (vslS (kx m c) (kg m c) (kw m c)),
    fun c => arr (a := 32768) (b := 256) (vwnS (kx m c) (kg m c) (kw m c)),
    fun c => arr (a := 32768) (b := 128) (ngS (kx m c) (kg m c) (kw m c)),
    fun c => arr (a := 32768) (b := 1792) (prwS (kx m c) (kg m c) (kw m c)),
    fun c => arr (a := 32768) (b := 1024) (gaS (kx m c) (kg m c) (kw m c)),
    fun c => arr (a := 32768) (b := 1024) (gbS (kx m c) (kg m c) (kw m c)), ?_, ?_⟩
  · refine (θ_run Cert.Kernel2Ideal.defs _ _).mono (fun r h c => ?_) (Cert.Kernel2Ideal.Value.run_blocks m g)
    obtain ⟨h0, h1, h2, h3, h4, h5, h6, h7, h8, h9, h10, kept⟩ := h c
    exact ⟨h0.trans (final9 m c), h1.trans (final10 m c), h2.trans (final11 m c), h3.trans (final12 m c), h4.trans (final13 m c), h5.trans (final14 m c), h6.trans (final15 m c), h7.trans (final16 m c), h8.trans (final17 m c), h9.trans (final18 m c), h10.trans (final19 m c), kept⟩
  · refine (θ_run Cert.Reference2Ideal.defs _ _).mono (fun r h c => ?_) (Cert.Reference2Ideal.Value.run m' g')
    obtain ⟨h0, h1, h2, h3, h4, h5, h6, h7, h8, h9, h10, kept⟩ := h c
    obtain ⟨e0, e1, e2, e3⟩ := hm c
    exact ⟨h0.trans ((Ref.res0 m' c).trans (same (fun x p g w => arr (qS x p g w)) e0 e1 e2 e3)),
      h1.trans ((Ref.res1 m' c).trans (same (fun x p g w => arr (kcS x p g w)) e0 e1 e2 e3)),
      h2.trans ((Ref.res2 m' c).trans (same (fun x p g w => arr (kslS x p g w)) e0 e1 e2 e3)),
      h3.trans ((Ref.res3 m' c).trans (same (fun x p g w => arr (kwnS x p g w)) e0 e1 e2 e3)),
      h4.trans ((Ref.rows_eq _ _ _ 640 _ _ (by decide)).trans (same (fun x _ g w => arr (vcS x g w)) e0 e1 e2 e3)),
      h5.trans ((Ref.vsl_eq _ _ _).trans (same (fun x _ g w => arr (vslS x g w)) e0 e1 e2 e3)),
      h6.trans ((Ref.vwn_eq _ _ _).trans (same (fun x _ g w => arr (vwnS x g w)) e0 e1 e2 e3)),
      h7.trans ((Ref.ng_eq _ _ _).trans (same (fun x _ g w => arr (ngS x g w)) e0 e1 e2 e3)),
      h8.trans ((Ref.rows_eq _ _ _ 1304 _ _ (by decide)).trans (same (fun x _ g w => arr (prwS x g w)) e0 e1 e2 e3)),
      h9.trans ((Ref.rows_eq _ _ _ 3096 _ _ (by decide)).trans (same (fun x _ g w => arr (gaS x g w)) e0 e1 e2 e3)),
      h10.trans ((Ref.rows_eq _ _ _ 4120 _ _ (by decide)).trans (same (fun x _ g w => arr (gbS x g w)) e0 e1 e2 e3)), kept⟩

/-- The merge's reference has no semaphore either. -/
theorem reference3_frame : Cert.quiescent_Reference3Ideal := fun m g _ =>
  (θ_run Cert.Reference3Ideal.defs _ _).mono
    (fun r h => ⟨fun c => (h c).2.2, sem_eq_zero_of_no_sems (by decide) r.2⟩) (Cert.Reference3Ideal.Value.run m g)

open Cert.Proof.Merge Cert.Proof.Merge.Blk in
/-- The merge kernel and its reference leave the same stream and the same normed rows, whatever the arguments. -/
theorem algebraic_merge : Cert.algebraic_Kernel3Ideal_Reference3Ideal := by
  intro m g m' g' _ hm
  refine ⟨fun c => x1A (argsK m c), fun c => h2A (argsK m c), ?_, ?_⟩
  · refine (θ_run Cert.Kernel3Ideal.defs _ _).mono (fun r h c => ?_) (Cert.Kernel3Ideal.Value.run_blocks m g)
    obtain ⟨h0, h1, _, _, kept⟩ := h c
    exact ⟨h0.trans (final15 m c), h1.trans (final16 m c), kept⟩
  · refine (θ_run Cert.Reference3Ideal.defs _ _).mono (fun r h c => ?_) (Cert.Reference3Ideal.Value.run m' g')
    obtain ⟨h0, h1, kept⟩ := h c
    have e : Ref.argsR m' c = argsK m c := by
      obtain ⟨e0, e1, e2, e3, e4, e5, e6, e7, e8, e9, e10, e11, e12, -⟩ := hm c
      unfold Ref.argsR argsK
      congr 1
    exact ⟨h0.trans ((Ref.x1T_eq (Ref.argsR m' c)).trans (congrArg x1A e)), h1.trans ((Ref.res1 m' c).trans (congrArg h2A e)), kept⟩

/-- The experts' reference has no semaphore either. -/
theorem reference4_frame : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

/-- The experts' kernel and its reference leave the same rows, whenever the table names experts. -/
theorem algebraic_moe : Cert.algebraic_Kernel4Ideal_Reference4Ideal := by
  intro m g m' g' hp hm
  have hN (c) : Moe.Named (Moe.Blk.argsK m c).be := Moe.named_of_pre (hp c)
  have e (c) : Moe.Ref.argsR m' c = Moe.Blk.argsK m c := by
    obtain ⟨e0, e1, e2, e3, e4⟩ := hm c
    unfold Moe.Ref.argsR Moe.Blk.argsK
    congr 1
  refine ⟨fun c => Moe.yA (Moe.Blk.argsK m c), Moe.Blk.run_eq m g hN, ?_⟩
  refine (θ_run Cert.Reference4Ideal.defs _ _).mono (fun r h c => ?_) (Moe.Ref.run_eq m' g' fun c => (e c).symm ▸ hN c)
  exact ⟨(h c).1.trans (congrArg Moe.yA (e c)), (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_experts.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g h => Cert.Kernel4.Gen.frame m g (Moe.ok_bits m (Moe.named_of_pre (h 0))),
  fun m g h => Cert.Kernel4Ideal.Gen.frame m g (Moe.ok_ideal m (Moe.named_of_pre (h 0))), reference4_frame, fun m g _ => reference4_frame m g trivial,
  trivial, algebraic_chunk, trivial, algebraic_inproj, trivial, algebraic_merge, trivial, algebraic_moe⟩

end Cert.Proof

end
